-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_all_finite [hPre_all_finite : Cert.Pre_all_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_all_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_all_finite [hPre_all_finite : Cert.Pre_all_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_all_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_all_finite [hKernel5Ideal : Cert.Kernel5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_all_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_all_finite [hReference5Ideal : Cert.Reference5Ideal.Facts] [hPre_all_finite : Cert.Pre_all_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_all_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v292)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v292) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)) (v3 : (c : Dev Cert.Kernel2Ideal.nD) → Buf (Elt Ideal) ((c.tc : Thread Cert.Kernel2Ideal.nD Cert.Kernel2Ideal.τ).loc Cert.Kernel2Ideal.main_v2_3)) (v4 : (c : Dev Cert.Kernel2Ideal.nD) → Buf (Elt Ideal) ((c.tc : Thread Cert.Kernel2Ideal.nD Cert.Kernel2Ideal.τ).loc Cert.Kernel2Ideal.main_v2_4)) (v5 : (c : Dev Cert.Kernel2Ideal.nD) → Buf (Elt Ideal) ((c.tc : Thread Cert.Kernel2Ideal.nD Cert.Kernel2Ideal.τ).loc Cert.Kernel2Ideal.main_v2_5)) (v6 : (c : Dev Cert.Kernel2Ideal.nD) → Buf (Elt Ideal) ((c.tc : Thread Cert.Kernel2Ideal.nD Cert.Kernel2Ideal.τ).loc Cert.Kernel2Ideal.main_v2_6)) (v7 : (c : Dev Cert.Kernel2Ideal.nD) → Buf (Elt Ideal) ((c.tc : Thread Cert.Kernel2Ideal.nD Cert.Kernel2Ideal.τ).loc Cert.Kernel2Ideal.main_v2_7)) (v8 : (c : Dev Cert.Kernel2Ideal.nD) → Buf (Elt Ideal) ((c.tc : Thread Cert.Kernel2Ideal.nD Cert.Kernel2Ideal.τ).loc Cert.Kernel2Ideal.main_v2_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_v2_2) = v2 c
          ∧ r.2.mem ((c.tc : Thread Cert.Kernel2Ideal.nD Cert.Kernel2Ideal.τ).loc Cert.Kernel2Ideal.main_v2_3) = v3 c
          ∧ r.2.mem ((c.tc : Thread Cert.Kernel2Ideal.nD Cert.Kernel2Ideal.τ).loc Cert.Kernel2Ideal.main_v2_4) = v4 c
          ∧ r.2.mem ((c.tc : Thread Cert.Kernel2Ideal.nD Cert.Kernel2Ideal.τ).loc Cert.Kernel2Ideal.main_v2_5) = v5 c
          ∧ r.2.mem ((c.tc : Thread Cert.Kernel2Ideal.nD Cert.Kernel2Ideal.τ).loc Cert.Kernel2Ideal.main_v2_6) = v6 c
          ∧ r.2.mem ((c.tc : Thread Cert.Kernel2Ideal.nD Cert.Kernel2Ideal.τ).loc Cert.Kernel2Ideal.main_v2_7) = v7 c
          ∧ r.2.mem ((c.tc : Thread Cert.Kernel2Ideal.nD Cert.Kernel2Ideal.τ).loc Cert.Kernel2Ideal.main_v2_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v26) = v5 c
          ∧ r.2.mem ((c.tc : Thread Cert.Reference2Ideal.nD Cert.Reference2Ideal.τ).loc Cert.Reference2Ideal.main_v27) = v6 c
          ∧ r.2.mem ((c.tc : Thread Cert.Reference2Ideal.nD Cert.Reference2Ideal.τ).loc Cert.Reference2Ideal.main_v28) = v7 c
          ∧ r.2.mem ((c.tc : Thread Cert.Reference2Ideal.nD Cert.Reference2Ideal.τ).loc Cert.Reference2Ideal.main_v22) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v31)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v135) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_all_finite [hKernel5Ideal : Cert.Kernel5Ideal.Facts] [hReference5Ideal : Cert.Reference5Ideal.Facts] [hPre_all_finite : Cert.Pre_all_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_all_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v9) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v67) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_all_finite : Cert.Pre_all_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_all_finite (hKernel5Ideal := hKernel5Ideal) (hPre_all_finite := hPre_all_finite)
    ∧ quiescent_Reference5Ideal (hReference5Ideal := hReference5Ideal)
    ∧ quiescent_Reference5Ideal_pre_all_finite (hReference5Ideal := hReference5Ideal) (hPre_all_finite := hPre_all_finite)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_all_finite (hKernel5Ideal := hKernel5Ideal) (hReference5Ideal := hReference5Ideal) (hPre_all_finite := hPre_all_finite)
-- ==== Pre_all_finite.lean ====
abbrev S2x4 : Shape := ⟨2, ![2, 4]⟩
abbrev S16384x256 : Shape := ⟨2, ![16384, 256]⟩
abbrev S16384x512 : Shape := ⟨2, ![16384, 512]⟩
abbrev S4096x32 : Shape := ⟨2, ![4096, 32]⟩
abbrev S_ : Shape := ⟨0, ![]⟩

class Facts : Prop where
  bcast_S_S2x4 : S_.BroadcastsInDim S2x4 (![] : Fin 0 → Fin S2x4.rank)
  bcast_S_S16384x256 : S_.BroadcastsInDim S16384x256 (![] : Fin 0 → Fin S16384x256.rank)
  bitsLt_bf16_f32 : FTy.bits .bf16 < FTy.bits .f32
  bcast_S_S16384x512 : S_.BroadcastsInDim S16384x512 (![] : Fin 0 → Fin S16384x512.rank)
  bcast_S_S4096x32 : S_.BroadcastsInDim S4096x32 (![] : Fin 0 → Fin S4096x32.rank)

variable [Facts]

def fn_part1 {F : FTy → Type} [FloatOps F] (main_v2 : IVec S2x4 1) (main_v5 : IVec S16384x256 1) (main_v8 : IVec S16384x256 1) (main_v12 : IVec S16384x512 1) (main_v15 : IVec S4096x32 1) (main_v16 : FVec F S4096x32 .f32) (main_v17 : FVec F S4096x32 .f32) : IVec S2x4 1 × IVec S16384x256 1 × IVec S16384x256 1 × IVec S16384x512 1 × IVec S4096x32 1 × IVec S4096x32 1 :=
  let main_v18 : IVec S4096x32 1 := cmpf .olt main_v16 main_v17
  (main_v2, main_v5, main_v8, main_v12, main_v15, main_v18)

def fn {F : FTy → Type} [FloatOps F] (main_arg0 : FVec F S2x4 .f32) (main_arg1 : FVec F S16384x256 .f32) (main_arg2 : FVec F S16384x256 .f32) (main_arg3 : FVec F S16384x512 .bf16) (main_arg4 : FVec F S4096x32 .f32) (main_arg5 : FVec F S4096x32 .f32) : IVec S2x4 1 × IVec S16384x256 1 × IVec S16384x256 1 × IVec S16384x512 1 × IVec S4096x32 1 × IVec S4096x32 1 :=
  let main_v0 : FVec F S2x4 .f32 := Host.absf main_arg0
  let main_cst : FVec F S_ .f32 := constant S_ .f32 0x7F800000#32
  let main_v1 : FVec F S2x4 .f32 := broadcastInDim S2x4 ![] bcast_S_S2x4 main_cst
  let main_v2 : IVec S2x4 1 := cmpf .olt main_v0 main_v1
  let main_v3 : FVec F S16384x256 .f32 := Host.absf main_arg1
  let main_cst_0 : FVec F S_ .f32 := constant S_ .f32 0x7F800000#32
  let main_v4 : FVec F S16384x256 .f32 := broadcastInDim S16384x256 ![] bcast_S_S16384x256 main_cst_0
  let main_v5 : IVec S16384x256 1 := cmpf .olt main_v3 main_v4
  let main_v6 : FVec F S16384x256 .f32 := Host.absf main_arg2
  let main_cst_1 : FVec F S_ .f32 := constant S_ .f32 0x7F800000#32
  let main_v7 : FVec F S16384x256 .f32 := broadcastInDim S16384x256 ![] bcast_S_S16384x256 main_cst_1
  let main_v8 : IVec S16384x256 1 := cmpf .olt main_v6 main_v7
  let main_v9 : FVec F S16384x512 .f32 := (extf .f32 · bitsLt_bf16_f32) main_arg3
  let main_v10 : FVec F S16384x512 .f32 := Host.absf main_v9
  let main_cst_2 : FVec F S_ .f32 := constant S_ .f32 0x7F800000#32
  let main_v11 : FVec F S16384x512 .f32 := broadcastInDim S16384x512 ![] bcast_S_S16384x512 main_cst_2
  let main_v12 : IVec S16384x512 1 := cmpf .olt main_v10 main_v11
  let main_v13 : FVec F S4096x32 .f32 := Host.absf main_arg4
  let main_cst_3 : FVec F S_ .f32 := constant S_ .f32 0x7F800000#32
  let main_v14 : FVec F S4096x32 .f32 := broadcastInDim S4096x32 ![] bcast_S_S4096x32 main_cst_3
  let main_v15 : IVec S4096x32 1 := cmpf .olt main_v13 main_v14
  let main_v16 : FVec F S4096x32 .f32 := Host.absf main_arg5
  let main_cst_4 : FVec F S_ .f32 := constant S_ .f32 0x7F800000#32
  let main_v17 : FVec F S4096x32 .f32 := broadcastInDim S4096x32 ![] bcast_S_S4096x32 main_cst_4
  fn_part1 (F := F) main_v2 main_v5 main_v8 main_v12 main_v15 main_v16 main_v17
-- ==== Kernel.lean ====
abbrev S16384x256 : Shape := ⟨2, ![16384, 256]⟩
abbrev S4x15x31 : Shape := ⟨3, ![4, 15, 31]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S4x8x31 : Shape := ⟨3, ![4, 8, 31]⟩
abbrev S1x4x8x31 : Shape := ⟨4, ![1, 4, 8, 31]⟩
abbrev S8x4x8x31 : Shape := ⟨4, ![8, 4, 8, 31]⟩
abbrev S8x4x64x8x64 : Shape := ⟨5, ![8, 4, 64, 8, 64]⟩
abbrev S1x1x64x1x64 : Shape := ⟨5, ![1, 1, 64, 1, 64]⟩
abbrev S8x4x8x1 : Shape := ⟨4, ![8, 4, 8, 1]⟩
abbrev S8x4x8 : Shape := ⟨3, ![8, 4, 8]⟩
abbrev S8x4x1x8x1 : Shape := ⟨5, ![8, 4, 1, 8, 1]⟩
abbrev S8x4x64x512 : Shape := ⟨4, ![8, 4, 64, 512]⟩
abbrev S512x256 : Shape := ⟨2, ![512, 256]⟩
abbrev S4096x256 : Shape := ⟨2, ![4096, 256]⟩
abbrev S64x256 : Shape := ⟨2, ![64, 256]⟩
abbrev S64x512 : Shape := ⟨2, ![64, 512]⟩
abbrev S1x1x64x512 : Shape := ⟨4, ![1, 1, 64, 512]⟩

abbrev nBuf : Space → Nat
  | .hbm => 408
  | .vmem => 9
  | .smem => 0
  | _ => 0

abbrev hbmTy0_0 (i : Nat) : BufTy := match i % 128 with
  | 0 => ⟨S16384x256, .bf16⟩
  | 1 => ⟨S16384x256, .bf16⟩
  | 2 => ⟨S16384x256, .bf16⟩
  | 3 => ⟨S4x15x31, .f32⟩
  | 4 => ⟨S64, .i32⟩
  | 5 => ⟨S_, .i32⟩
  | 6 => ⟨S64, .i32⟩
  | 7 => ⟨S64, .i32⟩
  | 8 => ⟨S_, .i32⟩
  | 9 => ⟨S_, .i32⟩
  | 10 => ⟨S_, .i32⟩
  | 11 => ⟨S64, .i32⟩
  | 12 => ⟨S64, .i32⟩
  | 13 => ⟨S_, .i32⟩
  | 14 => ⟨S64, .i32⟩
  | 15 => ⟨S64, .i32⟩
  | 16 => ⟨S1x64, .i32⟩
  | 17 => ⟨S64x1, .i32⟩
  | 18 => ⟨S64x64, .i32⟩
  | 19 => ⟨S64x64, .i32⟩
  | 20 => ⟨S64x64, .i1⟩
  | 21 => ⟨S1x64, .i32⟩
  | 22 => ⟨S64x1, .i32⟩
  | 23 => ⟨S_, .i32⟩
  | 24 => ⟨S64x1, .i32⟩
  | 25 => ⟨S64x1, .i32⟩
  | 26 => ⟨S64x64, .i32⟩
  | 27 => ⟨S64x64, .i32⟩
  | 28 => ⟨S64x64, .i1⟩
  | 29 => ⟨S64x64, .i1⟩
  | 30 => ⟨S1x64, .i32⟩
  | 31 => ⟨S64x1, .i32⟩
  | 32 => ⟨S64x64, .i32⟩
  | 33 => ⟨S64x64, .i32⟩
  | 34 => ⟨S64x64, .i32⟩
  | 35 => ⟨S_, .i32⟩
  | 36 => ⟨S_, .i32⟩
  | 37 => ⟨S_, .i32⟩
  | 38 => ⟨S64x64, .i32⟩
  | 39 => ⟨S64x64, .i32⟩
  | 40 => ⟨S_, .i32⟩
  | 41 => ⟨S64x64, .i32⟩
  | 42 => ⟨S64x64, .i32⟩
  | 43 => ⟨S_, .i32⟩
  | 44 => ⟨S64x64, .i32⟩
  | 45 => ⟨S64x64, .i32⟩
  | 46 => ⟨S4x8x31, .f32⟩
  | 47 => ⟨S4x8x31, .f32⟩
  | 48 => ⟨S4x8x31, .f32⟩
  | 49 => ⟨S4x8x31, .f32⟩
  | 50 => ⟨S4x8x31, .f32⟩
  | 51 => ⟨S4x8x31, .f32⟩
  | 52 => ⟨S4x8x31, .f32⟩
  | 53 => ⟨S4x8x31, .f32⟩
  | 54 => ⟨S1x4x8x31, .f32⟩
  | 55 => ⟨S1x4x8x31, .f32⟩
  | 56 => ⟨S1x4x8x31, .f32⟩
  | 57 => ⟨S1x4x8x31, .f32⟩
  | 58 => ⟨S1x4x8x31, .f32⟩
  | 59 => ⟨S1x4x8x31, .f32⟩
  | 60 => ⟨S1x4x8x31, .f32⟩
  | 61 => ⟨S1x4x8x31, .f32⟩
  | 62 => ⟨S8x4x8x31, .f32⟩
  | 63 => ⟨S_, .f32⟩
  | 64 => ⟨S8x4x64x8x64, .f32⟩
  | 65 => ⟨S_, .i32⟩
  | 66 => ⟨S64x64, .i32⟩
  | 67 => ⟨S64x64, .i1⟩
  | 68 => ⟨S64x64, .i1⟩
  | 69 => ⟨S1x1x64x1x64, .i1⟩
  | 70 => ⟨S8x4x8x1, .f32⟩
  | 71 => ⟨S8x4x8, .f32⟩
  | 72 => ⟨S8x4x1x8x1, .f32⟩
  | 73 => ⟨S8x4x64x8x64, .i1⟩
  | 74 => ⟨S8x4x64x8x64, .f32⟩
  | 75 => ⟨S8x4x64x8x64, .f32⟩
  | 76 => ⟨S_, .i32⟩
  | 77 => ⟨S64x64, .i32⟩
  | 78 => ⟨S64x64, .i1⟩
  | 79 => ⟨S64x64, .i1⟩
  | 80 => ⟨S1x1x64x1x64, .i1⟩
  | 81 => ⟨S8x4x8x1, .f32⟩
  | 82 => ⟨S8x4x8, .f32⟩
  | 83 => ⟨S8x4x1x8x1, .f32⟩
  | 84 => ⟨S8x4x64x8x64, .i1⟩
  | 85 => ⟨S8x4x64x8x64, .f32⟩
  | 86 => ⟨S8x4x64x8x64, .f32⟩
  | 87 => ⟨S_, .i32⟩
  | 88 => ⟨S64x64, .i32⟩
  | 89 => ⟨S64x64, .i1⟩
  | 90 => ⟨S64x64, .i1⟩
  | 91 => ⟨S1x1x64x1x64, .i1⟩
  | 92 => ⟨S8x4x8x1, .f32⟩
  | 93 => ⟨S8x4x8, .f32⟩
  | 94 => ⟨S8x4x1x8x1, .f32⟩
  | 95 => ⟨S8x4x64x8x64, .i1⟩
  | 96 => ⟨S8x4x64x8x64, .f32⟩
  | 97 => ⟨S8x4x64x8x64, .f32⟩
  | 98 => ⟨S_, .i32⟩
  | 99 => ⟨S64x64, .i32⟩
  | 100 => ⟨S64x64, .i1⟩
  | 101 => ⟨S64x64, .i1⟩
  | 102 => ⟨S1x1x64x1x64, .i1⟩
  | 103 => ⟨S8x4x8x1, .f32⟩
  | 104 => ⟨S8x4x8, .f32⟩
  | 105 => ⟨S8x4x1x8x1, .f32⟩
  | 106 => ⟨S8x4x64x8x64, .i1⟩
  | 107 => ⟨S8x4x64x8x64, .f32⟩
  | 108 => ⟨S8x4x64x8x64, .f32⟩
  | 109 => ⟨S_, .i32⟩
  | 110 => ⟨S64x64, .i32⟩
  | 111 => ⟨S64x64, .i1⟩
  | 112 => ⟨S64x64, .i1⟩
  | 113 => ⟨S1x1x64x1x64, .i1⟩
  | 114 => ⟨S8x4x8x1, .f32⟩
  | 115 => ⟨S8x4x8, .f32⟩
  | 116 => ⟨S8x4x1x8x1, .f32⟩
  | 117 => ⟨S8x4x64x8x64, .i1⟩
  | 118 => ⟨S8x4x64x8x64, .f32⟩
  | 119 => ⟨S8x4x64x8x64, .f32⟩
  | 120 => ⟨S_, .i32⟩
  | 121 => ⟨S64x64, .i32⟩
  | 122 => ⟨S64x64, .i1⟩
  | 123 => ⟨S64x64, .i1⟩
  | 124 => ⟨S1x1x64x1x64, .i1⟩
  | 125 => ⟨S8x4x8x1, .f32⟩
  | 126 => ⟨S8x4x8, .f32⟩
  | 127 => ⟨S8x4x1x8x1, .f32⟩
  | _ => ⟨S16384x256, .bf16⟩

abbrev hbmTy0_1 (i : Nat) : BufTy := match i % 128 with
  | 0 => ⟨S8x4x64x8x64, .i1⟩
  | 1 => ⟨S8x4x64x8x64, .f32⟩
  | 2 => ⟨S8x4x64x8x64, .f32⟩
  | 3 => ⟨S_, .i32⟩
  | 4 => ⟨S64x64, .i32⟩
  | 5 => ⟨S64x64, .i1⟩
  | 6 => ⟨S64x64, .i1⟩
  | 7 => ⟨S1x1x64x1x64, .i1⟩
  | 8 => ⟨S8x4x8x1, .f32⟩
  | 9 => ⟨S8x4x8, .f32⟩
  | 10 => ⟨S8x4x1x8x1, .f32⟩
  | 11 => ⟨S8x4x64x8x64, .i1⟩
  | 12 => ⟨S8x4x64x8x64, .f32⟩
  | 13 => ⟨S8x4x64x8x64, .f32⟩
  | 14 => ⟨S_, .i32⟩
  | 15 => ⟨S64x64, .i32⟩
  | 16 => ⟨S64x64, .i1⟩
  | 17 => ⟨S64x64, .i1⟩
  | 18 => ⟨S1x1x64x1x64, .i1⟩
  | 19 => ⟨S8x4x8x1, .f32⟩
  | 20 => ⟨S8x4x8, .f32⟩
  | 21 => ⟨S8x4x1x8x1, .f32⟩
  | 22 => ⟨S8x4x64x8x64, .i1⟩
  | 23 => ⟨S8x4x64x8x64, .f32⟩
  | 24 => ⟨S8x4x64x8x64, .f32⟩
  | 25 => ⟨S_, .i32⟩
  | 26 => ⟨S64x64, .i32⟩
  | 27 => ⟨S64x64, .i1⟩
  | 28 => ⟨S64x64, .i1⟩
  | 29 => ⟨S1x1x64x1x64, .i1⟩
  | 30 => ⟨S8x4x8x1, .f32⟩
  | 31 => ⟨S8x4x8, .f32⟩
  | 32 => ⟨S8x4x1x8x1, .f32⟩
  | 33 => ⟨S8x4x64x8x64, .i1⟩
  | 34 => ⟨S8x4x64x8x64, .f32⟩
  | 35 => ⟨S8x4x64x8x64, .f32⟩
  | 36 => ⟨S_, .i32⟩
  | 37 => ⟨S64x64, .i32⟩
  | 38 => ⟨S64x64, .i1⟩
  | 39 => ⟨S64x64, .i1⟩
  | 40 => ⟨S1x1x64x1x64, .i1⟩
  | 41 => ⟨S8x4x8x1, .f32⟩
  | 42 => ⟨S8x4x8, .f32⟩
  | 43 => ⟨S8x4x1x8x1, .f32⟩
  | 44 => ⟨S8x4x64x8x64, .i1⟩
  | 45 => ⟨S8x4x64x8x64, .f32⟩
  | 46 => ⟨S8x4x64x8x64, .f32⟩
  | 47 => ⟨S_, .i32⟩
  | 48 => ⟨S64x64, .i32⟩
  | 49 => ⟨S64x64, .i1⟩
  | 50 => ⟨S64x64, .i1⟩
  | 51 => ⟨S1x1x64x1x64, .i1⟩
  | 52 => ⟨S8x4x8x1, .f32⟩
  | 53 => ⟨S8x4x8, .f32⟩
  | 54 => ⟨S8x4x1x8x1, .f32⟩
  | 55 => ⟨S8x4x64x8x64, .i1⟩
  | 56 => ⟨S8x4x64x8x64, .f32⟩
  | 57 => ⟨S8x4x64x8x64, .f32⟩
  | 58 => ⟨S_, .i32⟩
  | 59 => ⟨S64x64, .i32⟩
  | 60 => ⟨S64x64, .i1⟩
  | 61 => ⟨S64x64, .i1⟩
  | 62 => ⟨S1x1x64x1x64, .i1⟩
  | 63 => ⟨S8x4x8x1, .f32⟩
  | 64 => ⟨S8x4x8, .f32⟩
  | 65 => ⟨S8x4x1x8x1, .f32⟩
  | 66 => ⟨S8x4x64x8x64, .i1⟩
  | 67 => ⟨S8x4x64x8x64, .f32⟩
  | 68 => ⟨S8x4x64x8x64, .f32⟩
  | 69 => ⟨S_, .i32⟩
  | 70 => ⟨S64x64, .i32⟩
  | 71 => ⟨S64x64, .i1⟩
  | 72 => ⟨S64x64, .i1⟩
  | 73 => ⟨S1x1x64x1x64, .i1⟩
  | 74 => ⟨S8x4x8x1, .f32⟩
  | 75 => ⟨S8x4x8, .f32⟩
  | 76 => ⟨S8x4x1x8x1, .f32⟩
  | 77 => ⟨S8x4x64x8x64, .i1⟩
  | 78 => ⟨S8x4x64x8x64, .f32⟩
  | 79 => ⟨S8x4x64x8x64, .f32⟩
  | 80 => ⟨S_, .i32⟩
  | 81 => ⟨S64x64, .i32⟩
  | 82 => ⟨S64x64, .i1⟩
  | 83 => ⟨S64x64, .i1⟩
  | 84 => ⟨S1x1x64x1x64, .i1⟩
  | 85 => ⟨S8x4x8x1, .f32⟩
  | 86 => ⟨S8x4x8, .f32⟩
  | 87 => ⟨S8x4x1x8x1, .f32⟩
  | 88 => ⟨S8x4x64x8x64, .i1⟩
  | 89 => ⟨S8x4x64x8x64, .f32⟩
  | 90 => ⟨S8x4x64x8x64, .f32⟩
  | 91 => ⟨S_, .i32⟩
  | 92 => ⟨S64x64, .i32⟩
  | 93 => ⟨S64x64, .i1⟩
  | 94 => ⟨S64x64, .i1⟩
  | 95 => ⟨S1x1x64x1x64, .i1⟩
  | 96 => ⟨S8x4x8x1, .f32⟩
  | 97 => ⟨S8x4x8, .f32⟩
  | 98 => ⟨S8x4x1x8x1, .f32⟩
  | 99 => ⟨S8x4x64x8x64, .i1⟩
  | 100 => ⟨S8x4x64x8x64, .f32⟩
  | 101 => ⟨S8x4x64x8x64, .f32⟩
  | 102 => ⟨S_, .i32⟩
  | 103 => ⟨S64x64, .i32⟩
  | 104 => ⟨S64x64, .i1⟩
  | 105 => ⟨S64x64, .i1⟩
  | 106 => ⟨S1x1x64x1x64, .i1⟩
  | 107 => ⟨S8x4x8x1, .f32⟩
  | 108 => ⟨S8x4x8, .f32⟩
  | 109 => ⟨S8x4x1x8x1, .f32⟩
  | 110 => ⟨S8x4x64x8x64, .i1⟩
  | 111 => ⟨S8x4x64x8x64, .f32⟩
  | 112 => ⟨S8x4x64x8x64, .f32⟩
  | 113 => ⟨S_, .i32⟩
  | 114 => ⟨S64x64, .i32⟩
  | 115 => ⟨S64x64, .i1⟩
  | 116 => ⟨S64x64, .i1⟩
  | 117 => ⟨S1x1x64x1x64, .i1⟩
  | 118 => ⟨S8x4x8x1, .f32⟩
  | 119 => ⟨S8x4x8, .f32⟩
  | 120 => ⟨S8x4x1x8x1, .f32⟩
  | 121 => ⟨S8x4x64x8x64, .i1⟩
  | 122 => ⟨S8x4x64x8x64, .f32⟩
  | 123 => ⟨S8x4x64x8x64, .f32⟩
  | 124 => ⟨S_, .i32⟩
  | 125 => ⟨S64x64, .i32⟩
  | 126 => ⟨S64x64, .i1⟩
  | 127 => ⟨S64x64, .i1⟩
  | _ => ⟨S16384x256, .bf16⟩

abbrev hbmTy0_2 (i : Nat) : BufTy := match i % 128 with
  | 0 => ⟨S1x1x64x1x64, .i1⟩
  | 1 => ⟨S8x4x8x1, .f32⟩
  | 2 => ⟨S8x4x8, .f32⟩
  | 3 => ⟨S8x4x1x8x1, .f32⟩
  | 4 => ⟨S8x4x64x8x64, .i1⟩
  | 5 => ⟨S8x4x64x8x64, .f32⟩
  | 6 => ⟨S8x4x64x8x64, .f32⟩
  | 7 => ⟨S_, .i32⟩
  | 8 => ⟨S64x64, .i32⟩
  | 9 => ⟨S64x64, .i1⟩
  | 10 => ⟨S64x64, .i1⟩
  | 11 => ⟨S1x1x64x1x64, .i1⟩
  | 12 => ⟨S8x4x8x1, .f32⟩
  | 13 => ⟨S8x4x8, .f32⟩
  | 14 => ⟨S8x4x1x8x1, .f32⟩
  | 15 => ⟨S8x4x64x8x64, .i1⟩
  | 16 => ⟨S8x4x64x8x64, .f32⟩
  | 17 => ⟨S8x4x64x8x64, .f32⟩
  | 18 => ⟨S_, .i32⟩
  | 19 => ⟨S64x64, .i32⟩
  | 20 => ⟨S64x64, .i1⟩
  | 21 => ⟨S64x64, .i1⟩
  | 22 => ⟨S1x1x64x1x64, .i1⟩
  | 23 => ⟨S8x4x8x1, .f32⟩
  | 24 => ⟨S8x4x8, .f32⟩
  | 25 => ⟨S8x4x1x8x1, .f32⟩
  | 26 => ⟨S8x4x64x8x64, .i1⟩
  | 27 => ⟨S8x4x64x8x64, .f32⟩
  | 28 => ⟨S8x4x64x8x64, .f32⟩
  | 29 => ⟨S_, .i32⟩
  | 30 => ⟨S64x64, .i32⟩
  | 31 => ⟨S64x64, .i1⟩
  | 32 => ⟨S64x64, .i1⟩
  | 33 => ⟨S1x1x64x1x64, .i1⟩
  | 34 => ⟨S8x4x8x1, .f32⟩
  | 35 => ⟨S8x4x8, .f32⟩
  | 36 => ⟨S8x4x1x8x1, .f32⟩
  | 37 => ⟨S8x4x64x8x64, .i1⟩
  | 38 => ⟨S8x4x64x8x64, .f32⟩
  | 39 => ⟨S8x4x64x8x64, .f32⟩
  | 40 => ⟨S_, .i32⟩
  | 41 => ⟨S64x64, .i32⟩
  | 42 => ⟨S64x64, .i1⟩
  | 43 => ⟨S64x64, .i1⟩
  | 44 => ⟨S1x1x64x1x64, .i1⟩
  | 45 => ⟨S8x4x8x1, .f32⟩
  | 46 => ⟨S8x4x8, .f32⟩
  | 47 => ⟨S8x4x1x8x1, .f32⟩
  | 48 => ⟨S8x4x64x8x64, .i1⟩
  | 49 => ⟨S8x4x64x8x64, .f32⟩
  | 50 => ⟨S8x4x64x8x64, .f32⟩
  | 51 => ⟨S_, .i32⟩
  | 52 => ⟨S64x64, .i32⟩
  | 53 => ⟨S64x64, .i1⟩
  | 54 => ⟨S64x64, .i1⟩
  | 55 => ⟨S1x1x64x1x64, .i1⟩
  | 56 => ⟨S8x4x8x1, .f32⟩
  | 57 => ⟨S8x4x8, .f32⟩
  | 58 => ⟨S8x4x1x8x1, .f32⟩
  | 59 => ⟨S8x4x64x8x64, .i1⟩
  | 60 => ⟨S8x4x64x8x64, .f32⟩
  | 61 => ⟨S8x4x64x8x64, .f32⟩
  | 62 => ⟨S_, .i32⟩
  | 63 => ⟨S64x64, .i32⟩
  | 64 => ⟨S64x64, .i1⟩
  | 65 => ⟨S64x64, .i1⟩
  | 66 => ⟨S1x1x64x1x64, .i1⟩
  | 67 => ⟨S8x4x8x1, .f32⟩
  | 68 => ⟨S8x4x8, .f32⟩
  | 69 => ⟨S8x4x1x8x1, .f32⟩
  | 70 => ⟨S8x4x64x8x64, .i1⟩
  | 71 => ⟨S8x4x64x8x64, .f32⟩
  | 72 => ⟨S8x4x64x8x64, .f32⟩
  | 73 => ⟨S_, .i32⟩
  | 74 => ⟨S64x64, .i32⟩
  | 75 => ⟨S64x64, .i1⟩
  | 76 => ⟨S64x64, .i1⟩
  | 77 => ⟨S1x1x64x1x64, .i1⟩
  | 78 => ⟨S8x4x8x1, .f32⟩
  | 79 => ⟨S8x4x8, .f32⟩
  | 80 => ⟨S8x4x1x8x1, .f32⟩
  | 81 => ⟨S8x4x64x8x64, .i1⟩
  | 82 => ⟨S8x4x64x8x64, .f32⟩
  | 83 => ⟨S8x4x64x8x64, .f32⟩
  | 84 => ⟨S_, .i32⟩
  | 85 => ⟨S64x64, .i32⟩
  | 86 => ⟨S64x64, .i1⟩
  | 87 => ⟨S64x64, .i1⟩
  | 88 => ⟨S1x1x64x1x64, .i1⟩
  | 89 => ⟨S8x4x8x1, .f32⟩
  | 90 => ⟨S8x4x8, .f32⟩
  | 91 => ⟨S8x4x1x8x1, .f32⟩
  | 92 => ⟨S8x4x64x8x64, .i1⟩
  | 93 => ⟨S8x4x64x8x64, .f32⟩
  | 94 => ⟨S8x4x64x8x64, .f32⟩
  | 95 => ⟨S_, .i32⟩
  | 96 => ⟨S64x64, .i32⟩
  | 97 => ⟨S64x64, .i1⟩
  | 98 => ⟨S64x64, .i1⟩
  | 99 => ⟨S1x1x64x1x64, .i1⟩
  | 100 => ⟨S8x4x8x1, .f32⟩
  | 101 => ⟨S8x4x8, .f32⟩
  | 102 => ⟨S8x4x1x8x1, .f32⟩
  | 103 => ⟨S8x4x64x8x64, .i1⟩
  | 104 => ⟨S8x4x64x8x64, .f32⟩
  | 105 => ⟨S8x4x64x8x64, .f32⟩
  | 106 => ⟨S_, .i32⟩
  | 107 => ⟨S64x64, .i32⟩
  | 108 => ⟨S64x64, .i1⟩
  | 109 => ⟨S64x64, .i1⟩
  | 110 => ⟨S1x1x64x1x64, .i1⟩
  | 111 => ⟨S8x4x8x1, .f32⟩
  | 112 => ⟨S8x4x8, .f32⟩
  | 113 => ⟨S8x4x1x8x1, .f32⟩
  | 114 => ⟨S8x4x64x8x64, .i1⟩
  | 115 => ⟨S8x4x64x8x64, .f32⟩
  | 116 => ⟨S8x4x64x8x64, .f32⟩
  | 117 => ⟨S_, .i32⟩
  | 118 => ⟨S64x64, .i32⟩
  | 119 => ⟨S64x64, .i1⟩
  | 120 => ⟨S64x64, .i1⟩
  | 121 => ⟨S1x1x64x1x64, .i1⟩
  | 122 => ⟨S8x4x8x1, .f32⟩
  | 123 => ⟨S8x4x8, .f32⟩
  | 124 => ⟨S8x4x1x8x1, .f32⟩
  | 125 => ⟨S8x4x64x8x64, .i1⟩
  | 126 => ⟨S8x4x64x8x64, .f32⟩
  | 127 => ⟨S8x4x64x8x64, .f32⟩
  | _ => ⟨S16384x256, .bf16⟩

abbrev hbmTy0_3 (i : Nat) : BufTy := match i % 128 with
  | 0 => ⟨S_, .i32⟩
  | 1 => ⟨S64x64, .i32⟩
  | 2 => ⟨S64x64, .i1⟩
  | 3 => ⟨S64x64, .i1⟩
  | 4 => ⟨S1x1x64x1x64, .i1⟩
  | 5 => ⟨S8x4x8x1, .f32⟩
  | 6 => ⟨S8x4x8, .f32⟩
  | 7 => ⟨S8x4x1x8x1, .f32⟩
  | 8 => ⟨S8x4x64x8x64, .i1⟩
  | 9 => ⟨S8x4x64x8x64, .f32⟩
  | 10 => ⟨S8x4x64x8x64, .f32⟩
  | 11 => ⟨S_, .i32⟩
  | 12 => ⟨S64x64, .i32⟩
  | 13 => ⟨S64x64, .i1⟩
  | 14 => ⟨S64x64, .i1⟩
  | 15 => ⟨S1x1x64x1x64, .i1⟩
  | 16 => ⟨S8x4x8x1, .f32⟩
  | 17 => ⟨S8x4x8, .f32⟩
  | 18 => ⟨S8x4x1x8x1, .f32⟩
  | 19 => ⟨S8x4x64x8x64, .i1⟩
  | 20 => ⟨S8x4x64x8x64, .f32⟩
  | 21 => ⟨S8x4x64x8x64, .f32⟩
  | 22 => ⟨S8x4x64x512, .f32⟩
  | 23 => ⟨S16384x256, .f32⟩
  | _ => ⟨S16384x256, .bf16⟩

abbrev hbmTy (i : Nat) : BufTy := match i / 128 with
  | 0 => hbmTy0_0 i
  | 1 => hbmTy0_1 i
  | 2 => hbmTy0_2 i
  | 3 => hbmTy0_3 i
  | _ => ⟨S16384x256, .bf16⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S8x4x64x512, .f32⟩
  | .local _ .vmem, ⟨7, _⟩ => ⟨S512x256, .f32⟩
  | .local _ .vmem, ⟨8, _⟩ => ⟨S512x256, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_c_4 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v22 : Ref sig .tc := ⟨.hbm, 42, rfl⟩
abbrev main_c_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst : Ref sig .tc := ⟨.hbm, 63, rfl⟩
abbrev main_v42 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call2_v0 : Ref sig .tc := ⟨.hbm, 73, rfl⟩
abbrev main_call2_v1 : Ref sig .tc := ⟨.hbm, 74, rfl⟩
abbrev main_v50 : Ref sig .tc := ⟨.hbm, 75, rfl⟩
abbrev main_c_7 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call3_v0 : Ref sig .tc := ⟨.hbm, 84, rfl⟩
abbrev main_call3_v1 : Ref sig .tc := ⟨.hbm, 85, rfl⟩
abbrev main_v58 : Ref sig .tc := ⟨.hbm, 86, rfl⟩
abbrev main_c_8 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_call4_v0 : Ref sig .tc := ⟨.hbm, 95, rfl⟩
abbrev main_call4_v1 : Ref sig .tc := ⟨.hbm, 96, rfl⟩
abbrev main_v66 : Ref sig .tc := ⟨.hbm, 97, rfl⟩
abbrev main_c_9 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call5_v0 : Ref sig .tc := ⟨.hbm, 106, rfl⟩
abbrev main_call5_v1 : Ref sig .tc := ⟨.hbm, 107, rfl⟩
abbrev main_v74 : Ref sig .tc := ⟨.hbm, 108, rfl⟩
abbrev main_c_10 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_call6_v0 : Ref sig .tc := ⟨.hbm, 117, rfl⟩
abbrev main_call6_v1 : Ref sig .tc := ⟨.hbm, 118, rfl⟩
abbrev main_v82 : Ref sig .tc := ⟨.hbm, 119, rfl⟩
abbrev main_c_11 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_call7_v0 : Ref sig .tc := ⟨.hbm, 128, rfl⟩
abbrev main_call7_v1 : Ref sig .tc := ⟨.hbm, 129, rfl⟩
abbrev main_v90 : Ref sig .tc := ⟨.hbm, 130, rfl⟩
abbrev main_c_12 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call8_v0 : Ref sig .tc := ⟨.hbm, 139, rfl⟩
abbrev main_call8_v1 : Ref sig .tc := ⟨.hbm, 140, rfl⟩
abbrev main_v98 : Ref sig .tc := ⟨.hbm, 141, rfl⟩
abbrev main_c_13 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_call9_v0 : Ref sig .tc := ⟨.hbm, 150, rfl⟩
abbrev main_call9_v1 : Ref sig .tc := ⟨.hbm, 151, rfl⟩
abbrev main_v106 : Ref sig .tc := ⟨.hbm, 152, rfl⟩
abbrev main_c_14 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_call10_v0 : Ref sig .tc := ⟨.hbm, 161, rfl⟩
abbrev main_call10_v1 : Ref sig .tc := ⟨.hbm, 162, rfl⟩
abbrev main_v114 : Ref sig .tc := ⟨.hbm, 163, rfl⟩
abbrev main_c_15 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_call11_v0 : Ref sig .tc := ⟨.hbm, 172, rfl⟩
abbrev main_call11_v1 : Ref sig .tc := ⟨.hbm, 173, rfl⟩
abbrev main_v122 : Ref sig .tc := ⟨.hbm, 174, rfl⟩
abbrev main_c_16 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_call12_v0 : Ref sig .tc := ⟨.hbm, 183, rfl⟩
abbrev main_call12_v1 : Ref sig .tc := ⟨.hbm, 184, rfl⟩
abbrev main_v130 : Ref sig .tc := ⟨.hbm, 185, rfl⟩
abbrev main_c_17 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_call13_v0 : Ref sig .tc := ⟨.hbm, 194, rfl⟩
abbrev main_call13_v1 : Ref sig .tc := ⟨.hbm, 195, rfl⟩
abbrev main_v138 : Ref sig .tc := ⟨.hbm, 196, rfl⟩
abbrev main_c_18 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_call14_v0 : Ref sig .tc := ⟨.hbm, 205, rfl⟩
abbrev main_call14_v1 : Ref sig .tc := ⟨.hbm, 206, rfl⟩
abbrev main_v146 : Ref sig .tc := ⟨.hbm, 207, rfl⟩
abbrev main_c_19 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_call15_v0 : Ref sig .tc := ⟨.hbm, 216, rfl⟩
abbrev main_call15_v1 : Ref sig .tc := ⟨.hbm, 217, rfl⟩
abbrev main_v154 : Ref sig .tc := ⟨.hbm, 218, rfl⟩
abbrev main_c_20 : Ref sig .tc := ⟨.hbm, 219, rfl⟩
abbrev main_v155 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_call16_v0 : Ref sig .tc := ⟨.hbm, 227, rfl⟩
abbrev main_call16_v1 : Ref sig .tc := ⟨.hbm, 228, rfl⟩
abbrev main_v162 : Ref sig .tc := ⟨.hbm, 229, rfl⟩
abbrev main_c_21 : Ref sig .tc := ⟨.hbm, 230, rfl⟩
abbrev main_v163 : Ref sig .tc := ⟨.hbm, 231, rfl⟩
abbrev main_v164 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_v168 : Ref sig .tc := ⟨.hbm, 236, rfl⟩
abbrev main_v169 : Ref sig .tc := ⟨.hbm, 237, rfl⟩
abbrev main_call17_v0 : Ref sig .tc := ⟨.hbm, 238, rfl⟩
abbrev main_call17_v1 : Ref sig .tc := ⟨.hbm, 239, rfl⟩
abbrev main_v170 : Ref sig .tc := ⟨.hbm, 240, rfl⟩
abbrev main_c_22 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_call18_v0 : Ref sig .tc := ⟨.hbm, 249, rfl⟩
abbrev main_call18_v1 : Ref sig .tc := ⟨.hbm, 250, rfl⟩
abbrev main_v178 : Ref sig .tc := ⟨.hbm, 251, rfl⟩
abbrev main_c_23 : Ref sig .tc := ⟨.hbm, 252, rfl⟩
abbrev main_v179 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_v183 : Ref sig .tc := ⟨.hbm, 257, rfl⟩
abbrev main_v184 : Ref sig .tc := ⟨.hbm, 258, rfl⟩
abbrev main_v185 : Ref sig .tc := ⟨.hbm, 259, rfl⟩
abbrev main_call19_v0 : Ref sig .tc := ⟨.hbm, 260, rfl⟩
abbrev main_call19_v1 : Ref sig .tc := ⟨.hbm, 261, rfl⟩
abbrev main_v186 : Ref sig .tc := ⟨.hbm, 262, rfl⟩
abbrev main_c_24 : Ref sig .tc := ⟨.hbm, 263, rfl⟩
abbrev main_v187 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_call20_v0 : Ref sig .tc := ⟨.hbm, 271, rfl⟩
abbrev main_call20_v1 : Ref sig .tc := ⟨.hbm, 272, rfl⟩
abbrev main_v194 : Ref sig .tc := ⟨.hbm, 273, rfl⟩
abbrev main_c_25 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_call21_v0 : Ref sig .tc := ⟨.hbm, 282, rfl⟩
abbrev main_call21_v1 : Ref sig .tc := ⟨.hbm, 283, rfl⟩
abbrev main_v202 : Ref sig .tc := ⟨.hbm, 284, rfl⟩
abbrev main_c_26 : Ref sig .tc := ⟨.hbm, 285, rfl⟩
abbrev main_v203 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_v208 : Ref sig .tc := ⟨.hbm, 291, rfl⟩
abbrev main_v209 : Ref sig .tc := ⟨.hbm, 292, rfl⟩
abbrev main_call22_v0 : Ref sig .tc := ⟨.hbm, 293, rfl⟩
abbrev main_call22_v1 : Ref sig .tc := ⟨.hbm, 294, rfl⟩
abbrev main_v210 : Ref sig .tc := ⟨.hbm, 295, rfl⟩
abbrev main_c_27 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_call23_v0 : Ref sig .tc := ⟨.hbm, 304, rfl⟩
abbrev main_call23_v1 : Ref sig .tc := ⟨.hbm, 305, rfl⟩
abbrev main_v218 : Ref sig .tc := ⟨.hbm, 306, rfl⟩
abbrev main_c_28 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_call24_v0 : Ref sig .tc := ⟨.hbm, 315, rfl⟩
abbrev main_call24_v1 : Ref sig .tc := ⟨.hbm, 316, rfl⟩
abbrev main_v226 : Ref sig .tc := ⟨.hbm, 317, rfl⟩
abbrev main_c_29 : Ref sig .tc := ⟨.hbm, 318, rfl⟩
abbrev main_v227 : Ref sig .tc := ⟨.hbm, 319, rfl⟩
abbrev main_v228 : Ref sig .tc := ⟨.hbm, 320, rfl⟩
abbrev main_v229 : Ref sig .tc := ⟨.hbm, 321, rfl⟩
abbrev main_v230 : Ref sig .tc := ⟨.hbm, 322, rfl⟩
abbrev main_v231 : Ref sig .tc := ⟨.hbm, 323, rfl⟩
abbrev main_v232 : Ref sig .tc := ⟨.hbm, 324, rfl⟩
abbrev main_v233 : Ref sig .tc := ⟨.hbm, 325, rfl⟩
abbrev main_call25_v0 : Ref sig .tc := ⟨.hbm, 326, rfl⟩
abbrev main_call25_v1 : Ref sig .tc := ⟨.hbm, 327, rfl⟩
abbrev main_v234 : Ref sig .tc := ⟨.hbm, 328, rfl⟩
abbrev main_c_30 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_v238 : Ref sig .tc := ⟨.hbm, 333, rfl⟩
abbrev main_v239 : Ref sig .tc := ⟨.hbm, 334, rfl⟩
abbrev main_v240 : Ref sig .tc := ⟨.hbm, 335, rfl⟩
abbrev main_v241 : Ref sig .tc := ⟨.hbm, 336, rfl⟩
abbrev main_call26_v0 : Ref sig .tc := ⟨.hbm, 337, rfl⟩
abbrev main_call26_v1 : Ref sig .tc := ⟨.hbm, 338, rfl⟩
abbrev main_v242 : Ref sig .tc := ⟨.hbm, 339, rfl⟩
abbrev main_c_31 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_call27_v0 : Ref sig .tc := ⟨.hbm, 348, rfl⟩
abbrev main_call27_v1 : Ref sig .tc := ⟨.hbm, 349, rfl⟩
abbrev main_v250 : Ref sig .tc := ⟨.hbm, 350, rfl⟩
abbrev main_c_32 : Ref sig .tc := ⟨.hbm, 351, rfl⟩
abbrev main_v251 : Ref sig .tc := ⟨.hbm, 352, rfl⟩
abbrev main_v252 : Ref sig .tc := ⟨.hbm, 353, rfl⟩
abbrev main_v253 : Ref sig .tc := ⟨.hbm, 354, rfl⟩
abbrev main_v254 : Ref sig .tc := ⟨.hbm, 355, rfl⟩
abbrev main_v255 : Ref sig .tc := ⟨.hbm, 356, rfl⟩
abbrev main_v256 : Ref sig .tc := ⟨.hbm, 357, rfl⟩
abbrev main_v257 : Ref sig .tc := ⟨.hbm, 358, rfl⟩
abbrev main_call28_v0 : Ref sig .tc := ⟨.hbm, 359, rfl⟩
abbrev main_call28_v1 : Ref sig .tc := ⟨.hbm, 360, rfl⟩
abbrev main_v258 : Ref sig .tc := ⟨.hbm, 361, rfl⟩
abbrev main_c_33 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_call29_v0 : Ref sig .tc := ⟨.hbm, 370, rfl⟩
abbrev main_call29_v1 : Ref sig .tc := ⟨.hbm, 371, rfl⟩
abbrev main_v266 : Ref sig .tc := ⟨.hbm, 372, rfl⟩
abbrev main_c_34 : Ref sig .tc := ⟨.hbm, 373, rfl⟩
abbrev main_v267 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩
abbrev main_v272 : Ref sig .tc := ⟨.hbm, 379, rfl⟩
abbrev main_v273 : Ref sig .tc := ⟨.hbm, 380, rfl⟩
abbrev main_call30_v0 : Ref sig .tc := ⟨.hbm, 381, rfl⟩
abbrev main_call30_v1 : Ref sig .tc := ⟨.hbm, 382, rfl⟩
abbrev main_v274 : Ref sig .tc := ⟨.hbm, 383, rfl⟩
abbrev main_c_35 : Ref sig .tc := ⟨.hbm, 384, rfl⟩
abbrev main_v275 : Ref sig .tc := ⟨.hbm, 385, rfl⟩
abbrev main_v276 : Ref sig .tc := ⟨.hbm, 386, rfl⟩
abbrev main_v277 : Ref sig .tc := ⟨.hbm, 387, rfl⟩
abbrev main_v278 : Ref sig .tc := ⟨.hbm, 388, rfl⟩
abbrev main_v279 : Ref sig .tc := ⟨.hbm, 389, rfl⟩
abbrev main_v280 : Ref sig .tc := ⟨.hbm, 390, rfl⟩
abbrev main_v281 : Ref sig .tc := ⟨.hbm, 391, rfl⟩
abbrev main_call31_v0 : Ref sig .tc := ⟨.hbm, 392, rfl⟩
abbrev main_call31_v1 : Ref sig .tc := ⟨.hbm, 393, rfl⟩
abbrev main_v282 : Ref sig .tc := ⟨.hbm, 394, rfl⟩
abbrev main_c_36 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_v289 : Ref sig .tc := ⟨.hbm, 402, rfl⟩
abbrev main_call32_v0 : Ref sig .tc := ⟨.hbm, 403, rfl⟩
abbrev main_call32_v1 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c56_i32 : BitVec 32 := 56#32
  let c0_i32_9 : BitVec 32 := 0#32
  let arg1 : BitVec 32 := BitVec.ofNat 32 (i 1).val
  let c8_i32_8 : BitVec 32 := 8#32
  let v35 : BitVec 32 := Scalar.muli arg1 c8_i32_8
  let c0_i32_6 : BitVec 32 := 0#32
  let c8_i32 : BitVec 32 := 8#32
  let v33 : BitVec 32 := Scalar.muli c0_i32_6 c8_i32
  let c0_i32_7 : BitVec 32 := 0#32
  let v34 : BitVec 32 := Scalar.addi v33 c0_i32_7
  let v36 : BitVec 32 := Scalar.addi v35 v34
  let c4_i32 : BitVec 32 := 4#32
  let v37 : BitVec 32 := Scalar.subi v36 c4_i32
  let v38 : BitVec 32 := Scalar.maxsi c0_i32_9 v37
  let v39 : BitVec 32 := Scalar.minsi c56_i32 v38
  let c64_i32_13 : BitVec 32 := 64#32
  let v45 : BitVec 32 := Scalar.muli v39 c64_i32_13
  v45
def k0_mult2 : BitVec 32 :=
  let c0_i32_6 : BitVec 32 := 0#32
  let c8_i32 : BitVec 32 := 8#32
  let v33 : BitVec 32 := Scalar.muli c0_i32_6 c8_i32
  let c0_i32_7 : BitVec 32 := 0#32
  let v34 : BitVec 32 := Scalar.addi v33 c0_i32_7
  let c64_i32_14 : BitVec 32 := 64#32
  let v47 : BitVec 32 := Scalar.muli v34 c64_i32_14
  v47
def k0_off1 (c0_i32_7 : BitVec 32) : Fin 2 → Nat :=
  let c0_i32_6 : BitVec 32 := 0#32
  let c8_i32 : BitVec 32 := 8#32
  let v33 : BitVec 32 := Scalar.muli c0_i32_6 c8_i32
  let v34 : BitVec 32 := Scalar.addi v33 c0_i32_7
  let c64_i32_14 : BitVec 32 := 64#32
  let v47 : BitVec 32 := Scalar.muli v34 c64_i32_14
  let v48 : BitVec 32 := v47
  let v49 : Index := Scalar.indexCast v48
  let c0 : Index := 0#32
  ![v49.toNat, 0]
def k0_off2 (i : grid0.Coords) (c0_i32_7 : BitVec 32) : Fin 2 → Nat :=
  let c56_i32 : BitVec 32 := 56#32
  let c0_i32_9 : BitVec 32 := 0#32
  let arg1 : BitVec 32 := BitVec.ofNat 32 (i 1).val
  let c8_i32_8 : BitVec 32 := 8#32
  let v35 : BitVec 32 := Scalar.muli arg1 c8_i32_8
  let c0_i32_6 : BitVec 32 := 0#32
  let c8_i32 : BitVec 32 := 8#32
  let v33 : BitVec 32 := Scalar.muli c0_i32_6 c8_i32
  let v34 : BitVec 32 := Scalar.addi v33 c0_i32_7
  let v36 : BitVec 32 := Scalar.addi v35 v34
  let c4_i32 : BitVec 32 := 4#32
  let v37 : BitVec 32 := Scalar.subi v36 c4_i32
  let v38 : BitVec 32 := Scalar.maxsi c0_i32_9 v37
  let v39 : BitVec 32 := Scalar.minsi c56_i32 v38
  let c64_i32_13 : BitVec 32 := 64#32
  let v45 : BitVec 32 := Scalar.muli v39 c64_i32_13
  let v46 : BitVec 32 := v45
  let v51 : Index := Scalar.indexCast v46
  let c0_15 : Index := 0#32
  ![v51.toNat, 0]
def k0_off3 (i : grid0.Coords) (c0_i32_7 : BitVec 32) : Fin 4 → Nat :=
  let arg1 : BitVec 32 := BitVec.ofNat 32 (i 1).val
  let c8_i32_8 : BitVec 32 := 8#32
  let v35 : BitVec 32 := Scalar.muli arg1 c8_i32_8
  let c0_i32_6 : BitVec 32 := 0#32
  let c8_i32 : BitVec 32 := 8#32
  let v33 : BitVec 32 := Scalar.muli c0_i32_6 c8_i32
  let v34 : BitVec 32 := Scalar.addi v33 c0_i32_7
  let v36 : BitVec 32 := Scalar.addi v35 v34
  let c4_i32_10 : BitVec 32 := 4#32
  let v40 : BitVec 1 := Scalar.cmpi .slt v36 c4_i32_10
  let c60_i32 : BitVec 32 := 60#32
  let v41 : BitVec 1 := Scalar.cmpi .sgt v36 c60_i32
  let c56_i32_11 : BitVec 32 := 56#32
  let v42 : BitVec 32 := Scalar.subi v36 c56_i32_11
  let c4_i32_12 : BitVec 32 := 4#32
  let v43 : BitVec 32 := Scalar.select v41 v42 c4_i32_12
  let v44 : BitVec 32 := Scalar.select v40 v36 v43
  let v56 : Index := Scalar.indexCast v44
  let c0_17 : Index := 0#32
  let c0_18 : Index := 0#32
  let c0_19 : Index := 0#32
  ![v56.toNat, 0, 0, 0]
def k0_off4 (i : grid0.Coords) (c0_i32_7 : BitVec 32) : Fin 4 → Nat :=
  let arg1 : BitVec 32 := BitVec.ofNat 32 (i 1).val
  let c8_i32_8 : BitVec 32 := 8#32
  let v35 : BitVec 32 := Scalar.muli arg1 c8_i32_8
  let c0_i32_6 : BitVec 32 := 0#32
  let c8_i32 : BitVec 32 := 8#32
  let v33 : BitVec 32 := Scalar.muli c0_i32_6 c8_i32
  let v34 : BitVec 32 := Scalar.addi v33 c0_i32_7
  let v36 : BitVec 32 := Scalar.addi v35 v34
  let c4_i32_10 : BitVec 32 := 4#32
  let v40 : BitVec 1 := Scalar.cmpi .slt v36 c4_i32_10
  let c60_i32 : BitVec 32 := 60#32
  let v41 : BitVec 1 := Scalar.cmpi .sgt v36 c60_i32
  let c56_i32_11 : BitVec 32 := 56#32
  let v42 : BitVec 32 := Scalar.subi v36 c56_i32_11
  let c4_i32_12 : BitVec 32 := 4#32
  let v43 : BitVec 32 := Scalar.select v41 v42 c4_i32_12
  let v44 : BitVec 32 := Scalar.select v40 v36 v43
  let v63 : Index := Scalar.indexCast v44
  let c1 : Index := 1#32
  let c0_22 : Index := 0#32
  let c0_23 : Index := 0#32
  ![v63.toNat, 1, 0, 0]
def k0_off5 (i : grid0.Coords) (c0_i32_7 : BitVec 32) : Fin 4 → Nat :=
  let arg1 : BitVec 32 := BitVec.ofNat 32 (i 1).val
  let c8_i32_8 : BitVec 32 := 8#32
  let v35 : BitVec 32 := Scalar.muli arg1 c8_i32_8
  let c0_i32_6 : BitVec 32 := 0#32
  let c8_i32 : BitVec 32 := 8#32
  let v33 : BitVec 32 := Scalar.muli c0_i32_6 c8_i32
  let v34 : BitVec 32 := Scalar.addi v33 c0_i32_7
  let v36 : BitVec 32 := Scalar.addi v35 v34
  let c4_i32_10 : BitVec 32 := 4#32
  let v40 : BitVec 1 := Scalar.cmpi .slt v36 c4_i32_10
  let c60_i32 : BitVec 32 := 60#32
  let v41 : BitVec 1 := Scalar.cmpi .sgt v36 c60_i32
  let c56_i32_11 : BitVec 32 := 56#32
  let v42 : BitVec 32 := Scalar.subi v36 c56_i32_11
  let c4_i32_12 : BitVec 32 := 4#32
  let v43 : BitVec 32 := Scalar.select v41 v42 c4_i32_12
  let v44 : BitVec 32 := Scalar.select v40 v36 v43
  let v70 : Index := Scalar.indexCast v44
  let c2 : Index := 2#32
  let c0_26 : Index := 0#32
  let c0_27 : Index := 0#32
  ![v70.toNat, 2, 0, 0]
def k0_off6 (i : grid0.Coords) (c0_i32_7 : BitVec 32) : Fin 4 → Nat :=
  let arg1 : BitVec 32 := BitVec.ofNat 32 (i 1).val
  let c8_i32_8 : BitVec 32 := 8#32
  let v35 : BitVec 32 := Scalar.muli arg1 c8_i32_8
  let c0_i32_6 : BitVec 32 := 0#32
  let c8_i32 : BitVec 32 := 8#32
  let v33 : BitVec 32 := Scalar.muli c0_i32_6 c8_i32
  let v34 : BitVec 32 := Scalar.addi v33 c0_i32_7
  let v36 : BitVec 32 := Scalar.addi v35 v34
  let c4_i32_10 : BitVec 32 := 4#32
  let v40 : BitVec 1 := Scalar.cmpi .slt v36 c4_i32_10
  let c60_i32 : BitVec 32 := 60#32
  let v41 : BitVec 1 := Scalar.cmpi .sgt v36 c60_i32
  let c56_i32_11 : BitVec 32 := 56#32
  let v42 : BitVec 32 := Scalar.subi v36 c56_i32_11
  let c4_i32_12 : BitVec 32 := 4#32
  let v43 : BitVec 32 := Scalar.select v41 v42 c4_i32_12
  let v44 : BitVec 32 := Scalar.select v40 v36 v43
  let v77 : Index := Scalar.indexCast v44
  let c3 : Index := 3#32
  let c0_30 : Index := 0#32
  let c0_31 : Index := 0#32
  ![v77.toNat, 3, 0, 0]
def k0_mult3 (i : grid0.Coords) : BitVec 32 :=
  let c56_i32_37 : BitVec 32 := 56#32
  let c0_i32_36 : BitVec 32 := 0#32
  let arg1 : BitVec 32 := BitVec.ofNat 32 (i 1).val
  let c8_i32_34 : BitVec 32 := 8#32
  let v83 : BitVec 32 := Scalar.muli arg1 c8_i32_34
  let c0_i32_6 : BitVec 32 := 0#32
  let c8_i32_32 : BitVec 32 := 8#32
  let v81 : BitVec 32 := Scalar.muli c0_i32_6 c8_i32_32
  let c1_i32_33 : BitVec 32 := 1#32
  let v82 : BitVec 32 := Scalar.addi v81 c1_i32_33
  let v84 : BitVec 32 := Scalar.addi v83 v82
  let c4_i32_35 : BitVec 32 := 4#32
  let v85 : BitVec 32 := Scalar.subi v84 c4_i32_35
  let v86 : BitVec 32 := Scalar.maxsi c0_i32_36 v85
  let v87 : BitVec 32 := Scalar.minsi c56_i32_37 v86
  let c64_i32_42 : BitVec 32 := 64#32
  let v93 : BitVec 32 := Scalar.muli v87 c64_i32_42
  v93
def k0_mult4 : BitVec 32 :=
  let c0_i32_6 : BitVec 32 := 0#32
  let c8_i32_32 : BitVec 32 := 8#32
  let v81 : BitVec 32 := Scalar.muli c0_i32_6 c8_i32_32
  let c1_i32_33 : BitVec 32 := 1#32
  let v82 : BitVec 32 := Scalar.addi v81 c1_i32_33
  let c64_i32_43 : BitVec 32 := 64#32
  let v95 : BitVec 32 := Scalar.muli v82 c64_i32_43
  v95
def k0_mult5 (i : grid0.Coords) : BitVec 32 :=
  let c56_i32_71 : BitVec 32 := 56#32
  let c0_i32_70 : BitVec 32 := 0#32
  let arg1 : BitVec 32 := BitVec.ofNat 32 (i 1).val
  let c8_i32_68 : BitVec 32 := 8#32
  let v131 : BitVec 32 := Scalar.muli arg1 c8_i32_68
  let c0_i32_6 : BitVec 32 := 0#32
  let c8_i32_66 : BitVec 32 := 8#32
  let v129 : BitVec 32 := Scalar.muli c0_i32_6 c8_i32_66
  let c2_i32_67 : BitVec 32 := 2#32
  let v130 : BitVec 32 := Scalar.addi v129 c2_i32_67
  let v132 : BitVec 32 := Scalar.addi v131 v130
  let c4_i32_69 : BitVec 32 := 4#32
  let v133 : BitVec 32 := Scalar.subi v132 c4_i32_69
  let v134 : BitVec 32 := Scalar.maxsi c0_i32_70 v133
  let v135 : BitVec 32 := Scalar.minsi c56_i32_71 v134
  let c64_i32_76 : BitVec 32 := 64#32
  let v141 : BitVec 32 := Scalar.muli v135 c64_i32_76
  v141
def k0_mult6 : BitVec 32 :=
  let c0_i32_6 : BitVec 32 := 0#32
  let c8_i32_66 : BitVec 32 := 8#32
  let v129 : BitVec 32 := Scalar.muli c0_i32_6 c8_i32_66
  let c2_i32_67 : BitVec 32 := 2#32
  let v130 : BitVec 32 := Scalar.addi v129 c2_i32_67
  let c64_i32_77 : BitVec 32 := 64#32
  let v143 : BitVec 32 := Scalar.muli v130 c64_i32_77
  v143
def k0_mult7 (i : grid0.Coords) : BitVec 32 :=
  let c56_i32_105 : BitVec 32 := 56#32
  let c0_i32_104 : BitVec 32 := 0#32
  let arg1 : BitVec 32 := BitVec.ofNat 32 (i 1).val
  let c8_i32_102 : BitVec 32 := 8#32
  let v179 : BitVec 32 := Scalar.muli arg1 c8_i32_102
  let c0_i32_6 : BitVec 32 := 0#32
  let c8_i32_100 : BitVec 32 := 8#32
  let v177 : BitVec 32 := Scalar.muli c0_i32_6 c8_i32_100
  let c3_i32_101 : BitVec 32 := 3#32
  let v178 : BitVec 32 := Scalar.addi v177 c3_i32_101
  let v180 : BitVec 32 := Scalar.addi v179 v178
  let c4_i32_103 : BitVec 32 := 4#32
  let v181 : BitVec 32 := Scalar.subi v180 c4_i32_103
  let v182 : BitVec 32 := Scalar.maxsi c0_i32_104 v181
  let v183 : BitVec 32 := Scalar.minsi c56_i32_105 v182
  let c64_i32_110 : BitVec 32 := 64#32
  let v189 : BitVec 32 := Scalar.muli v183 c64_i32_110
  v189
def k0_mult8 : BitVec 32 :=
  let c0_i32_6 : BitVec 32 := 0#32
  let c8_i32_100 : BitVec 32 := 8#32
  let v177 : BitVec 32 := Scalar.muli c0_i32_6 c8_i32_100
  let c3_i32_101 : BitVec 32 := 3#32
  let v178 : BitVec 32 := Scalar.addi v177 c3_i32_101
  let c64_i32_111 : BitVec 32 := 64#32
  let v191 : BitVec 32 := Scalar.muli v178 c64_i32_111
  v191
def k0_mult9 (i : grid0.Coords) : BitVec 32 :=
  let c56_i32_139 : BitVec 32 := 56#32
  let c0_i32_138 : BitVec 32 := 0#32
  let arg1 : BitVec 32 := BitVec.ofNat 32 (i 1).val
  let c8_i32_136 : BitVec 32 := 8#32
  let v227 : BitVec 32 := Scalar.muli arg1 c8_i32_136
  let c0_i32_6 : BitVec 32 := 0#32
  let c8_i32_134 : BitVec 32 := 8#32
  let v225 : BitVec 32 := Scalar.muli c0_i32_6 c8_i32_134
  let c4_i32_135 : BitVec 32 := 4#32
  let v226 : BitVec 32 := Scalar.addi v225 c4_i32_135
  let v228 : BitVec 32 := Scalar.addi v227 v226
  let c4_i32_137 : BitVec 32 := 4#32
  let v229 : BitVec 32 := Scalar.subi v228 c4_i32_137
  let v230 : BitVec 32 := Scalar.maxsi c0_i32_138 v229
  let v231 : BitVec 32 := Scalar.minsi c56_i32_139 v230
  let c64_i32_144 : BitVec 32 := 64#32
  let v237 : BitVec 32 := Scalar.muli v231 c64_i32_144
  v237
def k0_mult10 : BitVec 32 :=
  let c0_i32_6 : BitVec 32 := 0#32
  let c8_i32_134 : BitVec 32 := 8#32
  let v225 : BitVec 32 := Scalar.muli c0_i32_6 c8_i32_134
  let c4_i32_135 : BitVec 32 := 4#32
  let v226 : BitVec 32 := Scalar.addi v225 c4_i32_135
  let c64_i32_145 : BitVec 32 := 64#32
  let v239 : BitVec 32 := Scalar.muli v226 c64_i32_145
  v239
def k0_mult11 (i : grid0.Coords) : BitVec 32 :=
  let c56_i32_172 : BitVec 32 := 56#32
  let c0_i32_171 : BitVec 32 := 0#32
  let arg1 : BitVec 32 := BitVec.ofNat 32 (i 1).val
  let c8_i32_169 : BitVec 32 := 8#32
  let v275 : BitVec 32 := Scalar.muli arg1 c8_i32_169
  let c0_i32_6 : BitVec 32 := 0#32
  let c8_i32_168 : BitVec 32 := 8#32
  let v273 : BitVec 32 := Scalar.muli c0_i32_6 c8_i32_168
  let c5_i32 : BitVec 32 := 5#32
  let v274 : BitVec 32 := Scalar.addi v273 c5_i32
  let v276 : BitVec 32 := Scalar.addi v275 v274
  let c4_i32_170 : BitVec 32 := 4#32
  let v277 : BitVec 32 := Scalar.subi v276 c4_i32_170
  let v278 : BitVec 32 := Scalar.maxsi c0_i32_171 v277
  let v279 : BitVec 32 := Scalar.minsi c56_i32_172 v278
  let c64_i32_177 : BitVec 32 := 64#32
  let v285 : BitVec 32 := Scalar.muli v279 c64_i32_177
  v285
def k0_mult12 : BitVec 32 :=
  let c0_i32_6 : BitVec 32 := 0#32
  let c8_i32_168 : BitVec 32 := 8#32
  let v273 : BitVec 32 := Scalar.muli c0_i32_6 c8_i32_168
  let c5_i32 : BitVec 32 := 5#32
  let v274 : BitVec 32 := Scalar.addi v273 c5_i32
  let c64_i32_178 : BitVec 32 := 64#32
  let v287 : BitVec 32 := Scalar.muli v274 c64_i32_178
  v287
def k0_mult13 (i : grid0.Coords) : BitVec 32 :=
  let c56_i32_205 : BitVec 32 := 56#32
  let c0_i32_204 : BitVec 32 := 0#32
  let arg1 : BitVec 32 := BitVec.ofNat 32 (i 1).val
  let c8_i32_202 : BitVec 32 := 8#32
  let v323 : BitVec 32 := Scalar.muli arg1 c8_i32_202
  let c0_i32_6 : BitVec 32 := 0#32
  let c8_i32_201 : BitVec 32 := 8#32
  let v321 : BitVec 32 := Scalar.muli c0_i32_6 c8_i32_201
  let c6_i32 : BitVec 32 := 6#32
  let v322 : BitVec 32 := Scalar.addi v321 c6_i32
  let v324 : BitVec 32 := Scalar.addi v323 v322
  let c4_i32_203 : BitVec 32 := 4#32
  let v325 : BitVec 32 := Scalar.subi v324 c4_i32_203
  let v326 : BitVec 32 := Scalar.maxsi c0_i32_204 v325
  let v327 : BitVec 32 := Scalar.minsi c56_i32_205 v326
  let c64_i32_210 : BitVec 32 := 64#32
  let v333 : BitVec 32 := Scalar.muli v327 c64_i32_210
  v333
def k0_mult14 : BitVec 32 :=
  let c0_i32_6 : BitVec 32 := 0#32
  let c8_i32_201 : BitVec 32 := 8#32
  let v321 : BitVec 32 := Scalar.muli c0_i32_6 c8_i32_201
  let c6_i32 : BitVec 32 := 6#32
  let v322 : BitVec 32 := Scalar.addi v321 c6_i32
  let c64_i32_211 : BitVec 32 := 64#32
  let v335 : BitVec 32 := Scalar.muli v322 c64_i32_211
  v335
def k0_mult15 (i : grid0.Coords) : BitVec 32 :=
  let c56_i32_238 : BitVec 32 := 56#32
  let c0_i32_237 : BitVec 32 := 0#32
  let arg1 : BitVec 32 := BitVec.ofNat 32 (i 1).val
  let c8_i32_235 : BitVec 32 := 8#32
  let v371 : BitVec 32 := Scalar.muli arg1 c8_i32_235
  let c0_i32_6 : BitVec 32 := 0#32
  let c8_i32_234 : BitVec 32 := 8#32
  let v369 : BitVec 32 := Scalar.muli c0_i32_6 c8_i32_234
  let c7_i32 : BitVec 32 := 7#32
  let v370 : BitVec 32 := Scalar.addi v369 c7_i32
  let v372 : BitVec 32 := Scalar.addi v371 v370
  let c4_i32_236 : BitVec 32 := 4#32
  let v373 : BitVec 32 := Scalar.subi v372 c4_i32_236
  let v374 : BitVec 32 := Scalar.maxsi c0_i32_237 v373
  let v375 : BitVec 32 := Scalar.minsi c56_i32_238 v374
  let c64_i32_243 : BitVec 32 := 64#32
  let v381 : BitVec 32 := Scalar.muli v375 c64_i32_243
  v381
def k0_mult16 : BitVec 32 :=
  let c0_i32_6 : BitVec 32 := 0#32
  let c8_i32_234 : BitVec 32 := 8#32
  let v369 : BitVec 32 := Scalar.muli c0_i32_6 c8_i32_234
  let c7_i32 : BitVec 32 := 7#32
  let v370 : BitVec 32 := Scalar.addi v369 c7_i32
  let c64_i32_244 : BitVec 32 := 64#32
  let v383 : BitVec 32 := Scalar.muli v370 c64_i32_244
  v383
def k0_mult17 : BitVec 32 :=
  let c0_i32_6 : BitVec 32 := 0#32
  let c8_i32 : BitVec 32 := 8#32
  let v33 : BitVec 32 := Scalar.muli c0_i32_6 c8_i32
  let c0_i32_7 : BitVec 32 := 0#32
  let v34 : BitVec 32 := Scalar.addi v33 c0_i32_7
  let c64_i32_337 : BitVec 32 := 64#32
  let v748 : BitVec 32 := Scalar.muli v34 c64_i32_337
  v748
def k0_mult18 : BitVec 32 :=
  let c0_i32_6 : BitVec 32 := 0#32
  let c8_i32_32 : BitVec 32 := 8#32
  let v81 : BitVec 32 := Scalar.muli c0_i32_6 c8_i32_32
  let c1_i32_33 : BitVec 32 := 1#32
  let v82 : BitVec 32 := Scalar.addi v81 c1_i32_33
  let c64_i32_345 : BitVec 32 := 64#32
  let v763 : BitVec 32 := Scalar.muli v82 c64_i32_345
  v763
def k0_mult19 : BitVec 32 :=
  let c0_i32_6 : BitVec 32 := 0#32
  let c8_i32_66 : BitVec 32 := 8#32
  let v129 : BitVec 32 := Scalar.muli c0_i32_6 c8_i32_66
  let c2_i32_67 : BitVec 32 := 2#32
  let v130 : BitVec 32 := Scalar.addi v129 c2_i32_67
  let c64_i32_353 : BitVec 32 := 64#32
  let v778 : BitVec 32 := Scalar.muli v130 c64_i32_353
  v778
def k0_mult20 : BitVec 32 :=
  let c0_i32_6 : BitVec 32 := 0#32
  let c8_i32_100 : BitVec 32 := 8#32
  let v177 : BitVec 32 := Scalar.muli c0_i32_6 c8_i32_100
  let c3_i32_101 : BitVec 32 := 3#32
  let v178 : BitVec 32 := Scalar.addi v177 c3_i32_101
  let c64_i32_361 : BitVec 32 := 64#32
  let v793 : BitVec 32 := Scalar.muli v178 c64_i32_361
  v793
def k0_mult21 : BitVec 32 :=
  let c0_i32_6 : BitVec 32 := 0#32
  let c8_i32_134 : BitVec 32 := 8#32
  let v225 : BitVec 32 := Scalar.muli c0_i32_6 c8_i32_134
  let c4_i32_135 : BitVec 32 := 4#32
  let v226 : BitVec 32 := Scalar.addi v225 c4_i32_135
  let c64_i32_369 : BitVec 32 := 64#32
  let v808 : BitVec 32 := Scalar.muli v226 c64_i32_369
  v808
def k0_mult22 : BitVec 32 :=
  let c0_i32_6 : BitVec 32 := 0#32
  let c8_i32_168 : BitVec 32 := 8#32
  let v273 : BitVec 32 := Scalar.muli c0_i32_6 c8_i32_168
  let c5_i32 : BitVec 32 := 5#32
  let v274 : BitVec 32 := Scalar.addi v273 c5_i32
  let c64_i32_377 : BitVec 32 := 64#32
  let v823 : BitVec 32 := Scalar.muli v274 c64_i32_377
  v823
def k0_mult23 : BitVec 32 :=
  let c0_i32_6 : BitVec 32 := 0#32
  let c8_i32_201 : BitVec 32 := 8#32
  let v321 : BitVec 32 := Scalar.muli c0_i32_6 c8_i32_201
  let c6_i32 : BitVec 32 := 6#32
  let v322 : BitVec 32 := Scalar.addi v321 c6_i32
  let c64_i32_385 : BitVec 32 := 64#32
  let v838 : BitVec 32 := Scalar.muli v322 c64_i32_385
  v838
def k0_mult24 : BitVec 32 :=
  let c0_i32_6 : BitVec 32 := 0#32
  let c8_i32_234 : BitVec 32 := 8#32
  let v369 : BitVec 32 := Scalar.muli c0_i32_6 c8_i32_234
  let c7_i32 : BitVec 32 := 7#32
  let v370 : BitVec 32 := Scalar.addi v369 c7_i32
  let c64_i32_393 : BitVec 32 := 64#32
  let v853 : BitVec 32 := Scalar.muli v370 c64_i32_393
  v853
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x4x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S16384x256 : Shape := ⟨2, ![16384, 256]⟩
abbrev S4x15x31 : Shape := ⟨3, ![4, 15, 31]⟩
abbrev S4x4096x256 : Shape := ⟨3, ![4, 4096, 256]⟩
abbrev S64 : Shape := ⟨1, ![64]⟩
abbrev S_ : Shape := ⟨0, ![]⟩
abbrev S64x1 : Shape := ⟨2, ![64, 1]⟩
abbrev S8 : Shape := ⟨1, ![8]⟩
abbrev S1x8 : Shape := ⟨2, ![1, 8]⟩
abbrev S64x8 : Shape := ⟨2, ![64, 8]⟩
abbrev S1x64 : Shape := ⟨2, ![1, 64]⟩
abbrev S64x64 : Shape := ⟨2, ![64, 64]⟩
abbrev S64x1x8x1 : Shape := ⟨4, ![64, 1, 8, 1]⟩
abbrev S1x64x1x64 : Shape := ⟨4, ![1, 64, 1, 64]⟩
abbrev S64x64x8x64 : Shape := ⟨4, ![64, 64, 8, 64]⟩
abbrev S64x64x8x64x1 : Shape := ⟨5, ![64, 64, 8, 64, 1]⟩
abbrev S64x64x8x64x2 : Shape := ⟨5, ![64, 64, 8, 64, 2]⟩
abbrev S4x64x64x8x64 : Shape := ⟨5, ![4, 64, 64, 8, 64]⟩
abbrev S1x1x64x1x64 : Shape := ⟨5, ![1, 1, 64, 1, 64]⟩
abbrev S4x64x64x4x64 : Shape := ⟨5, ![4, 64, 64, 4, 64]⟩
abbrev S4x4x64x64x64 : Shape := ⟨5, ![4, 4, 64, 64, 64]⟩
abbrev S64x8x1 : Shape := ⟨3, ![64, 8, 1]⟩
abbrev S4x4x64x8x64x64 : Shape := ⟨6, ![4, 4, 64, 8, 64, 64]⟩
abbrev S4x4x64x64x8x64 : Shape := ⟨6, ![4, 4, 64, 64, 8, 64]⟩
abbrev S1x4x64x64x8x64 : Shape := ⟨6, ![1, 4, 64, 64, 8, 64]⟩
abbrev S4x4x64x64x512 : Shape := ⟨5, ![4, 4, 64, 64, 512]⟩
abbrev S4x4x64x64 : Shape := ⟨4, ![4, 4, 64, 64]⟩
abbrev S4x4x64x64x1 : Shape := ⟨5, ![4, 4, 64, 64, 1]⟩

abbrev nBuf : Space → Nat
  | .hbm => 151
  | .vmem => 0
  | .smem => 0
  | _ => 0

abbrev hbmTy0_0 (i : Nat) : BufTy := match i % 128 with
  | 0 => ⟨S16384x256, .bf16⟩
  | 1 => ⟨S16384x256, .bf16⟩
  | 2 => ⟨S16384x256, .bf16⟩
  | 3 => ⟨S4x15x31, .f32⟩
  | 4 => ⟨S16384x256, .f32⟩
  | 5 => ⟨S4x4096x256, .f32⟩
  | 6 => ⟨S16384x256, .f32⟩
  | 7 => ⟨S4x4096x256, .f32⟩
  | 8 => ⟨S16384x256, .f32⟩
  | 9 => ⟨S4x4096x256, .f32⟩
  | 10 => ⟨S64, .i32⟩
  | 11 => ⟨S_, .i32⟩
  | 12 => ⟨S64, .i32⟩
  | 13 => ⟨S64, .i32⟩
  | 14 => ⟨S_, .i32⟩
  | 15 => ⟨S_, .i32⟩
  | 16 => ⟨S_, .i32⟩
  | 17 => ⟨S64, .i32⟩
  | 18 => ⟨S64, .i32⟩
  | 19 => ⟨S_, .i32⟩
  | 20 => ⟨S64, .i32⟩
  | 21 => ⟨S64, .i32⟩
  | 22 => ⟨S64x1, .i32⟩
  | 23 => ⟨S8, .i32⟩
  | 24 => ⟨S1x8, .i32⟩
  | 25 => ⟨S64x8, .i32⟩
  | 26 => ⟨S64x8, .i32⟩
  | 27 => ⟨S64x8, .i32⟩
  | 28 => ⟨S64, .i32⟩
  | 29 => ⟨S_, .i32⟩
  | 30 => ⟨S64, .i32⟩
  | 31 => ⟨S64, .i32⟩
  | 32 => ⟨S_, .i32⟩
  | 33 => ⟨S_, .i32⟩
  | 34 => ⟨S_, .i32⟩
  | 35 => ⟨S64, .i32⟩
  | 36 => ⟨S64, .i32⟩
  | 37 => ⟨S_, .i32⟩
  | 38 => ⟨S64, .i32⟩
  | 39 => ⟨S64, .i32⟩
  | 40 => ⟨S1x64, .i32⟩
  | 41 => ⟨S64x1, .i32⟩
  | 42 => ⟨S64x64, .i32⟩
  | 43 => ⟨S64x64, .i32⟩
  | 44 => ⟨S64x64, .i1⟩
  | 45 => ⟨S1x64, .i32⟩
  | 46 => ⟨S64x1, .i32⟩
  | 47 => ⟨S_, .i32⟩
  | 48 => ⟨S64x1, .i32⟩
  | 49 => ⟨S64x1, .i32⟩
  | 50 => ⟨S64x64, .i32⟩
  | 51 => ⟨S64x64, .i32⟩
  | 52 => ⟨S64x64, .i1⟩
  | 53 => ⟨S64x64, .i1⟩
  | 54 => ⟨S64x1, .i32⟩
  | 55 => ⟨S64x8, .i32⟩
  | 56 => ⟨S64x8, .i32⟩
  | 57 => ⟨S_, .i32⟩
  | 58 => ⟨S64x8, .i32⟩
  | 59 => ⟨S64x8, .i32⟩
  | 60 => ⟨S1x64, .i32⟩
  | 61 => ⟨S64x1, .i32⟩
  | 62 => ⟨S64x64, .i32⟩
  | 63 => ⟨S64x64, .i32⟩
  | 64 => ⟨S64x64, .i32⟩
  | 65 => ⟨S_, .i32⟩
  | 66 => ⟨S_, .i32⟩
  | 67 => ⟨S_, .i32⟩
  | 68 => ⟨S64x64, .i32⟩
  | 69 => ⟨S64x64, .i32⟩
  | 70 => ⟨S_, .i32⟩
  | 71 => ⟨S64x64, .i32⟩
  | 72 => ⟨S64x64, .i32⟩
  | 73 => ⟨S_, .i32⟩
  | 74 => ⟨S64x64, .i32⟩
  | 75 => ⟨S64x64, .i32⟩
  | 76 => ⟨S64x1x8x1, .i32⟩
  | 77 => ⟨S1x64x1x64, .i32⟩
  | 78 => ⟨S_, .i32⟩
  | 79 => ⟨S64x1x8x1, .i32⟩
  | 80 => ⟨S64x1x8x1, .i1⟩
  | 81 => ⟨S_, .i32⟩
  | 82 => ⟨S64x1x8x1, .i32⟩
  | 83 => ⟨S64x1x8x1, .i32⟩
  | 84 => ⟨S64x1x8x1, .i32⟩
  | 85 => ⟨S_, .i32⟩
  | 86 => ⟨S1x64x1x64, .i32⟩
  | 87 => ⟨S1x64x1x64, .i1⟩
  | 88 => ⟨S_, .i32⟩
  | 89 => ⟨S1x64x1x64, .i32⟩
  | 90 => ⟨S1x64x1x64, .i32⟩
  | 91 => ⟨S1x64x1x64, .i32⟩
  | 92 => ⟨S64x64x8x64, .i32⟩
  | 93 => ⟨S64x64x8x64, .i32⟩
  | 94 => ⟨S64x64x8x64x1, .i32⟩
  | 95 => ⟨S64x64x8x64x1, .i32⟩
  | 96 => ⟨S64x64x8x64x2, .i32⟩
  | 97 => ⟨S4x64x64x8x64, .f32⟩
  | 98 => ⟨S1x1x64x1x64, .i1⟩
  | 99 => ⟨S_, .f32⟩
  | 100 => ⟨S_, .f32⟩
  | 101 => ⟨S4x64x64x8x64, .i1⟩
  | 102 => ⟨S4x64x64x8x64, .f32⟩
  | 103 => ⟨S4x64x64x8x64, .f32⟩
  | 104 => ⟨S4x64x64x4x64, .f32⟩
  | 105 => ⟨S4x4x64x64x64, .f32⟩
  | 106 => ⟨S4x64x64x4x64, .f32⟩
  | 107 => ⟨S4x4x64x64x64, .f32⟩
  | 108 => ⟨S_, .i32⟩
  | 109 => ⟨S64x8, .i32⟩
  | 110 => ⟨S64x8, .i1⟩
  | 111 => ⟨S_, .i32⟩
  | 112 => ⟨S64x8, .i32⟩
  | 113 => ⟨S64x8, .i32⟩
  | 114 => ⟨S64x8, .i32⟩
  | 115 => ⟨S64x8x1, .i32⟩
  | 116 => ⟨S4x4x64x8x64x64, .f32⟩
  | 117 => ⟨S4x64x64x4x64, .f32⟩
  | 118 => ⟨S4x4x64x64x64, .f32⟩
  | 119 => ⟨S_, .i32⟩
  | 120 => ⟨S64x8, .i32⟩
  | 121 => ⟨S64x8, .i1⟩
  | 122 => ⟨S_, .i32⟩
  | 123 => ⟨S64x8, .i32⟩
  | 124 => ⟨S64x8, .i32⟩
  | 125 => ⟨S64x8, .i32⟩
  | 126 => ⟨S64x8x1, .i32⟩
  | 127 => ⟨S4x4x64x8x64x64, .f32⟩
  | _ => ⟨S16384x256, .bf16⟩

abbrev hbmTy0_1 (i : Nat) : BufTy := match i % 128 with
  | 0 => ⟨S4x4x64x64x8x64, .f32⟩
  | 1 => ⟨S1x4x64x64x8x64, .f32⟩
  | 2 => ⟨S4x4x64x64x8x64, .f32⟩
  | 3 => ⟨S4x4x64x64x8x64, .f32⟩
  | 4 => ⟨S4x4x64x64x512, .f32⟩
  | 5 => ⟨S_, .f32⟩
  | 6 => ⟨S4x4x64x64, .f32⟩
  | 7 => ⟨S_, .f32⟩
  | 8 => ⟨S4x4x64x64, .f32⟩
  | 9 => ⟨S4x4x64x64, .f32⟩
  | 10 => ⟨S4x4x64x64x1, .f32⟩
  | 11 => ⟨S4x4x64x64x512, .f32⟩
  | 12 => ⟨S4x4x64x64x512, .f32⟩
  | 13 => ⟨S4x4x64x64x512, .f32⟩
  | 14 => ⟨S_, .f32⟩
  | 15 => ⟨S4x4x64x64, .f32⟩
  | 16 => ⟨S4x4x64x64x1, .f32⟩
  | 17 => ⟨S4x4x64x64x512, .f32⟩
  | 18 => ⟨S4x4x64x64x512, .f32⟩
  | 19 => ⟨S4x4x64x64x8x64, .f32⟩
  | 20 => ⟨S4x4x64x64x64, .f32⟩
  | 21 => ⟨S4x64x64x4x64, .f32⟩
  | 22 => ⟨S16384x256, .f32⟩
  | _ => ⟨S16384x256, .bf16⟩

abbrev hbmTy (i : Nat) : BufTy := match i / 128 with
  | 0 => hbmTy0_0 i
  | 1 => hbmTy0_1 i
  | _ => ⟨S16384x256, .bf16⟩

abbrev bufTy : (tb : Table) → Fin (tcTables nBuf tb) → BufTy
  | .hbm, ⟨i, _⟩ => hbmTy i
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_c_4 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_7 : Ref sig .tc := ⟨.hbm, 65, rfl⟩
abbrev main_c_8 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_10 : Ref sig .tc := ⟨.hbm, 78, rfl⟩
abbrev main_v48 : Ref sig .tc := ⟨.hbm, 79, rfl⟩
abbrev main_v49 : Ref sig .tc := ⟨.hbm, 80, rfl⟩
abbrev main_c_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_v53 : Ref sig .tc := ⟨.hbm, 86, rfl⟩
abbrev main_v54 : Ref sig .tc := ⟨.hbm, 87, rfl⟩
abbrev main_c_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_14 : Ref sig .tc := ⟨.hbm, 108, rfl⟩
abbrev main_v70 : Ref sig .tc := ⟨.hbm, 109, rfl⟩
abbrev main_v71 : Ref sig .tc := ⟨.hbm, 110, rfl⟩
abbrev main_c_15 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_16 : Ref sig .tc := ⟨.hbm, 119, rfl⟩
abbrev main_v79 : Ref sig .tc := ⟨.hbm, 120, rfl⟩
abbrev main_v80 : Ref sig .tc := ⟨.hbm, 121, rfl⟩
abbrev main_c_17 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_18 : Ref sig .tc := ⟨.hbm, 133, rfl⟩
abbrev main_v91 : Ref sig .tc := ⟨.hbm, 134, rfl⟩
abbrev main_cst_19 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_20 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x5632 : Shape := ⟨2, ![1024, 5632]⟩
abbrev S1x1024 : Shape := ⟨2, ![1, 1024]⟩
abbrev S16384x256 : Shape := ⟨2, ![16384, 256]⟩
abbrev S16384x512 : Shape := ⟨2, ![16384, 512]⟩
abbrev S16384x3072 : Shape := ⟨2, ![16384, 3072]⟩
abbrev S256x1024 : Shape := ⟨2, ![256, 1024]⟩
abbrev S256x256 : Shape := ⟨2, ![256, 256]⟩
abbrev S256x512 : Shape := ⟨2, ![256, 512]⟩
abbrev S256x3072 : Shape := ⟨2, ![256, 3072]⟩
abbrev S256 : Shape := ⟨1, ![256]⟩
abbrev S256x1 : Shape := ⟨2, ![256, 1]⟩
abbrev S1024x256 : Shape := ⟨2, ![1024, 256]⟩
abbrev S1024x512 : Shape := ⟨2, ![1024, 512]⟩
abbrev S1024x1024 : Shape := ⟨2, ![1024, 1024]⟩

abbrev nBuf : Space → Nat
  | .hbm => 14
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S1024x5632, .bf16⟩
  | .hbm, ⟨4, _⟩ => ⟨S1x1024, .f32⟩
  | .hbm, ⟨5, _⟩ => ⟨S16384x256, .f32⟩
  | .hbm, ⟨6, _⟩ => ⟨S16384x256, .f32⟩
  | .hbm, ⟨7, _⟩ => ⟨S16384x256, .f32⟩
  | .hbm, ⟨8, _⟩ => ⟨S16384x512, .bf16⟩
  | .hbm, ⟨9, _⟩ => ⟨S16384x512, .f32⟩
  | .hbm, ⟨10, _⟩ => ⟨S16384x256, .bf16⟩
  | .hbm, ⟨11, _⟩ => ⟨S16384x256, .bf16⟩
  | .hbm, ⟨12, _⟩ => ⟨S16384x256, .bf16⟩
  | .hbm, ⟨13, _⟩ => ⟨S16384x3072, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x512, .bf16⟩
  | .local _ .vmem, ⟨11, _⟩ => ⟨S256x512, .bf16⟩
  | .local _ .vmem, ⟨12, _⟩ => ⟨S256x512, .f32⟩
  | .local _ .vmem, ⟨13, _⟩ => ⟨S256x512, .f32⟩
  | .local _ .vmem, ⟨14, _⟩ => ⟨S256x256, .bf16⟩
  | .local _ .vmem, ⟨15, _⟩ => ⟨S256x256, .bf16⟩
  | .local _ .vmem, ⟨16, _⟩ => ⟨S256x256, .bf16⟩
  | .local _ .vmem, ⟨17, _⟩ => ⟨S256x256, .bf16⟩
  | .local _ .vmem, ⟨18, _⟩ => ⟨S256x256, .bf16⟩
  | .local _ .vmem, ⟨19, _⟩ => ⟨S256x256, .bf16⟩
  | .local _ .vmem, ⟨20, _⟩ => ⟨S256x3072, .f32⟩
  | .local _ .vmem, ⟨21, _⟩ => ⟨S256x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev main_v2_6 : Ref sig .tc := ⟨.hbm, 11, rfl⟩
abbrev main_v2_7 : Ref sig .tc := ⟨.hbm, 12, rfl⟩
abbrev main_v2_8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S1024 : Shape := ⟨1, ![1024]⟩
abbrev S1024x5632 : Shape := ⟨2, ![1024, 5632]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x256 : Shape := ⟨2, ![16384, 256]⟩
abbrev S16384x512 : Shape := ⟨2, ![16384, 512]⟩
abbrev S16384x3072 : Shape := ⟨2, ![16384, 3072]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x5632, .f32⟩
  | .hbm, ⟨20, _⟩ => ⟨S16384x256, .f32⟩
  | .hbm, ⟨21, _⟩ => ⟨S16384x256, .f32⟩
  | .hbm, ⟨22, _⟩ => ⟨S16384x256, .f32⟩
  | .hbm, ⟨23, _⟩ => ⟨S16384x512, .f32⟩
  | .hbm, ⟨24, _⟩ => ⟨S16384x512, .f32⟩
  | .hbm, ⟨25, _⟩ => ⟨S16384x256, .f32⟩
  | .hbm, ⟨26, _⟩ => ⟨S16384x256, .f32⟩
  | .hbm, ⟨27, _⟩ => ⟨S16384x256, .f32⟩
  | .hbm, ⟨28, _⟩ => ⟨S16384x3072, .f32⟩
  | .hbm, ⟨29, _⟩ => ⟨S_, .f32⟩
  | .hbm, ⟨30, _⟩ => ⟨S16384x256, .f32⟩
  | .hbm, ⟨31, _⟩ => ⟨S16384x256, .f32⟩
  | .hbm, ⟨32, _⟩ => ⟨S16384x512, .bf16⟩
  | .hbm, ⟨33, _⟩ => ⟨S16384x256, .bf16⟩
  | .hbm, ⟨34, _⟩ => ⟨S16384x256, .bf16⟩
  | .hbm, ⟨35, _⟩ => ⟨S16384x256, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel3.lean ====
abbrev S16384x1024 : Shape := ⟨2, ![16384, 1024]⟩
abbrev S16384x256 : Shape := ⟨2, ![16384, 256]⟩
abbrev S16384x512 : Shape := ⟨2, ![16384, 512]⟩
abbrev S16384x3072 : Shape := ⟨2, ![16384, 3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S2x128x128 : Shape := ⟨3, ![2, 128, 128]⟩
abbrev S1x1024 : Shape := ⟨2, ![1, 1024]⟩
abbrev S1024x16384 : Shape := ⟨2, ![1024, 16384]⟩
abbrev S8x2x128x16384 : Shape := ⟨4, ![8, 2, 128, 16384]⟩
abbrev S256x256 : Shape := ⟨2, ![256, 256]⟩
abbrev S256x512 : Shape := ⟨2, ![256, 512]⟩
abbrev S256x3072 : Shape := ⟨2, ![256, 3072]⟩
abbrev S1024x256 : Shape := ⟨2, ![1024, 256]⟩
abbrev S8x2x128x256 : Shape := ⟨4, ![8, 2, 128, 256]⟩
abbrev S256 : Shape := ⟨1, ![256]⟩
abbrev S256x1 : Shape := ⟨2, ![256, 1]⟩
abbrev S256x2048 : Shape := ⟨2, ![256, 2048]⟩
abbrev S1x128x128 : Shape := ⟨3, ![1, 128, 128]⟩
abbrev S128x128 : Shape := ⟨2, ![128, 128]⟩
abbrev S256x128 : Shape := ⟨2, ![256, 128]⟩
abbrev S128x256 : Shape := ⟨2, ![128, 256]⟩
abbrev S1x1x128x256 : Shape := ⟨4, ![1, 1, 128, 256]⟩

abbrev nBuf : Space → Nat
  | .hbm => 22
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S16384x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S2x128x128, .f32⟩
  | .hbm, ⟨12, _⟩ => ⟨S256x1024, .bf16⟩
  | .hbm, ⟨13, _⟩ => ⟨S512x1024, .bf16⟩
  | .hbm, ⟨14, _⟩ => ⟨S256x1024, .bf16⟩
  | .hbm, ⟨15, _⟩ => ⟨S1024x1024, .bf16⟩
  | .hbm, ⟨16, _⟩ => ⟨S1024x2048, .bf16⟩
  | .hbm, ⟨17, _⟩ => ⟨S2x128x128, .bf16⟩
  | .hbm, ⟨18, _⟩ => ⟨S1x1024, .f32⟩
  | .hbm, ⟨19, _⟩ => ⟨S16384x1024, .f32⟩
  | .hbm, ⟨20, _⟩ => ⟨S1024x16384, .bf16⟩
  | .hbm, ⟨21, _⟩ => ⟨S8x2x128x16384, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x512, .f32⟩
  | .local _ .vmem, ⟨5, _⟩ => ⟨S256x512, .f32⟩
  | .local _ .vmem, ⟨6, _⟩ => ⟨S256x256, .f32⟩
  | .local _ .vmem, ⟨7, _⟩ => ⟨S256x256, .f32⟩
  | .local _ .vmem, ⟨8, _⟩ => ⟨S256x3072, .f32⟩
  | .local _ .vmem, ⟨9, _⟩ => ⟨S256x3072, .f32⟩
  | .local _ .vmem, ⟨10, _⟩ => ⟨S256x1024, .bf16⟩
  | .local _ .vmem, ⟨11, _⟩ => ⟨S512x1024, .bf16⟩
  | .local _ .vmem, ⟨12, _⟩ => ⟨S256x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x2048, .bf16⟩
  | .local _ .vmem, ⟨16, _⟩ => ⟨S2x128x128, .bf16⟩
  | .local _ .vmem, ⟨17, _⟩ => ⟨S256x1024, .f32⟩
  | .local _ .vmem, ⟨18, _⟩ => ⟨S256x1024, .f32⟩
  | .local _ .vmem, ⟨19, _⟩ => ⟨S1024x256, .bf16⟩
  | .local _ .vmem, ⟨20, _⟩ => ⟨S1024x256, .bf16⟩
  | .local _ .vmem, ⟨21, _⟩ => ⟨S8x2x128x256, .f32⟩
  | .local _ .vmem, ⟨22, _⟩ => ⟨S8x2x128x256, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x2x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S16384x256 : Shape := ⟨2, ![16384, 256]⟩
abbrev S16384x512 : Shape := ⟨2, ![16384, 512]⟩
abbrev S16384x3072 : Shape := ⟨2, ![16384, 3072]⟩
abbrev S256x1024 : Shape := ⟨2, ![256, 1024]⟩
abbrev S512x1024 : Shape := ⟨2, ![512, 1024]⟩
abbrev S1024x1024 : Shape := ⟨2, ![1024, 1024]⟩
abbrev S1024 : Shape := ⟨1, ![1024]⟩
abbrev S1024x2048 : Shape := ⟨2, ![1024, 2048]⟩
abbrev S2x128x128 : Shape := ⟨3, ![2, 128, 128]⟩
abbrev S_ : Shape := ⟨0, ![]⟩
abbrev S16384x3x1024 : Shape := ⟨3, ![16384, 3, 1024]⟩
abbrev S16384x1x1024 : Shape := ⟨3, ![16384, 1, 1024]⟩
abbrev S16384 : Shape := ⟨1, ![16384]⟩
abbrev S16384x1 : Shape := ⟨2, ![16384, 1]⟩
abbrev S1x1024 : Shape := ⟨2, ![1, 1024]⟩
abbrev S16384x2048 : Shape := ⟨2, ![16384, 2048]⟩
abbrev S16384x8x2x128 : Shape := ⟨4, ![16384, 8, 2, 128]⟩
abbrev S2x128x16384x8 : Shape := ⟨4, ![2, 128, 16384, 8]⟩
abbrev S1024x16384 : Shape := ⟨2, ![1024, 16384]⟩
abbrev S8x2x128x16384 : Shape := ⟨4, ![8, 2, 128, 16384]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x256, .f32⟩
  | .hbm, ⟨2, _⟩ => ⟨S16384x512, .f32⟩
  | .hbm, ⟨3, _⟩ => ⟨S16384x256, .f32⟩
  | .hbm, ⟨4, _⟩ => ⟨S16384x3072, .f32⟩
  | .hbm, ⟨5, _⟩ => ⟨S256x1024, .f32⟩
  | .hbm, ⟨6, _⟩ => ⟨S512x1024, .f32⟩
  | .hbm, ⟨7, _⟩ => ⟨S256x1024, .f32⟩
  | .hbm, ⟨8, _⟩ => ⟨S1024x1024, .f32⟩
  | .hbm, ⟨9, _⟩ => ⟨S1024, .f32⟩
  | .hbm, ⟨10, _⟩ => ⟨S1024x2048, .f32⟩
  | .hbm, ⟨11, _⟩ => ⟨S2x128x128, .f32⟩
  | .hbm, ⟨12, _⟩ => ⟨S16384x3072, .f32⟩
  | .hbm, ⟨13, _⟩ => ⟨S16384x3072, .f32⟩
  | .hbm, ⟨14, _⟩ => ⟨S_, .f32⟩
  | .hbm, ⟨15, _⟩ => ⟨S16384x3072, .f32⟩
  | .hbm, ⟨16, _⟩ => ⟨S16384x3072, .f32⟩
  | .hbm, ⟨17, _⟩ => ⟨S_, .f32⟩
  | .hbm, ⟨18, _⟩ => ⟨S16384x3072, .f32⟩
  | .hbm, ⟨19, _⟩ => ⟨S16384x3072, .f32⟩
  | .hbm, ⟨20, _⟩ => ⟨S16384x3x1024, .f32⟩
  | .hbm, ⟨21, _⟩ => ⟨S16384x1x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x2048, .f32⟩
  | .hbm, ⟨54, _⟩ => ⟨S16384x8x2x128, .f32⟩
  | .hbm, ⟨55, _⟩ => ⟨S2x128x16384x8, .f32⟩
  | .hbm, ⟨56, _⟩ => ⟨S16384x8x2x128, .f32⟩
  | .hbm, ⟨57, _⟩ => ⟨S1024x16384, .f32⟩
  | .hbm, ⟨58, _⟩ => ⟨S1024x16384, .bf16⟩
  | .hbm, ⟨59, _⟩ => ⟨S8x2x128x16384, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩

abbrev nD : Nat := 1
abbrev τ : Topo := Topo.v7x

variable {F : FTy → Type} [FloatOps F]
-- ==== Kernel4.lean ====
abbrev S16384x256 : Shape := ⟨2, ![16384, 256]⟩
abbrev S4x64x64 : Shape := ⟨3, ![4, 64, 64]⟩
abbrev S256 : Shape := ⟨1, ![256]⟩
abbrev S_ : Shape := ⟨0, ![]⟩
abbrev S128x128 : Shape := ⟨2, ![128, 128]⟩
abbrev S1x64x64 : Shape := ⟨3, ![1, 64, 64]⟩
abbrev S64x64 : Shape := ⟨2, ![64, 64]⟩
abbrev S1 : Shape := ⟨1, ![1]⟩
abbrev S2 : Shape := ⟨1, ![2]⟩
abbrev S1x128x128 : Shape := ⟨3, ![1, 128, 128]⟩
abbrev S2x128x128 : Shape := ⟨3, ![2, 128, 128]⟩
abbrev S2x1x128 : Shape := ⟨3, ![2, 1, 128]⟩
abbrev S4096x128 : Shape := ⟨2, ![4096, 128]⟩
abbrev S1x1x128 : Shape := ⟨3, ![1, 1, 128]⟩
abbrev S1x128 : Shape := ⟨2, ![1, 128]⟩

abbrev nBuf : Space → Nat
  | .hbm => 45
  | .vmem => 8
  | .smem => 0
  | _ => 0

abbrev bufTy : (tb : Table) → Fin (tcTables nBuf tb) → BufTy
  | .hbm, ⟨0, _⟩ => ⟨S16384x256, .f32⟩
  | .hbm, ⟨1, _⟩ => ⟨S4x64x64, .f32⟩
  | .hbm, ⟨2, _⟩ => ⟨S256, .f32⟩
  | .hbm, ⟨3, _⟩ => ⟨S_, .f32⟩
  | .hbm, ⟨4, _⟩ => ⟨S128x128, .f32⟩
  | .hbm, ⟨5, _⟩ => ⟨S1x64x64, .f32⟩
  | .hbm, ⟨6, _⟩ => ⟨S64x64, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S128x128, .f32⟩
  | .hbm, ⟨13, _⟩ => ⟨S1x64x64, .f32⟩
  | .hbm, ⟨14, _⟩ => ⟨S64x64, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S128x128, .f32⟩
  | .hbm, ⟨21, _⟩ => ⟨S_, .f32⟩
  | .hbm, ⟨22, _⟩ => ⟨S128x128, .f32⟩
  | .hbm, ⟨23, _⟩ => ⟨S1x64x64, .f32⟩
  | .hbm, ⟨24, _⟩ => ⟨S64x64, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S128x128, .f32⟩
  | .hbm, ⟨31, _⟩ => ⟨S1x64x64, .f32⟩
  | .hbm, ⟨32, _⟩ => ⟨S64x64, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S128x128, .f32⟩
  | .hbm, ⟨39, _⟩ => ⟨S1x128x128, .f32⟩
  | .hbm, ⟨40, _⟩ => ⟨S1x128x128, .f32⟩
  | .hbm, ⟨41, _⟩ => ⟨S2x128x128, .f32⟩
  | .hbm, ⟨42, _⟩ => ⟨S2x128x128, .bf16⟩
  | .hbm, ⟨43, _⟩ => ⟨S2x1x128, .f32⟩
  | .hbm, ⟨44, _⟩ => ⟨S16384x256, .f32⟩
  | .local _ .vmem, ⟨0, _⟩ => ⟨S4096x128, .f32⟩
  | .local _ .vmem, ⟨1, _⟩ => ⟨S4096x128, .f32⟩
  | .local _ .vmem, ⟨2, _⟩ => ⟨S1x128x128, .bf16⟩
  | .local _ .vmem, ⟨3, _⟩ => ⟨S1x128x128, .bf16⟩
  | .local _ .vmem, ⟨4, _⟩ => ⟨S1x1x128, .f32⟩
  | .local _ .vmem, ⟨5, _⟩ => ⟨S1x1x128, .f32⟩
  | .local _ .vmem, ⟨6, _⟩ => ⟨S4096x128, .f32⟩
  | .local _ .vmem, ⟨7, _⟩ => ⟨S4096x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16384x256 : Shape := ⟨2, ![16384, 256]⟩
abbrev S4x64x64 : Shape := ⟨3, ![4, 64, 64]⟩
abbrev S256 : Shape := ⟨1, ![256]⟩
abbrev S4x4096x256 : Shape := ⟨3, ![4, 4096, 256]⟩
abbrev S_ : Shape := ⟨0, ![]⟩
abbrev S4x4112x256 : Shape := ⟨3, ![4, 4112, 256]⟩
abbrev S4096 : Shape := ⟨1, ![4096]⟩
abbrev S4x4096x64 : Shape := ⟨3, ![4, 4096, 64]⟩
abbrev S1x4096x1 : Shape := ⟨3, ![1, 4096, 1]⟩
abbrev S1x64x64 : Shape := ⟨3, ![1, 64, 64]⟩
abbrev S64x64 : Shape := ⟨2, ![64, 64]⟩
abbrev S1x1x256 : Shape := ⟨3, ![1, 1, 256]⟩

abbrev nBuf : Space → Nat
  | .hbm => 209
  | .vmem => 0
  | .smem => 0
  | _ => 0

abbrev hbmTy0_0 (i : Nat) : BufTy := match i % 128 with
  | 0 => ⟨S16384x256, .f32⟩
  | 1 => ⟨S4x64x64, .f32⟩
  | 2 => ⟨S256, .f32⟩
  | 3 => ⟨S4x4096x256, .f32⟩
  | 4 => ⟨S_, .i32⟩
  | 5 => ⟨S_, .f32⟩
  | 6 => ⟨S4x4112x256, .f32⟩
  | 7 => ⟨S4096, .i32⟩
  | 8 => ⟨S4x4096x64, .f32⟩
  | 9 => ⟨S_, .f32⟩
  | 10 => ⟨S4x4096x64, .f32⟩
  | 11 => ⟨S4x4096x64, .f32⟩
  | 12 => ⟨S4x4096x64, .f32⟩
  | 13 => ⟨S4x4096x64, .f32⟩
  | 14 => ⟨S_, .i32⟩
  | 15 => ⟨S4096, .i32⟩
  | 16 => ⟨S4096, .i32⟩
  | 17 => ⟨S_, .i32⟩
  | 18 => ⟨S_, .i32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S_, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096, .i32⟩
  | 37 => ⟨S4096, .f32⟩
  | 38 => ⟨S1x4096x1, .f32⟩
  | 39 => ⟨S4x4096x64, .f32⟩
  | 40 => ⟨S4x4096x64, .f32⟩
  | 41 => ⟨S4x4096x64, .f32⟩
  | 42 => ⟨S4x4096x64, .f32⟩
  | 43 => ⟨S1x64x64, .f32⟩
  | 44 => ⟨S64x64, .f32⟩
  | 45 => ⟨S4x4096x64, .f32⟩
  | 46 => ⟨S4x4096x64, .f32⟩
  | 47 => ⟨S_, .f32⟩
  | 48 => ⟨S4x4096x64, .f32⟩
  | 49 => ⟨S4x4096x64, .f32⟩
  | 50 => ⟨S4x4096x64, .f32⟩
  | 51 => ⟨S4x4096x64, .f32⟩
  | 52 => ⟨S4x4096x64, .f32⟩
  | 53 => ⟨S4x4096x64, .f32⟩
  | 54 => ⟨S4x4096x64, .f32⟩
  | 55 => ⟨S4x4096x64, .f32⟩
  | 56 => ⟨S_, .i32⟩
  | 57 => ⟨S4096, .i32⟩
  | 58 => ⟨S4096, .i32⟩
  | 59 => ⟨S_, .i32⟩
  | 60 => ⟨S_, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S_, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S4096, .i32⟩
  | 79 => ⟨S4096, .f32⟩
  | 80 => ⟨S1x4096x1, .f32⟩
  | 81 => ⟨S4x4096x64, .f32⟩
  | 82 => ⟨S4x4096x64, .f32⟩
  | 83 => ⟨S4x4096x64, .f32⟩
  | 84 => ⟨S4x4096x64, .f32⟩
  | 85 => ⟨S1x64x64, .f32⟩
  | 86 => ⟨S64x64, .f32⟩
  | 87 => ⟨S4x4096x64, .f32⟩
  | 88 => ⟨S4x4096x64, .f32⟩
  | 89 => ⟨S_, .f32⟩
  | 90 => ⟨S4x4096x64, .f32⟩
  | 91 => ⟨S4x4096x64, .f32⟩
  | 92 => ⟨S4x4096x64, .f32⟩
  | 93 => ⟨S4x4096x64, .f32⟩
  | 94 => ⟨S4x4096x64, .f32⟩
  | 95 => ⟨S4x4096x64, .f32⟩
  | 96 => ⟨S4x4096x64, .f32⟩
  | 97 => ⟨S4x4096x64, .f32⟩
  | 98 => ⟨S4x4096x64, .f32⟩
  | 99 => ⟨S4x4096x64, .f32⟩
  | 100 => ⟨S4x4096x64, .f32⟩
  | 101 => ⟨S4x4096x64, .f32⟩
  | 102 => ⟨S4x4096x64, .f32⟩
  | 103 => ⟨S4x4096x64, .f32⟩
  | 104 => ⟨S4x4096x64, .f32⟩
  | 105 => ⟨S4x4096x64, .f32⟩
  | 106 => ⟨S_, .i32⟩
  | 107 => ⟨S4096, .i32⟩
  | 108 => ⟨S4096, .i32⟩
  | 109 => ⟨S_, .i32⟩
  | 110 => ⟨S_, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S_, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S16384x256, .f32⟩

abbrev hbmTy0_1 (i : Nat) : BufTy := match i % 128 with
  | 0 => ⟨S4096, .i32⟩
  | 1 => ⟨S4096, .f32⟩
  | 2 => ⟨S1x4096x1, .f32⟩
  | 3 => ⟨S4x4096x64, .f32⟩
  | 4 => ⟨S4x4096x64, .f32⟩
  | 5 => ⟨S4x4096x64, .f32⟩
  | 6 => ⟨S4x4096x64, .f32⟩
  | 7 => ⟨S1x64x64, .f32⟩
  | 8 => ⟨S64x64, .f32⟩
  | 9 => ⟨S4x4096x64, .f32⟩
  | 10 => ⟨S4x4096x64, .f32⟩
  | 11 => ⟨S_, .f32⟩
  | 12 => ⟨S4x4096x64, .f32⟩
  | 13 => ⟨S4x4096x64, .f32⟩
  | 14 => ⟨S4x4096x64, .f32⟩
  | 15 => ⟨S4x4096x64, .f32⟩
  | 16 => ⟨S4x4096x64, .f32⟩
  | 17 => ⟨S4x4096x64, .f32⟩
  | 18 => ⟨S4x4096x64, .f32⟩
  | 19 => ⟨S4x4096x64, .f32⟩
  | 20 => ⟨S4x4096x64, .f32⟩
  | 21 => ⟨S4x4096x64, .f32⟩
  | 22 => ⟨S4x4096x64, .f32⟩
  | 23 => ⟨S4x4096x64, .f32⟩
  | 24 => ⟨S4x4096x64, .f32⟩
  | 25 => ⟨S4x4096x64, .f32⟩
  | 26 => ⟨S4x4096x64, .f32⟩
  | 27 => ⟨S4x4096x64, .f32⟩
  | 28 => ⟨S4x4096x64, .f32⟩
  | 29 => ⟨S4x4096x64, .f32⟩
  | 30 => ⟨S4x4096x64, .f32⟩
  | 31 => ⟨S4x4096x64, .f32⟩
  | 32 => ⟨S4x4096x64, .f32⟩
  | 33 => ⟨S4x4096x64, .f32⟩
  | 34 => ⟨S4x4096x64, .f32⟩
  | 35 => ⟨S4x4096x64, .f32⟩
  | 36 => ⟨S4x4096x64, .f32⟩
  | 37 => ⟨S4x4096x64, .f32⟩
  | 38 => ⟨S4x4096x64, .f32⟩
  | 39 => ⟨S4x4096x64, .f32⟩
  | 40 => ⟨S4x4096x64, .f32⟩
  | 41 => ⟨S4x4096x64, .f32⟩
  | 42 => ⟨S4x4096x64, .f32⟩
  | 43 => ⟨S4x4096x64, .f32⟩
  | 44 => ⟨S_, .i32⟩
  | 45 => ⟨S4096, .i32⟩
  | 46 => ⟨S4096, .i32⟩
  | 47 => ⟨S_, .i32⟩
  | 48 => ⟨S_, .i32⟩
  | 49 => ⟨S_, .i32⟩
  | 50 => ⟨S4096, .i32⟩
  | 51 => ⟨S4096, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S_, .i32⟩
  | 59 => ⟨S_, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i32⟩
  | 66 => ⟨S4096, .i32⟩
  | 67 => ⟨S4096, .f32⟩
  | 68 => ⟨S1x4096x1, .f32⟩
  | 69 => ⟨S4x4096x64, .f32⟩
  | 70 => ⟨S4x4096x64, .f32⟩
  | 71 => ⟨S4x4096x64, .f32⟩
  | 72 => ⟨S4x4096x64, .f32⟩
  | 73 => ⟨S1x64x64, .f32⟩
  | 74 => ⟨S64x64, .f32⟩
  | 75 => ⟨S4x4096x64, .f32⟩
  | 76 => ⟨S4x4096x256, .f32⟩
  | 77 => ⟨S1x1x256, .f32⟩
  | 78 => ⟨S4x4096x256, .f32⟩
  | 79 => ⟨S4x4096x256, .f32⟩
  | 80 => ⟨S16384x256, .f32⟩
  | _ => ⟨S16384x256, .f32⟩

abbrev hbmTy (i : Nat) : BufTy := match i / 128 with
  | 0 => hbmTy0_0 i
  | 1 => hbmTy0_1 i
  | _ => ⟨S16384x256, .f32⟩

abbrev bufTy : (tb : Table) → Fin (tcTables nBuf tb) → BufTy
  | .hbm, ⟨i, _⟩ => hbmTy i
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_c_4 : Ref sig .tc := ⟨.hbm, 28, rfl⟩
abbrev main_c_5 : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_c_9 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v35 : Ref sig .tc := ⟨.hbm, 66, rfl⟩
abbrev main_c_10 : Ref sig .tc := ⟨.hbm, 67, rfl⟩
abbrev main_v36 : Ref sig .tc := ⟨.hbm, 68, rfl⟩
abbrev main_v37 : Ref sig .tc := ⟨.hbm, 69, rfl⟩
abbrev main_c_11 : Ref sig .tc := ⟨.hbm, 70, rfl⟩
abbrev main_c_12 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_c_14 : Ref sig .tc := ⟨.hbm, 106, rfl⟩
abbrev main_v66 : Ref sig .tc := ⟨.hbm, 107, rfl⟩
abbrev main_v67 : Ref sig .tc := ⟨.hbm, 108, rfl⟩
abbrev main_c_15 : Ref sig .tc := ⟨.hbm, 109, rfl⟩
abbrev main_c_16 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v68 : Ref sig .tc := ⟨.hbm, 116, rfl⟩
abbrev main_c_17 : Ref sig .tc := ⟨.hbm, 117, rfl⟩
abbrev main_v69 : Ref sig .tc := ⟨.hbm, 118, rfl⟩
abbrev main_v70 : Ref sig .tc := ⟨.hbm, 119, rfl⟩
abbrev main_c_18 : Ref sig .tc := ⟨.hbm, 120, rfl⟩
abbrev main_c_19 : Ref sig .tc := ⟨.hbm, 121, rfl⟩
abbrev main_call6_v0 : Ref sig .tc := ⟨.hbm, 122, rfl⟩
abbrev main_call6_v1 : Ref sig .tc := ⟨.hbm, 123, rfl⟩
abbrev main_call6_v2 : Ref sig .tc := ⟨.hbm, 124, rfl⟩
abbrev main_call6_v3 : Ref sig .tc := ⟨.hbm, 125, rfl⟩
abbrev main_call6_v4 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_20 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_c_21 : Ref sig .tc := ⟨.hbm, 172, rfl⟩
abbrev main_v115 : Ref sig .tc := ⟨.hbm, 173, rfl⟩
abbrev main_v116 : Ref sig .tc := ⟨.hbm, 174, rfl⟩
abbrev main_c_22 : Ref sig .tc := ⟨.hbm, 175, rfl⟩
abbrev main_c_23 : Ref sig .tc := ⟨.hbm, 176, rfl⟩
abbrev main_call7_v0 : Ref sig .tc := ⟨.hbm, 177, rfl⟩
abbrev main_call7_v1 : Ref sig .tc := ⟨.hbm, 178, rfl⟩
abbrev main_call7_v2 : Ref sig .tc := ⟨.hbm, 179, rfl⟩
abbrev main_call7_v3 : Ref sig .tc := ⟨.hbm, 180, rfl⟩
abbrev main_call7_v4 : Ref sig .tc := ⟨.hbm, 181, rfl⟩
abbrev main_v117 : Ref sig .tc := ⟨.hbm, 182, rfl⟩
abbrev main_c_24 : Ref sig .tc := ⟨.hbm, 183, rfl⟩
abbrev main_v118 : Ref sig .tc := ⟨.hbm, 184, rfl⟩
abbrev main_v119 : Ref sig .tc := ⟨.hbm, 185, rfl⟩
abbrev main_c_25 : Ref sig .tc := ⟨.hbm, 186, rfl⟩
abbrev main_c_26 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩

abbrev nD : Nat := 1
abbrev τ : Topo := Topo.v7x

variable {F : FTy → Type} [FloatOps F]
-- ==== Kernel5.lean ====
abbrev S2x4 : Shape := ⟨2, ![2, 4]⟩
abbrev S16384x256 : Shape := ⟨2, ![16384, 256]⟩
abbrev S16384x512 : Shape := ⟨2, ![16384, 512]⟩
abbrev S4096x32 : Shape := ⟨2, ![4096, 32]⟩
abbrev S4096x64 : Shape := ⟨2, ![4096, 64]⟩
abbrev S1x4096x1x64 : Shape := ⟨4, ![1, 4096, 1, 64]⟩
abbrev S1x4096x4x64 : Shape := ⟨4, ![1, 4096, 4, 64]⟩
abbrev S4096x256 : Shape := ⟨2, ![4096, 256]⟩
abbrev S256x256 : Shape := ⟨2, ![256, 256]⟩
abbrev S256x512 : Shape := ⟨2, ![256, 512]⟩
abbrev S4x64x128 : Shape := ⟨3, ![4, 64, 128]⟩
abbrev S256x1 : Shape := ⟨2, ![256, 1]⟩
abbrev S1x1 : Shape := ⟨2, ![1, 1]⟩
abbrev S256x64 : Shape := ⟨2, ![256, 64]⟩
abbrev S256x128 : Shape := ⟨2, ![256, 128]⟩
abbrev S1x64x128 : Shape := ⟨3, ![1, 64, 128]⟩
abbrev S64x128 : Shape := ⟨2, ![64, 128]⟩
abbrev S1x128 : Shape := ⟨2, ![1, 128]⟩

abbrev nBuf : Space → Nat
  | .hbm => 16
  | .vmem => 13
  | .smem => 1
  | _ => 0

abbrev bufTy : (tb : Table) → Fin (tcTables nBuf tb) → BufTy
  | .hbm, ⟨0, _⟩ => ⟨S2x4, .f32⟩
  | .hbm, ⟨1, _⟩ => ⟨S16384x256, .f32⟩
  | .hbm, ⟨2, _⟩ => ⟨S16384x256, .f32⟩
  | .hbm, ⟨3, _⟩ => ⟨S16384x512, .bf16⟩
  | .hbm, ⟨4, _⟩ => ⟨S4096x32, .f32⟩
  | .hbm, ⟨5, _⟩ => ⟨S4096x32, .f32⟩
  | .hbm, ⟨6, _⟩ => ⟨S4096x64, .f32⟩
  | .hbm, ⟨7, _⟩ => ⟨S1x4096x1x64, .f32⟩
  | .hbm, ⟨8, _⟩ => ⟨S1x4096x4x64, .f32⟩
  | .hbm, ⟨9, _⟩ => ⟨S4096x256, .f32⟩
  | .hbm, ⟨10, _⟩ => ⟨S4096x32, .f32⟩
  | .hbm, ⟨11, _⟩ => ⟨S4096x64, .f32⟩
  | .hbm, ⟨12, _⟩ => ⟨S1x4096x1x64, .f32⟩
  | .hbm, ⟨13, _⟩ => ⟨S1x4096x4x64, .f32⟩
  | .hbm, ⟨14, _⟩ => ⟨S4096x256, .f32⟩
  | .hbm, ⟨15, _⟩ => ⟨S16384x512, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x512, .f32⟩
  | .local _ .vmem, ⟨11, _⟩ => ⟨S256x512, .f32⟩
  | .local _ .vmem, ⟨12, _⟩ => ⟨S4x64x128, .f32⟩
  | .local _ .smem, ⟨0, _⟩ => ⟨S2x4, .f32⟩
  | _, _ => ⟨S2x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S2x4 : Shape := ⟨2, ![2, 4]⟩
abbrev S16384x256 : Shape := ⟨2, ![16384, 256]⟩
abbrev S16384x512 : Shape := ⟨2, ![16384, 512]⟩
abbrev S4096x32 : Shape := ⟨2, ![4096, 32]⟩
abbrev S4x4096x4x64 : Shape := ⟨4, ![4, 4096, 4, 64]⟩
abbrev S4x4x4096x64 : Shape := ⟨4, ![4, 4, 4096, 64]⟩
abbrev S4x4x4096x32 : Shape := ⟨4, ![4, 4, 4096, 32]⟩
abbrev S1x1x4096x32 : Shape := ⟨4, ![1, 1, 4096, 32]⟩
abbrev S_ : Shape := ⟨0, ![]⟩
abbrev S4x4096x4x128 : Shape := ⟨4, ![4, 4096, 4, 128]⟩
abbrev S4x4x4096x128 : Shape := ⟨4, ![4, 4, 4096, 128]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x4 : Shape := ⟨2, ![1, 4]⟩
abbrev S4 : Shape := ⟨1, ![4]⟩
abbrev S4x1x1 : Shape := ⟨3, ![4, 1, 1]⟩
abbrev S1x4096x4096 : Shape := ⟨3, ![1, 4096, 4096]⟩
abbrev S4x4096x4096 : Shape := ⟨3, ![4, 4096, 4096]⟩
abbrev S4x4x4096x4096 : Shape := ⟨4, ![4, 4, 4096, 4096]⟩
abbrev S1x4x4096x4096 : Shape := ⟨4, ![1, 4, 4096, 4096]⟩

abbrev nBuf : Space → Nat
  | .hbm => 83
  | .vmem => 0
  | .smem => 0
  | _ => 0

abbrev bufTy : (tb : Table) → Fin (tcTables nBuf tb) → BufTy
  | .hbm, ⟨0, _⟩ => ⟨S2x4, .f32⟩
  | .hbm, ⟨1, _⟩ => ⟨S16384x256, .f32⟩
  | .hbm, ⟨2, _⟩ => ⟨S16384x256, .f32⟩
  | .hbm, ⟨3, _⟩ => ⟨S16384x512, .bf16⟩
  | .hbm, ⟨4, _⟩ => ⟨S4096x32, .f32⟩
  | .hbm, ⟨5, _⟩ => ⟨S4096x32, .f32⟩
  | .hbm, ⟨6, _⟩ => ⟨S4x4096x4x64, .f32⟩
  | .hbm, ⟨7, _⟩ => ⟨S4x4x4096x64, .f32⟩
  | .hbm, ⟨8, _⟩ => ⟨S4x4x4096x32, .f32⟩
  | .hbm, ⟨9, _⟩ => ⟨S4x4x4096x32, .f32⟩
  | .hbm, ⟨10, _⟩ => ⟨S1x1x4096x32, .f32⟩
  | .hbm, ⟨11, _⟩ => ⟨S4x4x4096x32, .f32⟩
  | .hbm, ⟨12, _⟩ => ⟨S4x4x4096x32, .f32⟩
  | .hbm, ⟨13, _⟩ => ⟨S1x1x4096x32, .f32⟩
  | .hbm, ⟨14, _⟩ => ⟨S4x4x4096x32, .f32⟩
  | .hbm, ⟨15, _⟩ => ⟨S4x4x4096x32, .f32⟩
  | .hbm, ⟨16, _⟩ => ⟨S4x4x4096x32, .f32⟩
  | .hbm, ⟨17, _⟩ => ⟨S1x1x4096x32, .f32⟩
  | .hbm, ⟨18, _⟩ => ⟨S4x4x4096x32, .f32⟩
  | .hbm, ⟨19, _⟩ => ⟨S4x4x4096x32, .f32⟩
  | .hbm, ⟨20, _⟩ => ⟨S1x1x4096x32, .f32⟩
  | .hbm, ⟨21, _⟩ => ⟨S4x4x4096x32, .f32⟩
  | .hbm, ⟨22, _⟩ => ⟨S4x4x4096x32, .f32⟩
  | .hbm, ⟨23, _⟩ => ⟨S4x4x4096x32, .f32⟩
  | .hbm, ⟨24, _⟩ => ⟨S4x4x4096x64, .f32⟩
  | .hbm, ⟨25, _⟩ => ⟨S4x4096x4x64, .f32⟩
  | .hbm, ⟨26, _⟩ => ⟨S4x4x4096x64, .f32⟩
  | .hbm, ⟨27, _⟩ => ⟨S4x4x4096x32, .f32⟩
  | .hbm, ⟨28, _⟩ => ⟨S4x4x4096x32, .f32⟩
  | .hbm, ⟨29, _⟩ => ⟨S1x1x4096x32, .f32⟩
  | .hbm, ⟨30, _⟩ => ⟨S4x4x4096x32, .f32⟩
  | .hbm, ⟨31, _⟩ => ⟨S4x4x4096x32, .f32⟩
  | .hbm, ⟨32, _⟩ => ⟨S1x1x4096x32, .f32⟩
  | .hbm, ⟨33, _⟩ => ⟨S4x4x4096x32, .f32⟩
  | .hbm, ⟨34, _⟩ => ⟨S4x4x4096x32, .f32⟩
  | .hbm, ⟨35, _⟩ => ⟨S4x4x4096x32, .f32⟩
  | .hbm, ⟨36, _⟩ => ⟨S1x1x4096x32, .f32⟩
  | .hbm, ⟨37, _⟩ => ⟨S4x4x4096x32, .f32⟩
  | .hbm, ⟨38, _⟩ => ⟨S4x4x4096x32, .f32⟩
  | .hbm, ⟨39, _⟩ => ⟨S1x1x4096x32, .f32⟩
  | .hbm, ⟨40, _⟩ => ⟨S4x4x4096x32, .f32⟩
  | .hbm, ⟨41, _⟩ => ⟨S4x4x4096x32, .f32⟩
  | .hbm, ⟨42, _⟩ => ⟨S4x4x4096x32, .f32⟩
  | .hbm, ⟨43, _⟩ => ⟨S4x4x4096x64, .f32⟩
  | .hbm, ⟨44, _⟩ => ⟨S_, .f32⟩
  | .hbm, ⟨45, _⟩ => ⟨S4x4x4096x64, .f32⟩
  | .hbm, ⟨46, _⟩ => ⟨S4x4x4096x64, .f32⟩
  | .hbm, ⟨47, _⟩ => ⟨S16384x512, .f32⟩
  | .hbm, ⟨48, _⟩ => ⟨S4x4096x4x128, .f32⟩
  | .hbm, ⟨49, _⟩ => ⟨S4x4x4096x128, .f32⟩
  | .hbm, ⟨50, _⟩ => ⟨S4096, .f32⟩
  | .hbm, ⟨51, _⟩ => ⟨S4096x1, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .i1⟩
  | .hbm, ⟨59, _⟩ => ⟨S1x4, .f32⟩
  | .hbm, ⟨60, _⟩ => ⟨S4, .f32⟩
  | .hbm, ⟨61, _⟩ => ⟨S4x1x1, .f32⟩
  | .hbm, ⟨62, _⟩ => ⟨S_, .f32⟩
  | .hbm, ⟨63, _⟩ => ⟨S_, .f32⟩
  | .hbm, ⟨64, _⟩ => ⟨S4096x4096, .f32⟩
  | .hbm, ⟨65, _⟩ => ⟨S4096x4096, .f32⟩
  | .hbm, ⟨66, _⟩ => ⟨S1x4096x4096, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S4x4096x4096, .f32⟩
  | .hbm, ⟨71, _⟩ => ⟨S_, .f32⟩
  | .hbm, ⟨72, _⟩ => ⟨S_, .f32⟩
  | .hbm, ⟨73, _⟩ => ⟨S4x4096x4096, .i1⟩
  | .hbm, ⟨74, _⟩ => ⟨S4x4096x4096, .f32⟩
  | .hbm, ⟨75, _⟩ => ⟨S4x4096x4096, .f32⟩
  | .hbm, ⟨76, _⟩ => ⟨S4x4x4096x4096, .f32⟩
  | .hbm, ⟨77, _⟩ => ⟨S1x4x4096x4096, .f32⟩
  | .hbm, ⟨78, _⟩ => ⟨S4x4x4096x4096, .f32⟩
  | .hbm, ⟨79, _⟩ => ⟨S4x4x4096x4096, .f32⟩
  | .hbm, ⟨80, _⟩ => ⟨S4x4x4096x128, .f32⟩
  | .hbm, ⟨81, _⟩ => ⟨S4x4096x4x128, .f32⟩
  | .hbm, ⟨82, _⟩ => ⟨S16384x512, .f32⟩
  | _, _ => ⟨S2x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_cst_1 : Ref sig .tc := ⟨.hbm, 62, rfl⟩
abbrev main_call0_v0 : Ref sig .tc := ⟨.hbm, 63, rfl⟩
abbrev main_call0_v1 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_2 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Proof.NattenSpec.lean ====
/- Neighbourhood attention at one query and one feature, as a plain sum over the keys of the query's rows. -/
module

public import Idealize.ShloMosaic.Lib.Pointwise

@[expose] public section

noncomputable section

open Idealize.ShloMosaic

namespace Cert.Natten

/-- The largest of the scores. -/
def top (s : Fin 512 → EReal) : EReal := Finset.univ.fold max (Ideal.ofBits .f32 0xFF800000#32) s

/-- The values weighted by the scores' softmax. -/
def attend (s v : Fin 512 → EReal) : EReal :=
  ∑ k, Ideal.div (Ideal.exp (s k - top s)) (∑ x, Ideal.exp (s x - top s)) * v k

/-- Starting the maximum from its own start again changes nothing. -/
theorem max_top (s : Fin 512 → EReal) : max (Ideal.ofBits .f32 0xFF800000#32) (top s) = top s :=
  max_eq_right ((Finset.le_fold_max _).2 (Or.inl le_rfl))

/-- A sum over 8 rows of 64 is the sum over the 512 places. -/
theorem sum_rows (f : Fin 512 → EReal) :
    ∑ x : Fin 8, ∑ y : Fin 64, f ⟨x.val * 64 + y.val, by omega⟩ = ∑ k, f k := by
  rw [← Fintype.sum_prod_type']
  refine Fintype.sum_equiv (finProdFinEquiv (m := 8) (n := 64)) _ _ fun p => congrArg f (Fin.ext ?_)
  simp only [finProdFinEquiv_apply_val]
  omega

/-- The place, among all the rows of keys, of the key `k` of the eight image rows around row `r` of image `b`. -/
def keyRow (b : Fin 4) (r : Fin 64) (k : Fin 512) : Fin 16384 :=
  ⟨b.val * 4096 + (min 56 (r.val - 4) + k.val / 64) * 64 + k.val % 64, by omega⟩

/-- The place of the query at row `r`, column `c` of image `b`. -/
def queryRow (b : Fin 4) (r c : Fin 64) : Fin 16384 := ⟨b.val * 4096 + r.val * 64 + c.val, by omega⟩

/-- Feature `d` of head `h`. -/
def lane (h : Fin 4) (d : Fin 64) : Fin 256 := ⟨h.val * 64 + d.val, by omega⟩

/-- The relative position bias of key `k` for the query at row `r`, column `c`; outside the query's columns the large
    negative constant. -/
def biasAt (B : FVec Ideal ⟨3, ![4, 15, 31]⟩ .f32) (h : Fin 4) (r c : Fin 64) (k : Fin 512) : EReal :=
  if min 48 (c.val - 8) ≤ k.val % 64 ∧ k.val % 64 < min 48 (c.val - 8) + 16
  then B (ix3 h ⟨min 56 (r.val - 4) + k.val / 64 + 7 - r.val, by omega⟩ ⟨min 30 (k.val % 64 + 15 - c.val), by omega⟩)
  else Ideal.ofBits .f32 0xF149F2CA#32

/-- The score of key `k` for the query at row `r`, column `c`. -/
def score (Q K : FVec Ideal ⟨2, ![16384, 256]⟩ .bf16) (B : FVec Ideal ⟨3, ![4, 15, 31]⟩ .f32) (b h : Fin 4) (r c : Fin 64)
    (k : Fin 512) : EReal :=
  (∑ d : Fin 64, Q (ix2 (queryRow b r c) (lane h d)) * K (ix2 (keyRow b r k) (lane h d))) + biasAt B h r c k

/-- The attention's result at row `r`, column `c` of image `b`, feature `d` of head `h`. -/
def attnAt (Q K V : FVec Ideal ⟨2, ![16384, 256]⟩ .bf16) (B : FVec Ideal ⟨3, ![4, 15, 31]⟩ .f32) (b h : Fin 4)
    (r c : Fin 64) (d : Fin 64) : EReal :=
  attend (score Q K B b h r c) fun k => V (ix2 (keyRow b r k) (lane h d))

end Cert.Natten

end
-- ==== Proof.NattenBias.lean ====
/- The attention kernel's bias table: what the host lines before the call leave in its buffer, at an index. -/
module

public import proofs.«01_k».proof.Proof.Gen.KernelIdeal.Frame
public import proofs.«01_k».proof.Proof.NattenSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Natten

open Cert.KernelIdeal Cert.KernelIdeal.Gen Cert.Natten

/-- The first key column of every query column. -/
def colStart : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))

/-- A row of the columns' numbers, repeated. -/
def keyCol : IVec S64x64 32 :=
  broadcastInDim S64x64 ![0, 1] bcast_S1x64_S64x64_0_1 (broadcastInDim S1x64 ![1] bcast_S64_S1x64_1 (iotaInDim S64 32 0))

/-- Whether a key column is in a query column's window. -/
def colIn : IVec S64x64 1 :=
  andi (cmpi .sge keyCol (broadcastInDim S64x64 ![0, 1] bcast_S64x1_S64x64_0_1 (broadcastInDim S64x1 ![0] bcast_S64_S64x1_0 colStart)))
    (cmpi .slt keyCol (broadcastInDim S64x64 ![0, 1] bcast_S64x1_S64x64_0_1 (addi (broadcastInDim S64x1 ![0] bcast_S64_S64x1_0 colStart) (broadcastInDim S64x1 ![] bcast_S_S64x1 (constantI S_ 32 16#32)))))

/-- The bias table's column of every query column and key column. -/
def colOff : IVec S64x64 32 :=
  addi (minsi (broadcastInDim S64x64 ![] bcast_S_S64x64 (id (constantI S_ 32 15#32))) (maxsi (broadcastInDim S64x64 ![] bcast_S_S64x64 (id (constantI S_ 32 4294967281#32)))
    (subi keyCol (broadcastInDim S64x64 ![0, 1] bcast_S64x1_S64x64_0_1 (broadcastInDim S64x1 ![0] bcast_S64_S64x1_0 (iotaInDim S64 32 0))))))
    (broadcastInDim S64x64 ![] bcast_S_S64x64 (constantI S_ 32 15#32))

/-- The bias table's columns' words. -/
theorem colOff_at (a : Fin 64) (b : Fin 64) :
    colOff (ix2 a b) = BitVec.ofNat 32 (min 30 (b.val + 15 - a.val)) := by
  revert a b
  decide +kernel

/-- The mask of the query columns' windows. -/
theorem colIn_at (a : Fin 64) (b : Fin 64) :
    colIn (ix2 a b) = if min 48 (a.val - 8) ≤ b.val ∧ b.val < min 48 (a.val - 8) + 16 then 1#1 else 0#1 := by
  revert a b
  decide +kernel

/-- The eight rows of the bias table that each of the eight row positions uses. -/
def rowTab (B : FVec Ideal S4x15x31 .f32) : FVec Ideal S8x4x8x31 .f32 :=
  concatenate S8x4x8x31 0 [
    ⟨S1x4x8x31, broadcastInDim S1x4x8x31 ![1, 2, 3] bcast_S4x8x31_S1x4x8x31_1_2_3 (extractStridedSlice S4x8x31 ![0, 7, 0] B slices_S4x15x31_S4x8x31_0_7_0)⟩,
    ⟨S1x4x8x31, broadcastInDim S1x4x8x31 ![1, 2, 3] bcast_S4x8x31_S1x4x8x31_1_2_3 (extractStridedSlice S4x8x31 ![0, 6, 0] B slices_S4x15x31_S4x8x31_0_6_0)⟩,
    ⟨S1x4x8x31, broadcastInDim S1x4x8x31 ![1, 2, 3] bcast_S4x8x31_S1x4x8x31_1_2_3 (extractStridedSlice S4x8x31 ![0, 5, 0] B slices_S4x15x31_S4x8x31_0_5_0)⟩,
    ⟨S1x4x8x31, broadcastInDim S1x4x8x31 ![1, 2, 3] bcast_S4x8x31_S1x4x8x31_1_2_3 (extractStridedSlice S4x8x31 ![0, 4, 0] B slices_S4x15x31_S4x8x31_0_4_0)⟩,
    ⟨S1x4x8x31, broadcastInDim S1x4x8x31 ![1, 2, 3] bcast_S4x8x31_S1x4x8x31_1_2_3 (extractStridedSlice S4x8x31 ![0, 3, 0] B slices_S4x15x31_S4x8x31_0_3_0)⟩,
    ⟨S1x4x8x31, broadcastInDim S1x4x8x31 ![1, 2, 3] bcast_S4x8x31_S1x4x8x31_1_2_3 (extractStridedSlice S4x8x31 ![0, 2, 0] B slices_S4x15x31_S4x8x31_0_2_0)⟩,
    ⟨S1x4x8x31, broadcastInDim S1x4x8x31 ![1, 2, 3] bcast_S4x8x31_S1x4x8x31_1_2_3 (extractStridedSlice S4x8x31 ![0, 1, 0] B slices_S4x15x31_S4x8x31_0_1_0)⟩,
    ⟨S1x4x8x31, broadcastInDim S1x4x8x31 ![1, 2, 3] bcast_S4x8x31_S1x4x8x31_1_2_3 (extractStridedSlice S4x8x31 ![0, 0, 0] B slices_S4x15x31_S4x8x31_0_0_0)⟩]
    concatenates_S1x4x8x31_S1x4x8x31_S1x4x8x31_S1x4x8x31_S1x4x8x31_S1x4x8x31_S1x4x8x31_S1x4x8x31_S8x4x8x31_d0

/-- One column of the table can be cut out. -/
theorem slices_col (j : Fin 31) : S8x4x8x31.Slices ![0, 0, 0, j.val] S8x4x8x1 := by
  revert j; decide

/-- One step of the table's build: where the key's column is `j` and lies in the window, column `j` of the rows. -/
def step (T : FVec Ideal S8x4x8x31 .f32) (j : Fin 31) (X : FVec Ideal S8x4x64x8x64 .f32) : FVec Ideal S8x4x64x8x64 .f32 :=
  select (broadcastInDim S8x4x64x8x64 ![0, 1, 2, 3, 4] bcast_S1x1x64x1x64_S8x4x64x8x64_0_1_2_3_4
      (broadcastInDim S1x1x64x1x64 ![2, 4] bcast_S64x64_S1x1x64x1x64_2_4
        (andi (cmpi .eq colOff (broadcastInDim S64x64 ![] bcast_S_S64x64 (constantI S_ 32 (BitVec.ofNat 32 j.val)))) colIn)))
    (broadcastInDim S8x4x64x8x64 ![0, 1, 2, 3, 4] bcast_S8x4x1x8x1_S8x4x64x8x64_0_1_2_3_4
      (broadcastInDim S8x4x1x8x1 ![0, 1, 3] bcast_S8x4x8_S8x4x1x8x1_0_1_3
        (shapeCast S8x4x8 (extractStridedSlice S8x4x8x1 ![0, 0, 0, j.val] T (slices_col j)) shapeCasts_S8x4x8x1_S8x4x8))) X

/-- The table after the first `n` columns. -/
def layers (T : FVec Ideal S8x4x8x31 .f32) : (n : ℕ) → n ≤ 31 → FVec Ideal S8x4x64x8x64 .f32
  | 0, _ => broadcastInDim S8x4x64x8x64 ![] bcast_S_S8x4x64x8x64 (constant S_ .f32 0xF149F2CA#32)
  | n + 1, h => step T ⟨n, h⟩ (layers T n (Nat.le_of_succ_le h))

/-- The table as the call reads it. -/
def biasTab (B : FVec Ideal S4x15x31 .f32) : FVec Ideal S8x4x64x512 .f32 :=
  shapeCast S8x4x64x512 (layers (rowTab B) 31 le_rfl) shapeCasts_S8x4x64x8x64_S8x4x64x512

/-- The rows of the table at an index. -/
theorem rowTab_at (B : FVec Ideal S4x15x31 .f32) (p : Fin 8) (h : Fin 4) (i : Fin 8) (j : Fin 31) :
    rowTab B (ix4 p h i j) = B (ix3 h ⟨7 - p.val + i.val, by omega⟩ j) := by
  fin_cases p
  all_goals
    pointwise [rowTab]

/-- One step at an index. -/
theorem step_at (T : FVec Ideal S8x4x8x31 .f32) (n : Fin 31) (X : FVec Ideal S8x4x64x8x64 .f32) (p : Fin 8) (h : Fin 4)
    (c : Fin 64) (i : Fin 8) (v : Fin 64) :
    step T n X (ix5 p h c i v) =
      if (min 48 (c.val - 8) ≤ v.val ∧ v.val < min 48 (c.val - 8) + 16) ∧ min 30 (v.val + 15 - c.val) = n.val
      then T (ix4 p h i n) else X (ix5 p h c i v) := by
  have hc := colOff_at c v
  have hi := colIn_at c v
  unfold step
  generalize colOff = C at hc ⊢
  generalize colIn = D at hi ⊢
  pointwise
  rw [hc, hi]
  have hn : IntOp.cmpi .eq (BitVec.ofNat 32 (min 30 (v.val + 15 - c.val))) (BitVec.ofNat 32 n.val) =
      if min 30 (v.val + 15 - c.val) = n.val then 1#1 else 0#1 := by
    have h1 : min 30 (v.val + 15 - c.val) < 2 ^ 32 := by omega
    have h2 : n.val < 2 ^ 32 := by omega
    by_cases e : min 30 (v.val + 15 - c.val) = n.val
    · rw [if_pos e, e]
      simp [IntOp.cmpi]
    · rw [if_neg e]
      have : ¬ BitVec.ofNat 32 (min 30 (v.val + 15 - c.val)) = BitVec.ofNat 32 n.val := by
        intro q
        have := congrArg BitVec.toNat q
        rw [BitVec.toNat_ofNat, BitVec.toNat_ofNat, Nat.mod_eq_of_lt h1, Nat.mod_eq_of_lt h2] at this
        exact e this
      simp only [IntOp.cmpi, beq_eq_false_iff_ne.2 this, BitVec.ofBool_false]
      rfl
  rw [hn]
  split_ifs with a b b' <;> first
    | rfl
    | (exfalso; tauto)

/-- The table after the first `n` columns, at an index. -/
theorem layers_at (T : FVec Ideal S8x4x8x31 .f32) (n : ℕ) (hn : n ≤ 31) (p : Fin 8) (h : Fin 4)
    (c : Fin 64) (i : Fin 8) (v : Fin 64) :
    layers T n hn (ix5 p h c i v) =
      if (min 48 (c.val - 8) ≤ v.val ∧ v.val < min 48 (c.val - 8) + 16) ∧ min 30 (v.val + 15 - c.val) < n
      then T (ix4 p h i ⟨min 30 (v.val + 15 - c.val), by omega⟩) else Ideal.ofBits .f32 0xF149F2CA#32 := by
  induction n with
  | zero =>
    rw [if_neg (by omega)]
    rfl
  | succ n ih =>
    rw [layers, step_at, ih]
    by_cases w : min 48 (c.val - 8) ≤ v.val ∧ v.val < min 48 (c.val - 8) + 16
    · by_cases e : min 30 (v.val + 15 - c.val) = n
      · rw [if_pos ⟨w, e⟩, if_pos ⟨w, by omega⟩]
        congr 2
        exact Fin.ext e.symm
      · rw [if_neg fun q => e q.2]
        by_cases l : min 30 (v.val + 15 - c.val) < n
        · rw [if_pos ⟨w, l⟩, if_pos ⟨w, by omega⟩]
        · rw [if_neg fun q => l q.2, if_neg fun q => by omega]
    · rw [if_neg fun q => w q.1, if_neg fun q => w q.1, if_neg fun q => w q.1]

/-- The table at an index. -/
theorem biasTab_at (B : FVec Ideal S4x15x31 .f32) (p : Fin 8) (h : Fin 4) (c : Fin 64) (k : Fin 512) :
    biasTab B (ix4 p h c k) =
      if min 48 (c.val - 8) ≤ k.val % 64 ∧ k.val % 64 < min 48 (c.val - 8) + 16
      then B (ix3 h ⟨7 - p.val + k.val / 64, by omega⟩ ⟨min 30 (k.val % 64 + 15 - c.val), by omega⟩)
      else Ideal.ofBits .f32 0xF149F2CA#32 := by
  have e : biasTab B (ix4 p h c k) =
      layers (rowTab B) 31 le_rfl (ix5 p h c ⟨k.val / 64, by omega⟩ ⟨k.val % 64, by omega⟩) := by
    unfold biasTab
    generalize layers (rowTab B) 31 le_rfl = L
    pointwise
  rw [e, layers_at, rowTab_at]
  by_cases w : min 48 (c.val - 8) ≤ k.val % 64 ∧ k.val % 64 < min 48 (c.val - 8) + 16
  · rw [if_pos w, if_pos ⟨w, by dsimp only; omega⟩]
  · rw [if_neg w, if_neg fun q => w q.1]

end Cert.KernelIdeal.Natten

end
-- ==== Proof.NattenLine.lean ====
/- The attention kernel's bias table: the host lines before the call, one column after the other. -/
module

public import proofs.«01_k».proof.Proof.NattenBias

@[expose] public section

set_option maxRecDepth 16384

noncomputable section

open Idealize.ShloMosaic Idealize.ShloMosaic.TcCoe Idealize.SL.Sem

namespace Cert.KernelIdeal.Natten

open Cert.KernelIdeal Cert.KernelIdeal.Gen Cert.Natten

/-- Lines made of parts run part by part. -/
theorem after_parts {sig : RefSig} (L : List (List (HloOp τ sig (Elt Ideal)))) (σ : Valuation τ sig (Elt Ideal)) :
    StableHlo.after L.flatten σ = L.foldl (fun σ l => StableHlo.after l σ) σ := by
  have two : ∀ (l l' : List (HloOp τ sig (Elt Ideal))) (σ : Valuation τ sig (Elt Ideal)),
      StableHlo.after (l ++ l') σ = StableHlo.after l' (StableHlo.after l σ) := by
    intro l l'
    induction l with
    | nil => exact fun _ => rfl
    | cons a l ih => exact fun σ => ih _
  induction L generalizing σ with
  | nil => rfl
  | cons l L ih => rw [List.flatten_cons, two, ih]; rfl

set_option maxHeartbeats 4000000 in
/-- The lines up to the table's first column. -/
theorem col_0 (σ : Valuation τ sig (Elt Ideal)) (B : FVec Ideal S4x15x31 .f32)
    (hB : σ (main_arg3 : DevRef τ sig) = B) :
    let σ' := StableHlo.after hostOps0_5 (StableHlo.after hostOps0_4 (StableHlo.after hostOps0_3 (StableHlo.after hostOps0_2
      (StableHlo.after hostOps0_1 (StableHlo.after hostOps0 σ)))))
    σ' (main_v24 : DevRef τ sig) = colOff ∧ σ' (main_v16 : DevRef τ sig) = colIn ∧ σ' (main_v41 : DevRef τ sig) = rowTab B
      ∧ σ' (main_v50 : DevRef τ sig) = layers (rowTab B) 1 (by decide) := by
  subst hB
  refine ⟨?_, ?_, ?_, ?_⟩ <;> (after_results; rfl)

/-- The table's column 1. -/
theorem col_1 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v50 : DevRef τ sig) = layers (rowTab B) 1 (by decide)) :
    let σ' := StableHlo.after hostOps0_7 (StableHlo.after hostOps0_6 σ)
    σ' (main_v24 : DevRef τ sig) = colOff ∧ σ' (main_v16 : DevRef τ sig) = colIn ∧ σ' (main_v41 : DevRef τ sig) = rowTab B
      ∧ σ' (main_v58 : DevRef τ sig) = layers (rowTab B) 2 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 2. -/
theorem col_2 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v58 : DevRef τ sig) = layers (rowTab B) 2 (by decide)) :
    let σ' := StableHlo.after hostOps0_9 (StableHlo.after hostOps0_8 σ)
    σ' (main_v24 : DevRef τ sig) = colOff ∧ σ' (main_v16 : DevRef τ sig) = colIn ∧ σ' (main_v41 : DevRef τ sig) = rowTab B
      ∧ σ' (main_v66 : DevRef τ sig) = layers (rowTab B) 3 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 3. -/
theorem col_3 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v66 : DevRef τ sig) = layers (rowTab B) 3 (by decide)) :
    let σ' := StableHlo.after hostOps0_11 (StableHlo.after hostOps0_10 σ)
    σ' (main_v24 : DevRef τ sig) = colOff ∧ σ' (main_v16 : DevRef τ sig) = colIn ∧ σ' (main_v41 : DevRef τ sig) = rowTab B
      ∧ σ' (main_v74 : DevRef τ sig) = layers (rowTab B) 4 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 4. -/
theorem col_4 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v74 : DevRef τ sig) = layers (rowTab B) 4 (by decide)) :
    let σ' := StableHlo.after hostOps0_13 (StableHlo.after hostOps0_12 σ)
    σ' (main_v24 : DevRef τ sig) = colOff ∧ σ' (main_v16 : DevRef τ sig) = colIn ∧ σ' (main_v41 : DevRef τ sig) = rowTab B
      ∧ σ' (main_v82 : DevRef τ sig) = layers (rowTab B) 5 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 5. -/
theorem col_5 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v82 : DevRef τ sig) = layers (rowTab B) 5 (by decide)) :
    let σ' := StableHlo.after hostOps0_15 (StableHlo.after hostOps0_14 σ)
    σ' (main_v24 : DevRef τ sig) = colOff ∧ σ' (main_v16 : DevRef τ sig) = colIn ∧ σ' (main_v41 : DevRef τ sig) = rowTab B
      ∧ σ' (main_v90 : DevRef τ sig) = layers (rowTab B) 6 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 6. -/
theorem col_6 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v90 : DevRef τ sig) = layers (rowTab B) 6 (by decide)) :
    let σ' := StableHlo.after hostOps0_17 (StableHlo.after hostOps0_16 σ)
    σ' (main_v24 : DevRef τ sig) = colOff ∧ σ' (main_v16 : DevRef τ sig) = colIn ∧ σ' (main_v41 : DevRef τ sig) = rowTab B
      ∧ σ' (main_v98 : DevRef τ sig) = layers (rowTab B) 7 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 7. -/
theorem col_7 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v98 : DevRef τ sig) = layers (rowTab B) 7 (by decide)) :
    let σ' := StableHlo.after hostOps0_19 (StableHlo.after hostOps0_18 σ)
    σ' (main_v24 : DevRef τ sig) = colOff ∧ σ' (main_v16 : DevRef τ sig) = colIn ∧ σ' (main_v41 : DevRef τ sig) = rowTab B
      ∧ σ' (main_v106 : DevRef τ sig) = layers (rowTab B) 8 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 8. -/
theorem col_8 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v106 : DevRef τ sig) = layers (rowTab B) 8 (by decide)) :
    let σ' := StableHlo.after hostOps0_21 (StableHlo.after hostOps0_20 σ)
    σ' (main_v24 : DevRef τ sig) = colOff ∧ σ' (main_v16 : DevRef τ sig) = colIn ∧ σ' (main_v41 : DevRef τ sig) = rowTab B
      ∧ σ' (main_v114 : DevRef τ sig) = layers (rowTab B) 9 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 9. -/
theorem col_9 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v114 : DevRef τ sig) = layers (rowTab B) 9 (by decide)) :
    let σ' := StableHlo.after hostOps0_23 (StableHlo.after hostOps0_22 σ)
    σ' (main_v24 : DevRef τ sig) = colOff ∧ σ' (main_v16 : DevRef τ sig) = colIn ∧ σ' (main_v41 : DevRef τ sig) = rowTab B
      ∧ σ' (main_v122 : DevRef τ sig) = layers (rowTab B) 10 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 10. -/
theorem col_10 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v122 : DevRef τ sig) = layers (rowTab B) 10 (by decide)) :
    let σ' := StableHlo.after hostOps0_25 (StableHlo.after hostOps0_24 σ)
    σ' (main_v24 : DevRef τ sig) = colOff ∧ σ' (main_v16 : DevRef τ sig) = colIn ∧ σ' (main_v41 : DevRef τ sig) = rowTab B
      ∧ σ' (main_v130 : DevRef τ sig) = layers (rowTab B) 11 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 11. -/
theorem col_11 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v130 : DevRef τ sig) = layers (rowTab B) 11 (by decide)) :
    let σ' := StableHlo.after hostOps0_27 (StableHlo.after hostOps0_26 σ)
    σ' (main_v24 : DevRef τ sig) = colOff ∧ σ' (main_v16 : DevRef τ sig) = colIn ∧ σ' (main_v41 : DevRef τ sig) = rowTab B
      ∧ σ' (main_v138 : DevRef τ sig) = layers (rowTab B) 12 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 12. -/
theorem col_12 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v138 : DevRef τ sig) = layers (rowTab B) 12 (by decide)) :
    let σ' := StableHlo.after hostOps0_29 (StableHlo.after hostOps0_28 σ)
    σ' (main_v24 : DevRef τ sig) = colOff ∧ σ' (main_v16 : DevRef τ sig) = colIn ∧ σ' (main_v41 : DevRef τ sig) = rowTab B
      ∧ σ' (main_v146 : DevRef τ sig) = layers (rowTab B) 13 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 13. -/
theorem col_13 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v146 : DevRef τ sig) = layers (rowTab B) 13 (by decide)) :
    let σ' := StableHlo.after hostOps0_31 (StableHlo.after hostOps0_30 σ)
    σ' (main_v24 : DevRef τ sig) = colOff ∧ σ' (main_v16 : DevRef τ sig) = colIn ∧ σ' (main_v41 : DevRef τ sig) = rowTab B
      ∧ σ' (main_v154 : DevRef τ sig) = layers (rowTab B) 14 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 14. -/
theorem col_14 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v154 : DevRef τ sig) = layers (rowTab B) 14 (by decide)) :
    let σ' := StableHlo.after hostOps0_33 (StableHlo.after hostOps0_32 σ)
    σ' (main_v24 : DevRef τ sig) = colOff ∧ σ' (main_v16 : DevRef τ sig) = colIn ∧ σ' (main_v41 : DevRef τ sig) = rowTab B
      ∧ σ' (main_v162 : DevRef τ sig) = layers (rowTab B) 15 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 15. -/
theorem col_15 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v162 : DevRef τ sig) = layers (rowTab B) 15 (by decide)) :
    let σ' := StableHlo.after hostOps0_35 (StableHlo.after hostOps0_34 σ)
    σ' (main_v24 : DevRef τ sig) = colOff ∧ σ' (main_v16 : DevRef τ sig) = colIn ∧ σ' (main_v41 : DevRef τ sig) = rowTab B
      ∧ σ' (main_v170 : DevRef τ sig) = layers (rowTab B) 16 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 16. -/
theorem col_16 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v170 : DevRef τ sig) = layers (rowTab B) 16 (by decide)) :
    let σ' := StableHlo.after hostOps0_37 (StableHlo.after hostOps0_36 σ)
    σ' (main_v24 : DevRef τ sig) = colOff ∧ σ' (main_v16 : DevRef τ sig) = colIn ∧ σ' (main_v41 : DevRef τ sig) = rowTab B
      ∧ σ' (main_v178 : DevRef τ sig) = layers (rowTab B) 17 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 17. -/
theorem col_17 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v178 : DevRef τ sig) = layers (rowTab B) 17 (by decide)) :
    let σ' := StableHlo.after hostOps0_39 (StableHlo.after hostOps0_38 σ)
    σ' (main_v24 : DevRef τ sig) = colOff ∧ σ' (main_v16 : DevRef τ sig) = colIn ∧ σ' (main_v41 : DevRef τ sig) = rowTab B
      ∧ σ' (main_v186 : DevRef τ sig) = layers (rowTab B) 18 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 18. -/
theorem col_18 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v186 : DevRef τ sig) = layers (rowTab B) 18 (by decide)) :
    let σ' := StableHlo.after hostOps0_41 (StableHlo.after hostOps0_40 σ)
    σ' (main_v24 : DevRef τ sig) = colOff ∧ σ' (main_v16 : DevRef τ sig) = colIn ∧ σ' (main_v41 : DevRef τ sig) = rowTab B
      ∧ σ' (main_v194 : DevRef τ sig) = layers (rowTab B) 19 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 19. -/
theorem col_19 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v194 : DevRef τ sig) = layers (rowTab B) 19 (by decide)) :
    let σ' := StableHlo.after hostOps0_43 (StableHlo.after hostOps0_42 σ)
    σ' (main_v24 : DevRef τ sig) = colOff ∧ σ' (main_v16 : DevRef τ sig) = colIn ∧ σ' (main_v41 : DevRef τ sig) = rowTab B
      ∧ σ' (main_v202 : DevRef τ sig) = layers (rowTab B) 20 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 20. -/
theorem col_20 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v202 : DevRef τ sig) = layers (rowTab B) 20 (by decide)) :
    let σ' := StableHlo.after hostOps0_45 (StableHlo.after hostOps0_44 σ)
    σ' (main_v24 : DevRef τ sig) = colOff ∧ σ' (main_v16 : DevRef τ sig) = colIn ∧ σ' (main_v41 : DevRef τ sig) = rowTab B
      ∧ σ' (main_v210 : DevRef τ sig) = layers (rowTab B) 21 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 21. -/
theorem col_21 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v210 : DevRef τ sig) = layers (rowTab B) 21 (by decide)) :
    let σ' := StableHlo.after hostOps0_47 (StableHlo.after hostOps0_46 σ)
    σ' (main_v24 : DevRef τ sig) = colOff ∧ σ' (main_v16 : DevRef τ sig) = colIn ∧ σ' (main_v41 : DevRef τ sig) = rowTab B
      ∧ σ' (main_v218 : DevRef τ sig) = layers (rowTab B) 22 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 22. -/
theorem col_22 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v218 : DevRef τ sig) = layers (rowTab B) 22 (by decide)) :
    let σ' := StableHlo.after hostOps0_49 (StableHlo.after hostOps0_48 σ)
    σ' (main_v24 : DevRef τ sig) = colOff ∧ σ' (main_v16 : DevRef τ sig) = colIn ∧ σ' (main_v41 : DevRef τ sig) = rowTab B
      ∧ σ' (main_v226 : DevRef τ sig) = layers (rowTab B) 23 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 23. -/
theorem col_23 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v226 : DevRef τ sig) = layers (rowTab B) 23 (by decide)) :
    let σ' := StableHlo.after hostOps0_51 (StableHlo.after hostOps0_50 σ)
    σ' (main_v24 : DevRef τ sig) = colOff ∧ σ' (main_v16 : DevRef τ sig) = colIn ∧ σ' (main_v41 : DevRef τ sig) = rowTab B
      ∧ σ' (main_v234 : DevRef τ sig) = layers (rowTab B) 24 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 24. -/
theorem col_24 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v234 : DevRef τ sig) = layers (rowTab B) 24 (by decide)) :
    let σ' := StableHlo.after hostOps0_53 (StableHlo.after hostOps0_52 σ)
    σ' (main_v24 : DevRef τ sig) = colOff ∧ σ' (main_v16 : DevRef τ sig) = colIn ∧ σ' (main_v41 : DevRef τ sig) = rowTab B
      ∧ σ' (main_v242 : DevRef τ sig) = layers (rowTab B) 25 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 25. -/
theorem col_25 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v242 : DevRef τ sig) = layers (rowTab B) 25 (by decide)) :
    let σ' := StableHlo.after hostOps0_55 (StableHlo.after hostOps0_54 σ)
    σ' (main_v24 : DevRef τ sig) = colOff ∧ σ' (main_v16 : DevRef τ sig) = colIn ∧ σ' (main_v41 : DevRef τ sig) = rowTab B
      ∧ σ' (main_v250 : DevRef τ sig) = layers (rowTab B) 26 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 26. -/
theorem col_26 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v250 : DevRef τ sig) = layers (rowTab B) 26 (by decide)) :
    let σ' := StableHlo.after hostOps0_57 (StableHlo.after hostOps0_56 σ)
    σ' (main_v24 : DevRef τ sig) = colOff ∧ σ' (main_v16 : DevRef τ sig) = colIn ∧ σ' (main_v41 : DevRef τ sig) = rowTab B
      ∧ σ' (main_v258 : DevRef τ sig) = layers (rowTab B) 27 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 27. -/
theorem col_27 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v258 : DevRef τ sig) = layers (rowTab B) 27 (by decide)) :
    let σ' := StableHlo.after hostOps0_59 (StableHlo.after hostOps0_58 σ)
    σ' (main_v24 : DevRef τ sig) = colOff ∧ σ' (main_v16 : DevRef τ sig) = colIn ∧ σ' (main_v41 : DevRef τ sig) = rowTab B
      ∧ σ' (main_v266 : DevRef τ sig) = layers (rowTab B) 28 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 28. -/
theorem col_28 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v266 : DevRef τ sig) = layers (rowTab B) 28 (by decide)) :
    let σ' := StableHlo.after hostOps0_61 (StableHlo.after hostOps0_60 σ)
    σ' (main_v24 : DevRef τ sig) = colOff ∧ σ' (main_v16 : DevRef τ sig) = colIn ∧ σ' (main_v41 : DevRef τ sig) = rowTab B
      ∧ σ' (main_v274 : DevRef τ sig) = layers (rowTab B) 29 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 29. -/
theorem col_29 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v274 : DevRef τ sig) = layers (rowTab B) 29 (by decide)) :
    let σ' := StableHlo.after hostOps0_63 (StableHlo.after hostOps0_62 σ)
    σ' (main_v24 : DevRef τ sig) = colOff ∧ σ' (main_v16 : DevRef τ sig) = colIn ∧ σ' (main_v41 : DevRef τ sig) = rowTab B
      ∧ σ' (main_v282 : DevRef τ sig) = layers (rowTab B) 30 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The table's column 30. -/
theorem col_30 (σ : Valuation τ sig (Elt Ideal)) (B : FVec Ideal S4x15x31 .f32)
    (h : σ (main_v24 : DevRef τ sig) = colOff ∧ σ (main_v16 : DevRef τ sig) = colIn ∧ σ (main_v41 : DevRef τ sig) = rowTab B
      ∧ σ (main_v282 : DevRef τ sig) = layers (rowTab B) 30 (by decide)) :
    let σ' := StableHlo.after hostOps0_65 (StableHlo.after hostOps0_64 σ)
    σ' (main_v24 : DevRef τ sig) = colOff ∧ σ' (main_v16 : DevRef τ sig) = colIn ∧ σ' (main_v41 : DevRef τ sig) = rowTab B
      ∧ σ' (main_v290 : DevRef τ sig) = layers (rowTab B) 31 (by decide) := by
  obtain ⟨h1, h2, h3, h4⟩ := h
  refine ⟨?_, ?_, ?_, ?_⟩
  · after_results; exact h1
  · after_results; exact h2
  · after_results; exact h3
  · after_results
    rw [h1, h2, h3, h4]
    rfl

/-- The last line lays the table out by key. -/
theorem laid_out (σ : Valuation τ sig (Elt Ideal)) :
    StableHlo.after hostOps0_66 σ (main_v291 : DevRef τ sig)
      = shapeCast S8x4x64x512 (σ (main_v290 : DevRef τ sig) : FVec Ideal S8x4x64x8x64 .f32) shapeCasts_S8x4x64x8x64_S8x4x64x512 := by
  after_results
  rfl

set_option maxHeartbeats 4000000 in
/-- What the call finds in the table's buffer. -/
theorem V_bias (m : (ℓ : Loc nD τ sig) → Buf (Elt Ideal) ℓ) (c : Dev nD) :
    V m c main_v291 = biasTab (m ((c : Thread nD τ).loc main_arg3)) := by
  unfold V
  rw [after_parts]
  simp only [List.foldl_cons, List.foldl_nil]
  refine (laid_out _).trans (congrArg (fun X => shapeCast S8x4x64x512 X shapeCasts_S8x4x64x8x64_S8x4x64x512) ?_)
  exact (col_30 _ _ (col_29 _ _ (col_28 _ _ (col_27 _ _ (col_26 _ _ (col_25 _ _ (col_24 _ _ (col_23 _ _ (col_22 _ _ (col_21 _ _ (col_20 _ _ (col_19 _ _ (col_18 _ _ (col_17 _ _ (col_16 _ _ (col_15 _ _ (col_14 _ _ (col_13 _ _ (col_12 _ _ (col_11 _ _ (col_10 _ _ (col_9 _ _ (col_8 _ _ (col_7 _ _ (col_6 _ _ (col_5 _ _ (col_4 _ _ (col_3 _ _ (col_2 _ _ (col_1 _ _ (col_0 _ _ rfl))))))))))))))))))))))))))))))).2.2.2

end Cert.KernelIdeal.Natten

end
-- ==== Proof.NattenRow.lean ====
/- One image row of the attention kernel: the block of 64 queries it stores, at an index, is the plain attention over
   the keys and biases it reads. -/
module

public import proofs.«01_k».proof.Proof.Gen.KernelIdeal.Frame
public import proofs.«01_k».proof.Proof.NattenSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.Natten

open Cert.KernelIdeal Cert.KernelIdeal.Gen Cert.Natten

/-- The mask of head `h`'s features. -/
def maskOf (h : Fin 4) : IVec S64x256 1 := match h with
  | 0 => k0_pay3
  | 1 => k0_pay4
  | 2 => k0_pay5
  | 3 => k0_pay6

/-- Head `h`'s mask holds at its own features. -/
theorem maskOf_at (h : Fin 4) (i : Fin 64) (l : Fin 256) : maskOf h (ix2 i l) = if l.val / 64 = h.val then 1#1 else 0#1 := by
  have h0 : ∀ (h : Fin 4) (l : Fin 256), maskOf h (ix2 (0 : Fin 64) l) = if l.val / 64 = h.val then 1#1 else 0#1 := by
    decide +kernel
  rw [← h0]
  fin_cases h <;> rfl

/-- A sum over all features of what vanishes off head `h` is the sum over that head's. -/
theorem sum_lane (h : Fin 4) (f : Fin 256 → EReal) (hf : ∀ l : Fin 256, l.val / 64 ≠ h.val → f l = 0) :
    ∑ l, f l = ∑ d, f (lane h d) := by
  have : ∑ l, f l = ∑ p : Fin 4, ∑ d : Fin 64, f (lane p d) := by
    rw [← Fintype.sum_prod_type']
    refine (Fintype.sum_equiv (finProdFinEquiv (m := 4) (n := 64)) _ _ fun p => congrArg f (Fin.ext ?_)).symm
    simp only [finProdFinEquiv_apply_val, lane]
    omega
  rw [this]
  refine Fintype.sum_eq_single h fun p hp => Finset.sum_eq_zero fun d _ => hf _ ?_
  have := Fin.val_ne_of_ne hp
  simp only [lane]
  omega

/-- One head's scores: its queries against the keys, and the bias. -/
theorem scores_at (h : Fin 4) (q : Vec Ideal S64x256 .bf16) (K : Vec Ideal S512x256 .bf16) (b : Vec Ideal S1x1x64x512 .f32)
    (i : Fin 64) (k : Fin 512) :
    k0_pay7 (maskOf h) q K b (ix2 i k) = (∑ d : Fin 64, q (ix2 i (lane h d)) * K (ix2 k (lane h d))) + b (ix4 0 0 i k) := by
  have hm := maskOf_at h
  generalize maskOf h = M at hm ⊢
  pointwise [k0_pay7]
  rw [sum_lane h]
  · refine congrArg (· + _) (Finset.sum_congr rfl fun d _ => ?_)
    rw [hm, if_pos (by simp only [lane]; omega)]
    rfl
  · intro l hl
    rw [hm, if_neg hl]
    rfl

/-- One head's probabilities. -/
theorem probs_at (s : FVec Ideal S64x512 .f32) (i : Fin 64) (k : Fin 512) :
    k0_pay46 s (ix2 i k) = Ideal.div (Ideal.exp (s (ix2 i k) - top fun x => s (ix2 i x)))
      (∑ y, Ideal.exp (s (ix2 i y) - top fun x => s (ix2 i x))) := by
  unfold top
  pointwise [k0_pay46]

/-- The four heads' results put side by side. -/
theorem heads_at (P : Fin 4 → FVec Ideal S64x512 .bf16) (V : Vec Ideal S512x256 .bf16) (i : Fin 64) (l : Fin 256) :
    k0_pay85 (maskOf 0) (maskOf 1) (maskOf 2) (maskOf 3) (P 0) (P 1) (P 2) (P 3) V (ix2 i l) =
      ∑ k, P ⟨l.val / 64, by omega⟩ (ix2 i k) * V (ix2 k l) := by
  have hm := fun h => maskOf_at h i l
  generalize maskOf = M at hm ⊢
  pointwise [k0_pay85]
  simp only [hm]
  generalize hg : (⟨l.val / 64, by omega⟩ : Fin 4) = g
  have hv : l.val / 64 = g.val := congrArg Fin.val hg
  rw [hv]
  fin_cases g <;> rfl

/-- The 64 rows stored for one image row, from its queries, the keys and values of its eight rows, and the four heads'
    biases. -/
def rowOut (q : Vec Ideal S64x256 .bf16) (K V : Vec Ideal S512x256 .bf16) (b : Fin 4 → Vec Ideal S1x1x64x512 .f32) :
    FVec Ideal S64x256 .f32 :=
  k0_pay85 k0_pay3 k0_pay4 k0_pay5 k0_pay6 (k0_pay46 (k0_pay7 k0_pay3 q K (b 0))) (k0_pay46 (k0_pay7 k0_pay4 q K (b 1)))
    (k0_pay46 (k0_pay7 k0_pay5 q K (b 2))) (k0_pay46 (k0_pay7 k0_pay6 q K (b 3))) V

/-- They are the plain attention. -/
theorem rowOut_at (q : Vec Ideal S64x256 .bf16) (K V : Vec Ideal S512x256 .bf16) (b : Fin 4 → Vec Ideal S1x1x64x512 .f32)
    (i : Fin 64) (l : Fin 256) :
    rowOut q K V b (ix2 i l) =
      attend (fun k => (∑ d : Fin 64, q (ix2 i (lane ⟨l.val / 64, by omega⟩ d)) * K (ix2 k (lane ⟨l.val / 64, by omega⟩ d)))
        + b ⟨l.val / 64, by omega⟩ (ix4 0 0 i k)) fun k => V (ix2 k l) := by
  refine (heads_at (fun h => k0_pay46 (k0_pay7 (maskOf h) q K (b h))) V i l).trans ?_
  unfold attend
  simp only [probs_at, scores_at]

end Cert.KernelIdeal.Natten

end
-- ==== Proof.Natten.lean ====
/- The attention kernel's array is the reference's. -/
module

public import proofs.«01_k».proof.Proof.NattenLine
public import proofs.«01_k».proof.Proof.NattenRow

@[expose] public section

set_option maxRecDepth 16384

noncomputable section

open Idealize.ShloMosaic Idealize.ShloMosaic.TcCoe Idealize.SL.Sem
open Idealize.ShloMosaic.Pipeline (Dat)

namespace Cert.KernelIdeal.Natten

open Cert.KernelIdeal Cert.KernelIdeal.Gen Cert.Natten

variable (m : (ℓ : Loc nD τ sig) → Buf (Elt Ideal) ℓ)

/-- The plain attention at every row and feature. -/
def attnOf (Q K V : FVec Ideal S16384x256 .bf16) (B : FVec Ideal S4x15x31 .f32) : FVec Ideal S16384x256 .f32 := fun y =>
  attnAt Q K V B ⟨(y 0).val / 4096, by have := (y 0).isLt; dsimp at this; omega⟩ ⟨(y 1).val / 64, by have := (y 1).isLt; dsimp at this; omega⟩
    ⟨(y 0).val / 64 % 64, by omega⟩ ⟨(y 0).val % 64, by omega⟩ ⟨(y 1).val % 64, by omega⟩

/-- The block every window has at each grid point. -/
theorem idx : ∀ t : Fin cfg0.N, win0_0.index t = ![t.val, 0] ∧ win0_1.index t = ![t.val / 8, 0] ∧ win0_2.index t = ![t.val / 8, 0]
    ∧ win0_3.index t = ![0, 0, 0, 0] ∧ win0_4.index t = ![t.val, 0] :=
  (by decide +kernel : ∀ t : Fin grid0.N, _)

/-- The image row a grid point's part works on. -/
def rowAt (t : Fin cfg0.N) (j : Fin 8) : Fin 64 := ⟨t.val % 8 * 8 + j.val, by omega⟩

/-- The first key of a grid point's part. -/
theorem off_keys : ∀ (t : Fin cfg0.N) (j : Fin 8), k0_off2 (grid0.coords t) (BitVec.ofNat 32 j.val)
    = ![min 56 (t.val % 8 * 8 + j.val - 4) * 64, 0] :=
  (by decide +kernel : ∀ (t : Fin grid0.N) (j : Fin 8), _)

/-- The rows of the bias table a grid point's part reads. -/
def verAt (t : Fin cfg0.N) (j : Fin 8) : Fin 8 :=
  ⟨7 - (min 56 (t.val % 8 * 8 + j.val - 4) + 7 - (t.val % 8 * 8 + j.val)), by omega⟩

/-- The places of the four heads' biases of a grid point's part. -/
theorem off_bias : ∀ (t : Fin cfg0.N) (j : Fin 8),
    k0_off3 (grid0.coords t) (BitVec.ofNat 32 j.val) = ![(verAt t j).val, 0, 0, 0]
    ∧ k0_off4 (grid0.coords t) (BitVec.ofNat 32 j.val) = ![(verAt t j).val, 1, 0, 0]
    ∧ k0_off5 (grid0.coords t) (BitVec.ofNat 32 j.val) = ![(verAt t j).val, 2, 0, 0]
    ∧ k0_off6 (grid0.coords t) (BitVec.ofNat 32 j.val) = ![(verAt t j).val, 3, 0, 0] :=
  (by decide +kernel : ∀ (t : Fin grid0.N) (j : Fin 8), _)

/-- The queries' block. -/
theorem blk_q (c : Dev nD) (t : Fin cfg0.N) (a : Fin 512) (l : Fin 256) (ht : t.val < 32) :
    iblk m c 0 t (ix2 a l) = (m ((c : Thread nD τ).loc main_arg0) : FVec Ideal S16384x256 .bf16) (ix2 ⟨t.val * 512 + a.val, by omega⟩ l) := by
  have e : iblk m c 0 t (ix2 a l) = (V m c main_arg0 : FVec Ideal S16384x256 .bf16) (ix2 ⟨t.val * 512 + a.val, by omega⟩ l) := by
    blk_ext [iblk, idx t]
  rw [e, V_main_arg0]

/-- The keys' block. -/
theorem blk_k (c : Dev nD) (t : Fin cfg0.N) (a : Fin 4096) (l : Fin 256) (ht : t.val < 32) :
    iblk m c 1 t (ix2 a l) = (m ((c : Thread nD τ).loc main_arg1) : FVec Ideal S16384x256 .bf16) (ix2 ⟨t.val / 8 * 4096 + a.val, by omega⟩ l) := by
  have e : iblk m c 1 t (ix2 a l) = (V m c main_arg1 : FVec Ideal S16384x256 .bf16) (ix2 ⟨t.val / 8 * 4096 + a.val, by omega⟩ l) := by
    blk_ext [iblk, idx t]
  rw [e, V_main_arg1]

/-- The values' block. -/
theorem blk_v (c : Dev nD) (t : Fin cfg0.N) (a : Fin 4096) (l : Fin 256) (ht : t.val < 32) :
    iblk m c 2 t (ix2 a l) = (m ((c : Thread nD τ).loc main_arg2) : FVec Ideal S16384x256 .bf16) (ix2 ⟨t.val / 8 * 4096 + a.val, by omega⟩ l) := by
  have e : iblk m c 2 t (ix2 a l) = (V m c main_arg2 : FVec Ideal S16384x256 .bf16) (ix2 ⟨t.val / 8 * 4096 + a.val, by omega⟩ l) := by
    blk_ext [iblk, idx t]
  rw [e, V_main_arg2]

/-- The bias table's block is the table. -/
theorem blk_b (c : Dev nD) (t : Fin cfg0.N) (p : Fin 8) (h : Fin 4) (i : Fin 64) (k : Fin 512) :
    iblk m c 3 t (ix4 p h i k) = biasTab (m ((c : Thread nD τ).loc main_arg3)) (ix4 p h i k) := by
  have e : iblk m c 3 t (ix4 p h i k) = (V m c main_v291 : FVec Ideal S8x4x64x512 .f32) (ix4 p h i k) := by
    blk_ext [iblk, idx t]
  rw [e, V_bias]

/-- A stored row is the plain attention's, when its operands are the plain ones. -/
theorem row_eq (Q K V : FVec Ideal S16384x256 .bf16) (B : FVec Ideal S4x15x31 .f32) (q : Vec Ideal S64x256 .bf16)
    (k v : Vec Ideal S512x256 .bf16) (b : Fin 4 → Vec Ideal S1x1x64x512 .f32) (g : Fin 4) (r : Fin 64)
    (hq : ∀ i l, q (ix2 i l) = Q (ix2 (queryRow g r i) l)) (hk : ∀ x l, k (ix2 x l) = K (ix2 (keyRow g r x) l))
    (hv : ∀ x l, v (ix2 x l) = V (ix2 (keyRow g r x) l)) (hb : ∀ h i x, b h (ix4 0 0 i x) = biasAt B h r i x)
    (x : S64x256.Idx) (y : S16384x256.Idx) (h0 : (y 0).val = g.val * 4096 + r.val * 64 + (x 0).val) (h1 : (y 1).val = (x 1).val) :
    rowOut q k v b x = attnOf Q K V B y := by
  have x0 := (x 0).isLt
  have x1 := (x 1).isLt
  dsimp at x0 x1
  have ex : x = ix2 ⟨(x 0).val, x0⟩ ⟨(x 1).val, x1⟩ := by
    funext a; fin_cases a <;> rfl
  have e0 : (⟨(y 0).val / 4096, by omega⟩ : Fin 4) = g := Fin.ext (by dsimp only; omega)
  have e1 : (⟨(y 1).val / 64, by omega⟩ : Fin 4) = ⟨(x 1).val / 64, by omega⟩ := Fin.ext (by dsimp only; omega)
  have e2 : (⟨(y 0).val / 64 % 64, by omega⟩ : Fin 64) = r := Fin.ext (by dsimp only; omega)
  have e3 : (⟨(y 0).val % 64, by omega⟩ : Fin 64) = ⟨(x 0).val, x0⟩ := Fin.ext (by dsimp only; omega)
  have e4 : (⟨(y 1).val % 64, by omega⟩ : Fin 64) = ⟨(x 1).val % 64, by omega⟩ := Fin.ext (by dsimp only; omega)
  refine (congrArg (rowOut q k v b) ex).trans ?_
  unfold attnOf
  rw [rowOut_at, e0, e1, e2, e3, e4]
  unfold attnAt score
  simp only [hq, hk, hv, hb]
  have el : lane ⟨(x 1).val / 64, by omega⟩ ⟨(x 1).val % 64, by omega⟩ = ⟨(x 1).val, x1⟩ := Fin.ext (by simp only [lane]; omega)
  rw [el]

/-- A load of two axes at an index. -/
theorem ld_two {s z : Fin 2 → ℕ} (X : (⟨2, s⟩ : Shape).Idx → Elt Ideal .bf16) (o : Fin 2 → ℕ) (p) (x : (⟨2, z⟩ : Shape).Idx)
    (w : (⟨2, s⟩ : Shape).Idx) (h : ∀ a, (w a).val = o a + (x a).val) :
    View.ld X (Rect.unit (s := ⟨2, s⟩) o z p) x = X w := by
  refine congrArg X (funext fun a => Fin.ext ?_)
  rw [h a]
  show o a + 1 * (x a).val = _
  rw [one_mul]

/-- A load of four axes at an index. -/
theorem ld_four {s z : Fin 4 → ℕ} (X : (⟨4, s⟩ : Shape).Idx → Elt Ideal .f32) (o : Fin 4 → ℕ) (p) (x : (⟨4, z⟩ : Shape).Idx)
    (w : (⟨4, s⟩ : Shape).Idx) (h : ∀ a, (w a).val = o a + (x a).val) :
    View.ld X (Rect.unit (s := ⟨4, s⟩) o z p) x = X w := by
  refine congrArg X (funext fun a => Fin.ext ?_)
  rw [h a]
  show o a + 1 * (x a).val = _
  rw [one_mul]

/-- The table's entry for a grid point's part is the plain bias. -/
theorem bias_eq (B : FVec Ideal S4x15x31 .f32) (t : Fin cfg0.N) (j : Fin 8) (h : Fin 4) (i : Fin 64) (x : Fin 512) :
    biasTab B (ix4 (verAt t j) h i x) = biasAt B h (rowAt t j) i x := by
  rw [biasTab_at, biasAt]
  have e : (⟨7 - (verAt t j).val + x.val / 64, by omega⟩ : Fin 15)
      = ⟨min 56 ((rowAt t j).val - 4) + x.val / 64 + 7 - (rowAt t j).val, by omega⟩ :=
    Fin.ext (by simp only [verAt, rowAt]; omega)
  rw [e]

/-- The eight parts of a grid point's block are the plain attention's rows. -/
theorem part_of (t : Fin cfg0.N) (j : Fin 8) (o : ℕ) (w : BitVec 32) (X0 : Vec Ideal S512x256 .bf16) (X1 X2 : Vec Ideal S4096x256 .bf16)
    (X3 : Vec Ideal S8x4x64x512 .f32) (Q K V : FVec Ideal S16384x256 .bf16) (B : FVec Ideal S4x15x31 .f32) (ht : t.val < 32)
    (hX0 : ∀ (a : Fin 512) (l : Fin 256), X0 (ix2 a l) = Q (ix2 ⟨t.val * 512 + a.val, by omega⟩ l))
    (hX1 : ∀ (a : Fin 4096) (l : Fin 256), X1 (ix2 a l) = K (ix2 ⟨t.val / 8 * 4096 + a.val, by omega⟩ l))
    (hX2 : ∀ (a : Fin 4096) (l : Fin 256), X2 (ix2 a l) = V (ix2 ⟨t.val / 8 * 4096 + a.val, by omega⟩ l))
    (hX3 : ∀ (p : Fin 8) (h : Fin 4) (i : Fin 64) (k : Fin 512), X3 (ix4 p h i k) = biasTab B (ix4 p h i k))
    (pq) (pk) (p3) (p4) (p5) (p6) (x : S64x256.Idx) (y : S16384x256.Idx) (ho : o = j.val * 64) (hw : w = BitVec.ofNat 32 j.val)
    (h0 : (y 0).val = t.val * 512 + (o + (x 0).val)) (h1 : (y 1).val = (x 1).val) :
    rowOut (View.ld X0 (Rect.unit (s := S512x256) ![o, 0] ![64, 256] pq))
      (View.ld X1 (Rect.unit (s := S4096x256) (k0_off2 (grid0.coords t) w) ![512, 256] pk))
      (View.ld X2 (Rect.unit (s := S4096x256) (k0_off2 (grid0.coords t) w) ![512, 256] pk))
      ![View.ld X3 (Rect.unit (s := S8x4x64x512) (k0_off3 (grid0.coords t) w) ![1, 1, 64, 512] p3),
        View.ld X3 (Rect.unit (s := S8x4x64x512) (k0_off4 (grid0.coords t) w) ![1, 1, 64, 512] p4),
        View.ld X3 (Rect.unit (s := S8x4x64x512) (k0_off5 (grid0.coords t) w) ![1, 1, 64, 512] p5),
        View.ld X3 (Rect.unit (s := S8x4x64x512) (k0_off6 (grid0.coords t) w) ![1, 1, 64, 512] p6)] x
      = attnOf Q K V B y := by
  subst ho hw
  have hk := off_keys t j
  obtain ⟨b3, b4, b5, b6⟩ := off_bias t j
  generalize k0_off2 (grid0.coords t) (BitVec.ofNat 32 j.val) = o2 at hk pk ⊢
  generalize k0_off3 (grid0.coords t) (BitVec.ofNat 32 j.val) = o3 at b3 p3 ⊢
  generalize k0_off4 (grid0.coords t) (BitVec.ofNat 32 j.val) = o4 at b4 p4 ⊢
  generalize k0_off5 (grid0.coords t) (BitVec.ofNat 32 j.val) = o5 at b5 p5 ⊢
  generalize k0_off6 (grid0.coords t) (BitVec.ofNat 32 j.val) = o6 at b6 p6 ⊢
  subst hk b3 b4 b5 b6
  refine row_eq _ _ _ _ _ _ _ _ ⟨t.val / 8, by omega⟩ (rowAt t j) ?_ ?_ ?_ ?_ x y ?_ h1
  · intro i l
    rw [ld_two X0 _ pq (ix2 i l) (ix2 ⟨j.val * 64 + i.val, by omega⟩ l)
      (by intro a; fin_cases a; · rfl
          · exact (Nat.zero_add _).symm), hX0]
    refine congrArg _ (congrArg₂ ix2 (Fin.ext ?_) rfl)
    simp only [queryRow, rowAt]
    omega
  · intro i l
    rw [ld_two X1 _ pk (ix2 i l) (ix2 ⟨min 56 (t.val % 8 * 8 + j.val - 4) * 64 + i.val, by omega⟩ l)
      (by intro a; fin_cases a; · rfl
          · exact (Nat.zero_add _).symm), hX1]
    refine congrArg _ (congrArg₂ ix2 (Fin.ext ?_) rfl)
    simp only [keyRow, rowAt]
    omega
  · intro i l
    rw [ld_two X2 _ pk (ix2 i l) (ix2 ⟨min 56 (t.val % 8 * 8 + j.val - 4) * 64 + i.val, by omega⟩ l)
      (by intro a; fin_cases a; · rfl
          · exact (Nat.zero_add _).symm), hX2]
    refine congrArg _ (congrArg₂ ix2 (Fin.ext ?_) rfl)
    simp only [keyRow, rowAt]
    omega
  · intro h i k
    rw [← bias_eq, ← hX3]
    have z : ∀ (h : Fin 4) (n : Fin 4 → ℕ), n 0 = (verAt t j).val → n 1 = h.val → n 2 = 0 → n 3 = 0 →
        ∀ a, ((ix4 (verAt t j) h i k : S8x4x64x512.Idx) a).val = n a + ((ix4 0 0 i k : S1x1x64x512.Idx) a).val := by
      intro h n e0 e1 e2 e3 a
      fin_cases a
      · exact e0.symm
      · exact e1.symm
      · exact ((congrArg (· + i.val) e2).trans (Nat.zero_add _)).symm
      · exact ((congrArg (· + k.val) e3).trans (Nat.zero_add _)).symm
    match h with
    | 0 => exact ld_four X3 _ p3 _ _ (z 0 _ rfl rfl rfl rfl)
    | 1 => exact ld_four X3 _ p4 _ _ (z 1 _ rfl rfl rfl rfl)
    | 2 => exact ld_four X3 _ p5 _ _ (z 2 _ rfl rfl rfl rfl)
    | 3 => exact ld_four X3 _ p6 _ _ (z 3 _ rfl rfl rfl rfl)
  · simp only [rowAt]
    omega

/-- Part 7's payload is the row's. -/
theorem pay_7 (q : Vec Ideal S64x256 .bf16) (K V : Vec Ideal S512x256 .bf16) (b0 b1 b2 b3 : Vec Ideal S1x1x64x512 .f32) :
    k0_pay1 k0_pay3 k0_pay4 k0_pay5 k0_pay6 (k0_pay80 (k0_pay42 (k0_pay41 k0_pay3 q K) b0)) (k0_pay81 (k0_pay43 k0_pay4 q K b1)) (k0_pay82 (k0_pay44 k0_pay5 q K b2)) (k0_pay84 (k0_pay83 (k0_pay45 k0_pay6 q K b3))) V k0_pay93
      = rowOut q K V ![b0, b1, b2, b3] := by
  unfold rowOut
  rfl

/-- Part 6's payload is the row's. -/
theorem pay_6 (q : Vec Ideal S64x256 .bf16) (K V : Vec Ideal S512x256 .bf16) (b0 b1 b2 b3 : Vec Ideal S1x1x64x512 .f32) :
    k0_pay92 k0_pay3 k0_pay4 k0_pay5 k0_pay6 (k0_pay75 (k0_pay36 k0_pay3 q K b0)) (k0_pay76 (k0_pay37 k0_pay4 q K b1)) (k0_pay78 (k0_pay77 (k0_pay39 K (k0_pay38 k0_pay5 q) b2))) (k0_pay79 (k0_pay40 k0_pay6 q K b3)) V
      = rowOut q K V ![b0, b1, b2, b3] := by
  unfold rowOut
  rfl

/-- Part 5's payload is the row's. -/
theorem pay_5 (q : Vec Ideal S64x256 .bf16) (K V : Vec Ideal S512x256 .bf16) (b0 b1 b2 b3 : Vec Ideal S1x1x64x512 .f32) :
    k0_pay91 k0_pay3 k0_pay4 k0_pay5 k0_pay6 (k0_pay70 (k0_pay32 k0_pay3 q K b0)) (k0_pay72 (k0_pay71 (k0_pay33 k0_pay4 q K b1))) (k0_pay73 (k0_pay34 k0_pay5 q K b2)) (k0_pay74 (k0_pay35 k0_pay6 q K b3)) V
      = rowOut q K V ![b0, b1, b2, b3] := by
  unfold rowOut
  rfl

/-- Part 4's payload is the row's. -/
theorem pay_4 (q : Vec Ideal S64x256 .bf16) (K V : Vec Ideal S512x256 .bf16) (b0 b1 b2 b3 : Vec Ideal S1x1x64x512 .f32) :
    k0_pay90 k0_pay3 k0_pay4 k0_pay5 k0_pay6 (k0_pay66 (k0_pay65 (k0_pay28 (k0_pay26 k0_pay3 q K) (k0_pay27 b0)))) (k0_pay67 (k0_pay29 k0_pay4 q K b1)) (k0_pay68 (k0_pay30 k0_pay5 q K b2)) (k0_pay69 (k0_pay31 k0_pay6 q K b3)) V
      = rowOut q K V ![b0, b1, b2, b3] := by
  unfold rowOut
  rfl

/-- Part 3's payload is the row's. -/
theorem pay_3 (q : Vec Ideal S64x256 .bf16) (K V : Vec Ideal S512x256 .bf16) (b0 b1 b2 b3 : Vec Ideal S1x1x64x512 .f32) :
    k0_pay89 k0_pay3 k0_pay4 k0_pay5 k0_pay6 (k0_pay61 (k0_pay21 k0_pay3 q K b0)) (k0_pay62 (k0_pay22 k0_pay4 q K b1)) (k0_pay63 (k0_pay24 (k0_pay23 k0_pay5 q K) b2)) (k0_pay64 (k0_pay25 k0_pay6 q K b3)) V
      = rowOut q K V ![b0, b1, b2, b3] := by
  unfold rowOut
  rfl

/-- Part 2's payload is the row's. -/
theorem pay_2 (q : Vec Ideal S64x256 .bf16) (K V : Vec Ideal S512x256 .bf16) (b0 b1 b2 b3 : Vec Ideal S1x1x64x512 .f32) :
    k0_pay88 k0_pay3 k0_pay4 k0_pay5 k0_pay6 (k0_pay56 (k0_pay17 k0_pay3 q K b0)) (k0_pay57 (k0_pay18 k0_pay4 q K b1)) (k0_pay58 (k0_pay19 k0_pay5 q K b2)) (k0_pay60 (k0_pay59 (k0_pay20 k0_pay6 q K b3))) V k0_pay87
      = rowOut q K V ![b0, b1, b2, b3] := by
  unfold rowOut
  rfl

/-- Part 1's payload is the row's. -/
theorem pay_1 (q : Vec Ideal S64x256 .bf16) (K V : Vec Ideal S512x256 .bf16) (b0 b1 b2 b3 : Vec Ideal S1x1x64x512 .f32) :
    k0_pay86 k0_pay3 k0_pay4 k0_pay5 k0_pay6 (k0_pay51 (k0_pay12 k0_pay3 q K b0)) (k0_pay52 (k0_pay14 (k0_pay13 k0_pay4 q K) b1)) (k0_pay54 (k0_pay53 (k0_pay15 k0_pay5 q K b2))) (k0_pay55 (k0_pay16 k0_pay6 q K b3)) V
      = rowOut q K V ![b0, b1, b2, b3] := by
  unfold rowOut
  rfl

/-- Part 0's payload is the row's. -/
theorem pay_0 (q : Vec Ideal S64x256 .bf16) (K V : Vec Ideal S512x256 .bf16) (b0 b1 b2 b3 : Vec Ideal S1x1x64x512 .f32) :
    k0_pay85 k0_pay3 k0_pay4 k0_pay5 k0_pay6 (k0_pay46 (k0_pay7 k0_pay3 q K b0)) (k0_pay48 (k0_pay47 (k0_pay8 k0_pay4 q K b1))) (k0_pay49 (k0_pay9 k0_pay5 q K b2)) (k0_pay50 (k0_pay11 K (k0_pay10 k0_pay6 q) b3)) V
      = rowOut q K V ![b0, b1, b2, b3] := by
  unfold rowOut
  rfl

set_option maxHeartbeats 4000000 in
/-- The kernel's array is the plain attention. -/
theorem att_final (c : Dev nD) : (dats m 0 c).arrAt 4 (cfgs 0).N =
    attnOf (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t _ y => ?_
  have hy0 : (((View.whole main_v292).slice (win0_4.rect t)).emb y 0).val = t.val * 512 + (y 0).val := by
    blk_simp [idx t]
  have hy1 : (((View.whole main_v292).slice (win0_4.rect t)).emb y 1).val = (y 1).val := by
    blk_simp [idx t]
  have ht : t.val < 32 := t.isLt
  have q0 := fun a l => blk_q m c t a l ht
  have q1 := fun a l => blk_k m c t a l ht
  have q2 := fun a l => blk_v m c t a l ht
  have q3 := blk_b m c t
  blk_simp
  rw [after0_4]; unfold Gen.outsAt0; frame_out
  generalize ((View.whole main_v292).slice (win0_4.rect t)).emb y = z at hy0 hy1 ⊢
  generalize m ((c : Thread nD τ).loc main_arg0) = Q at q0 ⊢
  generalize m ((c : Thread nD τ).loc main_arg1) = K at q1 ⊢
  generalize m ((c : Thread nD τ).loc main_arg2) = W at q2 ⊢
  generalize m ((c : Thread nD τ).loc main_arg3) = B at q3 ⊢
  generalize iblk m c 0 t = X0 at q0 ⊢
  generalize iblk m c 1 t = X1 at q1 ⊢
  generalize iblk m c 2 t = X2 at q2 ⊢
  generalize iblk m c 3 t = X3 at q3 ⊢
  canon_tiles x h
  case piece0 =>
    exact (congrFun (pay_7 _ _ _ _ _ _ _) x).trans
      (part_of t 7 _ _ X0 X1 X2 X3 Q K W B ht q0 q1 q2 q3 _ _ _ _ _ _ x z rfl rfl (hy0.trans (congrArg _ h0)) (hy1.trans h1))
  case piece1 =>
    exact (congrFun (pay_6 _ _ _ _ _ _ _) x).trans
      (part_of t 6 _ _ X0 X1 X2 X3 Q K W B ht q0 q1 q2 q3 _ _ _ _ _ _ x z rfl rfl (hy0.trans (congrArg _ h0)) (hy1.trans h1))
  case piece2 =>
    exact (congrFun (pay_5 _ _ _ _ _ _ _) x).trans
      (part_of t 5 _ _ X0 X1 X2 X3 Q K W B ht q0 q1 q2 q3 _ _ _ _ _ _ x z rfl rfl (hy0.trans (congrArg _ h0)) (hy1.trans h1))
  case piece3 =>
    exact (congrFun (pay_4 _ _ _ _ _ _ _) x).trans
      (part_of t 4 _ _ X0 X1 X2 X3 Q K W B ht q0 q1 q2 q3 _ _ _ _ _ _ x z rfl rfl (hy0.trans (congrArg _ h0)) (hy1.trans h1))
  case piece4 =>
    exact (congrFun (pay_3 _ _ _ _ _ _ _) x).trans
      (part_of t 3 _ _ X0 X1 X2 X3 Q K W B ht q0 q1 q2 q3 _ _ _ _ _ _ x z rfl rfl (hy0.trans (congrArg _ h0)) (hy1.trans h1))
  case piece5 =>
    exact (congrFun (pay_2 _ _ _ _ _ _ _) x).trans
      (part_of t 2 _ _ X0 X1 X2 X3 Q K W B ht q0 q1 q2 q3 _ _ _ _ _ _ x z rfl rfl (hy0.trans (congrArg _ h0)) (hy1.trans h1))
  case piece6 =>
    exact (congrFun (pay_1 _ _ _ _ _ _ _) x).trans
      (part_of t 1 _ _ X0 X1 X2 X3 Q K W B ht q0 q1 q2 q3 _ _ _ _ _ _ x z rfl rfl (hy0.trans (congrArg _ h0)) (hy1.trans h1))
  case piece7 =>
    exact (congrFun (pay_0 _ _ _ _ _ _ _) x).trans
      (part_of t 0 _ _ X0 X1 X2 X3 Q K W B ht q0 q1 q2 q3 _ _ _ _ _ _ x z rfl rfl (hy0.trans (congrArg _ (h0.trans (Nat.zero_add _).symm))) (hy1.trans h1))

end Cert.KernelIdeal.Natten

end
-- ==== Proof.NattenRef.lean ====
/- The reference's neighbourhood attention: its composed term in named steps, and each step at an index. -/
module

public import proofs.«01_k».proof.Proof.Gen.ReferenceIdeal.Run
public import proofs.«01_k».proof.Proof.NattenSpec
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.ReferenceIdeal.Natten

open Cert.ReferenceIdeal Cert.ReferenceIdeal.Gen Cert.Natten

/-- The first key row of every query row. -/
def rowStart : IVec S64 32 :=
  minsi (broadcastInDim S64 ![] bcast_S_S64 (id (constantI S_ 32 56#32))) (maxsi (broadcastInDim S64 ![] bcast_S_S64 (id (constantI S_ 32 0#32))) (subi (iotaInDim S64 32 0) (broadcastInDim S64 ![] bcast_S_S64 (constantI S_ 32 4#32))))

/-- The key rows of every query row. -/
def rowIdx : IVec S64x8 32 :=
  addi (broadcastInDim S64x8 ![0, 1] bcast_S64x1_S64x8_0_1 (broadcastInDim S64x1 ![0] bcast_S64_S64x1_0 rowStart)) (broadcastInDim S64x8 ![0, 1] bcast_S1x8_S64x8_0_1 (broadcastInDim S1x8 ![1] bcast_S8_S1x8_1 (iotaInDim S8 32 0)))

/-- The key rows as the gather reads them. -/
def rowWord : IVec S64x8x1 32 :=
  broadcastInDim S64x8x1 ![0, 1] bcast_S64x8_S64x8x1_0_1 (select (cmpi .slt rowIdx (broadcastInDim S64x8 ![] bcast_S_S64x8 (constantI S_ 32 0#32))) (addi rowIdx (broadcastInDim S64x8 ![] bcast_S_S64x8 (constantI S_ 32 64#32))) rowIdx)

/-- The first key column of every query column. -/
def colStart : IVec S64 32 :=
  minsi (broadcastInDim S64 ![] bcast_S_S64 (id (constantI S_ 32 48#32))) (maxsi (broadcastInDim S64 ![] bcast_S_S64 (id (constantI S_ 32 0#32))) (subi (iotaInDim S64 32 0) (broadcastInDim S64 ![] bcast_S_S64 (constantI S_ 32 8#32))))

/-- Whether a key column is in a query column's window. -/
def colIn : IVec S64x64 1 :=
  andi (cmpi .sge (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 colStart))) (cmpi .slt (broadcastInDim S64x64 ![0, 1] bcast_S1x64_S64x64_0_1 (broadcastInDim S1x64 ![1] bcast_S64_S1x64_1 (iotaInDim S64 32 0))) (broadcastInDim S64x64 ![0, 1] bcast_S64x1_S64x64_0_1 (addi (broadcastInDim S64x1 ![0] bcast_S64_S64x1_0 colStart) (broadcastInDim S64x1 ![] bcast_S_S64x1 (constantI S_ 32 16#32)))))

/-- The bias table's row of every query row and key row. -/
def rowOff : IVec S64x8 32 :=
  addi (subi rowIdx (broadcastInDim S64x8 ![0, 1] bcast_S64x1_S64x8_0_1 (broadcastInDim S64x1 ![0] bcast_S64_S64x1_0 (iotaInDim S64 32 0)))) (broadcastInDim S64x8 ![] bcast_S_S64x8 (constantI S_ 32 7#32))

/-- The bias table's column of every query column and key column. -/
def colOff : IVec S64x64 32 :=
  addi (minsi (broadcastInDim S64x64 ![] bcast_S_S64x64 (id (constantI S_ 32 15#32))) (maxsi (broadcastInDim S64x64 ![] bcast_S_S64x64 (id (constantI S_ 32 4294967281#32))) (subi (broadcastInDim S64x64 ![0, 1] bcast_S1x64_S64x64_0_1 (broadcastInDim S1x64 ![1] bcast_S64_S1x64_1 (iotaInDim S64 32 0))) (broadcastInDim S64x64 ![0, 1] bcast_S64x1_S64x64_0_1 (broadcastInDim S64x1 ![0] bcast_S64_S64x1_0 (iotaInDim S64 32 0)))))) (broadcastInDim S64x64 ![] bcast_S_S64x64 (constantI S_ 32 15#32))

/-- The bias table's places as the gather reads them. -/
def biasWord : IVec S64x64x8x64x2 32 :=
  concatenate S64x64x8x64x2 4 [⟨S64x64x8x64x1, (broadcastInDim S64x64x8x64x1 ![0, 1, 2, 3] bcast_S64x64x8x64_S64x64x8x64x1_0_1_2_3 (broadcastInDim S64x64x8x64 ![0, 1, 2, 3] bcast_S64x1x8x1_S64x64x8x64_0_1_2_3 (select (cmpi .slt (broadcastInDim S64x1x8x1 ![0, 2] bcast_S64x8_S64x1x8x1_0_2 rowOff) (broadcastInDim S64x1x8x1 ![] bcast_S_S64x1x8x1 (constantI S_ 32 0#32))) (addi (broadcastInDim S64x1x8x1 ![0, 2] bcast_S64x8_S64x1x8x1_0_2 rowOff) (broadcastInDim S64x1x8x1 ![] bcast_S_S64x1x8x1 (constantI S_ 32 15#32))) (broadcastInDim S64x1x8x1 ![0, 2] bcast_S64x8_S64x1x8x1_0_2 rowOff))))⟩, ⟨S64x64x8x64x1, (broadcastInDim S64x64x8x64x1 ![0, 1, 2, 3] bcast_S64x64x8x64_S64x64x8x64x1_0_1_2_3 (broadcastInDim S64x64x8x64 ![0, 1, 2, 3] bcast_S1x64x1x64_S64x64x8x64_0_1_2_3 (select (cmpi .slt (broadcastInDim S1x64x1x64 ![1, 3] bcast_S64x64_S1x64x1x64_1_3 colOff) (broadcastInDim S1x64x1x64 ![] bcast_S_S1x64x1x64 (constantI S_ 32 0#32))) (addi (broadcastInDim S1x64x1x64 ![1, 3] bcast_S64x64_S1x64x1x64_1_3 colOff) (broadcastInDim S1x64x1x64 ![] bcast_S_S1x64x1x64 (constantI S_ 32 31#32))) (broadcastInDim S1x64x1x64 ![1, 3] bcast_S64x64_S1x64x1x64_1_3 colOff))))⟩] concatenates_S64x64x8x64x1_S64x64x8x64x1_S64x64x8x64x2_d4

/-- The bias of every key, outside the window the large negative constant. -/
def biasOf (B : FVec Ideal S4x15x31 .f32) : FVec Ideal S4x64x64x8x64 .f32 :=
  select (broadcastInDim S4x64x64x8x64 ![0, 1, 2, 3, 4] bcast_S1x1x64x1x64_S4x64x64x8x64_0_1_2_3_4 (broadcastInDim S1x1x64x1x64 ![2, 4] bcast_S64x64_S1x1x64x1x64_2_4 colIn)) (Host.gather gather_S4x15x31_S64x64x8x64x2_S4x64x64x8x64_0_12_n_n_12_4_411 B biasWord) (broadcastInDim S4x64x64x8x64 ![] bcast_S_S4x64x64x8x64 (id (constant S_ .f32 0xF149F2CA#32)))

/-- An operand by batch, head, row, column and feature. -/
def gridOf (Q : FVec Ideal S16384x256 .bf16) : FVec Ideal S4x4x64x64x64 .f32 :=
  transpose S4x4x64x64x64 [0, 3, 1, 2, 4] (shapeCast _ (shapeCast _ (extf .f32 Q bitsLt_bf16_f32) shapeCasts_S16384x256_S4x4096x256) shapeCasts_S4x4096x256_S4x64x64x4x64) transposes_S4x64x64x4x64_S4x4x64x64x64_0_3_1_2_4

/-- The key rows of every query row. -/
def keysOf (K : FVec Ideal S16384x256 .bf16) : FVec Ideal S4x4x64x8x64x64 .f32 :=
  Host.gather gather_S4x4x64x64x64_S64x8x1_S4x4x64x8x64x64_0145_2_n_n_2_2_4416464 (gridOf K) rowWord

/-- The scores. -/
def scoresOf (Q : FVec Ideal S16384x256 .bf16) (K : FVec Ideal S16384x256 .bf16) (B : FVec Ideal S4x15x31 .f32) : FVec Ideal S4x4x64x64x512 .f32 :=
  shapeCast _ (addf (Host.dotGeneral dot_S4x4x64x64x64_S4x4x64x8x64x64_S4x4x64x64x8x64_4_5_3_34_012_012 none (gridOf Q) (keysOf K)) (broadcastInDim S4x4x64x64x8x64 ![0, 1, 2, 3, 4, 5] bcast_S1x4x64x64x8x64_S4x4x64x64x8x64_0_1_2_3_4_5 (broadcastInDim S1x4x64x64x8x64 ![1, 2, 3, 4, 5] bcast_S4x64x64x8x64_S1x4x64x64x8x64_1_2_3_4_5 (biasOf B)))) shapeCasts_S4x4x64x64x8x64_S4x4x64x64x512

/-- The rows' maxima. -/
def topOf (S : FVec Ideal S4x4x64x64x512 .f32) : FVec Ideal S4x4x64x64 .f32 :=
  Host.reduce FloatOps.maximumf S (constant S_ .f32 0xFF800000#32) reducesTo_S4x4x64x64x512_S4x4x64x64_d4 h_S_

/-- The maxima, once more above the maximum's start. -/
def aboveOf (M : FVec Ideal S4x4x64x64 .f32) : FVec Ideal S4x4x64x64 .f32 :=
  maximumf (broadcastInDim S4x4x64x64 ![] bcast_S_S4x4x64x64 (constant S_ .f32 0xFF800000#32)) M

/-- The exponentials of some scores below a number of their row. -/
def belowOf (S : FVec Ideal S4x4x64x64x512 .f32) (M : FVec Ideal S4x4x64x64 .f32) : FVec Ideal S4x4x64x64x512 .f32 :=
  Host.exp (subf S (broadcastInDim S4x4x64x64x512 ![0, 1, 2, 3, 4] bcast_S4x4x64x64x1_S4x4x64x64x512_0_1_2_3_4 (broadcastInDim S4x4x64x64x1 ![0, 1, 2, 3] bcast_S4x4x64x64_S4x4x64x64x1_0_1_2_3 M)))

/-- The exponentials of the scores below their row's maximum. -/
def weightsOf (Q : FVec Ideal S16384x256 .bf16) (K : FVec Ideal S16384x256 .bf16) (B : FVec Ideal S4x15x31 .f32) : FVec Ideal S4x4x64x64x512 .f32 :=
  belowOf (scoresOf Q K B) (aboveOf (topOf (scoresOf Q K B)))

/-- The rows' sums. -/
def sumOf (W : FVec Ideal S4x4x64x64x512 .f32) : FVec Ideal S4x4x64x64 .f32 :=
  Host.reduceAdd W (constant S_ .f32 0x00000000#32) reducesTo_S4x4x64x64x512_S4x4x64x64_d4 h_S_

/-- Some weights over a number of their row. -/
def overOf (W : FVec Ideal S4x4x64x64x512 .f32) (M : FVec Ideal S4x4x64x64 .f32) : FVec Ideal S4x4x64x64x512 .f32 :=
  Host.divf W (broadcastInDim S4x4x64x64x512 ![0, 1, 2, 3, 4] bcast_S4x4x64x64x1_S4x4x64x64x512_0_1_2_3_4 (broadcastInDim S4x4x64x64x1 ![0, 1, 2, 3] bcast_S4x4x64x64_S4x4x64x64x1_0_1_2_3 M))

/-- The probabilities. -/
def probsOf (Q : FVec Ideal S16384x256 .bf16) (K : FVec Ideal S16384x256 .bf16) (B : FVec Ideal S4x15x31 .f32) : FVec Ideal S4x4x64x64x512 .f32 :=
  overOf (weightsOf Q K B) (sumOf (weightsOf Q K B))

/-- The values mixed by the probabilities. -/
def mixOf (P : FVec Ideal S4x4x64x64x512 .f32) (W : FVec Ideal S4x4x64x8x64x64 .f32) : FVec Ideal S4x4x64x64x64 .f32 :=
  Host.dotGeneral dot_S4x4x64x64x8x64_S4x4x64x8x64x64_S4x4x64x64x64_45_34_3_5_012_012 none (shapeCast _ P shapeCasts_S4x4x64x64x512_S4x4x64x64x8x64) W

/-- A grid laid out as rows. -/
def flatOf (A : FVec Ideal S4x4x64x64x64 .f32) : FVec Ideal S16384x256 .f32 :=
  shapeCast _ (transpose S4x64x64x4x64 [0, 2, 3, 1, 4] A transposes_S4x4x64x64x64_S4x64x64x4x64_0_2_3_1_4) shapeCasts_S4x64x64x4x64_S16384x256

/-- The attention. -/
def outOf (Q : FVec Ideal S16384x256 .bf16) (K : FVec Ideal S16384x256 .bf16) (V : FVec Ideal S16384x256 .bf16) (B : FVec Ideal S4x15x31 .f32) : FVec Ideal S16384x256 .f32 :=
  flatOf (mixOf (probsOf Q K B) (keysOf V))

/-- The reference's result is these steps. -/
theorem result_eq (m : (ℓ : Loc nD τ sig) → Buf (Elt Ideal) ℓ) (c : Dev nD) :
    Value.res_main_v105 m c = outOf (m ((c.tc : Thread nD τ).loc main_arg0)) (m ((c.tc : Thread nD τ).loc main_arg1))
      (m ((c.tc : Thread nD τ).loc main_arg2)) (m ((c.tc : Thread nD τ).loc main_arg3)) := by
  unfold Value.res_main_v105 outOf flatOf mixOf probsOf overOf sumOf weightsOf belowOf aboveOf topOf scoresOf keysOf gridOf biasOf biasWord colOff rowOff colIn colStart rowWord rowIdx rowStart
  rfl

/-- The key rows' words. -/
theorem rowWord_at (r : Fin 64) (i : Fin 8) (z : Fin 1) :
    rowWord (ix3 r i z) = BitVec.ofNat 32 (min 56 (r.val - 4) + i.val) := by
  revert r i z
  decide +kernel

/-- The bias table's rows' words. -/
theorem rowOff_at (r : Fin 64) (i : Fin 8) :
    rowOff (ix2 r i) = BitVec.ofNat 32 (min 56 (r.val - 4) + i.val + 7 - r.val) := by
  revert r i
  decide +kernel

/-- The bias table's columns' words. -/
theorem colOff_at (a : Fin 64) (b : Fin 64) :
    colOff (ix2 a b) = BitVec.ofNat 32 (min 30 (b.val + 15 - a.val)) := by
  revert a b
  decide +kernel

/-- The mask of the query columns' windows. -/
theorem colIn_at (a : Fin 64) (b : Fin 64) :
    colIn (ix2 a b) = if min 48 (a.val - 8) ≤ b.val ∧ b.val < min 48 (a.val - 8) + 16 then 1#1 else 0#1 := by
  revert a b
  decide +kernel

/-- The grid by image, head, row, column and feature. -/
theorem gridOf_at (Q : FVec Ideal S16384x256 .bf16) (b h : Fin 4) (r c d : Fin 64) :
    gridOf Q (ix5 b h r c d) = Q (ix2 (queryRow b r c) (lane h d)) := by
  have : gridOf Q (ix5 b h r c d) = Q (ix2 ⟨b.val * 4096 + r.val * 64 + c.val, by omega⟩ ⟨h.val * 64 + d.val, by omega⟩) := by
    pointwise [gridOf]
  exact this

/-- A small natural number is read back from its word. -/
theorem word_toNat (n : ℕ) (h : n < 128) : (BitVec.ofNat 32 n).toInt.toNat = n := by
  have : ∀ n : Fin 128, (BitVec.ofNat 32 n.val).toInt.toNat = n.val := by decide +kernel
  exact this ⟨n, h⟩

/-- A gathered key row is the grid's row. -/
theorem keysOf_at (K : FVec Ideal S16384x256 .bf16) (b h : Fin 4) (r : Fin 64) (i : Fin 8) (c d : Fin 64) :
    keysOf K (ix6 b h r i c d) = gridOf K (ix5 b h ⟨min 56 (r.val - 4) + i.val, by omega⟩ c d) := by
  unfold keysOf Host.gather
  congr 1
  funext a
  refine Fin.ext ?_
  fin_cases a
  · show 0 + 0 + b.val = b.val; omega
  · show 0 + 0 + h.val = h.val; omega
  · have hs : gather_S4x4x64x64x64_S64x8x1_S4x4x64x8x64x64_0145_2_n_n_2_2_4416464.siIdx (ix6 b h r i c d) ⟨0, by decide⟩ = ix3 r i 0 := by
      funext e; fin_cases e <;> rfl
    show min (rowWord (gather_S4x4x64x64x64_S64x8x1_S4x4x64x8x64x64_0145_2_n_n_2_2_4416464.siIdx (ix6 b h r i c d) ⟨0, by decide⟩)).toInt.toNat 63 + 0 + 0 = min 56 (r.val - 4) + i.val
    rw [hs, rowWord_at, word_toNat _ (by omega)]; omega
  · show 0 + 0 + c.val = c.val; omega
  · show 0 + 0 + d.val = d.val; omega

/-- A small word is not negative. -/
theorem word_nonneg (n : ℕ) (h : n < 128) : IntOp.cmpi .slt (BitVec.ofNat 32 n) 0#32 = 0#1 := by
  have : ∀ n : Fin 128, IntOp.cmpi .slt (BitVec.ofNat 32 n.val) 0#32 = 0#1 := by decide +kernel
  exact this ⟨n, h⟩

/-- The bias table's row, as the gather reads it. -/
theorem biasWord_row (r c : Fin 64) (i : Fin 8) (v : Fin 64) :
    biasWord (ix5 r c i v 0) = BitVec.ofNat 32 (min 56 (r.val - 4) + i.val + 7 - r.val) := by
  pointwise [biasWord]
  rw [rowOff_at, word_nonneg _ (by omega)]
  rfl

/-- The bias table's column, as the gather reads it. -/
theorem biasWord_col (r c : Fin 64) (i : Fin 8) (v : Fin 64) :
    biasWord (ix5 r c i v 1) = BitVec.ofNat 32 (min 30 (v.val + 15 - c.val)) := by
  pointwise [biasWord]
  rw [colOff_at, word_nonneg _ (by omega)]
  rfl

/-- The reference's bias. -/
theorem biasOf_at (B : FVec Ideal S4x15x31 .f32) (h : Fin 4) (r c : Fin 64) (i : Fin 8) (v : Fin 64) :
    biasOf B (ix5 h r c i v) = if min 48 (c.val - 8) ≤ v.val ∧ v.val < min 48 (c.val - 8) + 16
      then B (ix3 h ⟨min 56 (r.val - 4) + i.val + 7 - r.val, by omega⟩ ⟨min 30 (v.val + 15 - c.val), by omega⟩)
      else Ideal.ofBits .f32 0xF149F2CA#32 := by
  have hg : Host.gather gather_S4x15x31_S64x64x8x64x2_S4x64x64x8x64_0_12_n_n_12_4_411 B biasWord (ix5 h r c i v) =
      B (ix3 h ⟨min 56 (r.val - 4) + i.val + 7 - r.val, by omega⟩ ⟨min 30 (v.val + 15 - c.val), by omega⟩) := by
    unfold Host.gather
    congr 1
    funext a
    refine Fin.ext ?_
    have hs : ∀ k : Fin 2, gather_S4x15x31_S64x64x8x64x2_S4x64x64x8x64_0_12_n_n_12_4_411.siIdx (ix5 h r c i v) k = ix5 r c i v k := by
      intro k; funext e; fin_cases e <;> rfl
    fin_cases a
    · show 0 + 0 + h.val = h.val; omega
    · show min (biasWord (gather_S4x15x31_S64x64x8x64x2_S4x64x64x8x64_0_12_n_n_12_4_411.siIdx (ix5 h r c i v) (0 : Fin 2))).toInt.toNat 14 + 0 + 0 = min 56 (r.val - 4) + i.val + 7 - r.val
      rw [hs, biasWord_row, word_toNat _ (by omega)]; omega
    · show min (biasWord (gather_S4x15x31_S64x64x8x64x2_S4x64x64x8x64_0_12_n_n_12_4_411.siIdx (ix5 h r c i v) (1 : Fin 2))).toInt.toNat 30 + 0 + 0 = min 30 (v.val + 15 - c.val)
      rw [hs, biasWord_col, word_toNat _ (by omega)]; omega
  have hc := colIn_at c v
  generalize hX : Host.gather gather_S4x15x31_S64x64x8x64x2_S4x64x64x8x64_0_12_n_n_12_4_411 B biasWord = X at hg
  unfold biasOf
  rw [hX]
  pointwise
  rw [hg, hc]
  split_ifs <;> rfl

/-- The reference's scores are the plain ones. -/
theorem scoresOf_at (Q K : FVec Ideal S16384x256 .bf16) (B : FVec Ideal S4x15x31 .f32) (b h : Fin 4) (r c : Fin 64) (k : Fin 512) :
    scoresOf Q K B (ix5 b h r c k) = score Q K B b h r c k := by
  have hk : scoresOf Q K B (ix5 b h r c k) = (∑ x, gridOf Q (ix5 b h r c x) * keysOf K (ix6 b h r ⟨k.val / 64, by omega⟩ ⟨k.val % 64, by omega⟩ x)) + biasOf B (ix5 h r c ⟨k.val / 64, by omega⟩ ⟨k.val % 64, by omega⟩) := by
    pointwise [scoresOf]
  rw [hk, biasOf_at]
  simp only [keysOf_at, gridOf_at]
  rfl

/-- The exponentials at an index. -/
theorem belowOf_at (S : FVec Ideal S4x4x64x64x512 .f32) (M : FVec Ideal S4x4x64x64 .f32) (b h : Fin 4) (r c : Fin 64) (k : Fin 512) :
    belowOf S M (ix5 b h r c k) = Ideal.exp (S (ix5 b h r c k) - M (ix4 b h r c)) := by
  pointwise [belowOf]

/-- The raised maxima at an index. -/
theorem aboveOf_at (M : FVec Ideal S4x4x64x64 .f32) (b h : Fin 4) (r c : Fin 64) :
    aboveOf M (ix4 b h r c) = max (Ideal.ofBits .f32 0xFF800000#32) (M (ix4 b h r c)) := by
  pointwise [aboveOf]

/-- The maxima at an index. -/
theorem topOf_at (S : FVec Ideal S4x4x64x64x512 .f32) (b h : Fin 4) (r c : Fin 64) :
    topOf S (ix4 b h r c) = top fun x => S (ix5 b h r c x) := by
  unfold top
  pointwise [topOf]

/-- The sums at an index. -/
theorem sumOf_at (W : FVec Ideal S4x4x64x64x512 .f32) (b h : Fin 4) (r c : Fin 64) :
    sumOf W (ix4 b h r c) = ∑ x, W (ix5 b h r c x) := by
  pointwise [sumOf]

/-- The quotients at an index. -/
theorem overOf_at (W : FVec Ideal S4x4x64x64x512 .f32) (M : FVec Ideal S4x4x64x64 .f32) (b h : Fin 4) (r c : Fin 64) (k : Fin 512) :
    overOf W M (ix5 b h r c k) = Ideal.div (W (ix5 b h r c k)) (M (ix4 b h r c)) := by
  pointwise [overOf]

/-- The exponentials, under the plain maximum. -/
theorem weightsOf_at (Q K : FVec Ideal S16384x256 .bf16) (B : FVec Ideal S4x15x31 .f32) (b h : Fin 4) (r c : Fin 64) (k : Fin 512) :
    weightsOf Q K B (ix5 b h r c k) = Ideal.exp (score Q K B b h r c k - top (score Q K B b h r c)) := by
  rw [weightsOf, belowOf_at, aboveOf_at, topOf_at, max_top]
  simp only [scoresOf_at]

/-- The probabilities. -/
theorem probsOf_at (Q K : FVec Ideal S16384x256 .bf16) (B : FVec Ideal S4x15x31 .f32) (b h : Fin 4) (r c : Fin 64) (k : Fin 512) :
    probsOf Q K B (ix5 b h r c k) = Ideal.div (weightsOf Q K B (ix5 b h r c k)) (∑ x, weightsOf Q K B (ix5 b h r c x)) := by
  rw [probsOf, overOf_at, sumOf_at]

/-- The mixed values. -/
theorem mixOf_at (P : FVec Ideal S4x4x64x64x512 .f32) (V : FVec Ideal S4x4x64x8x64x64 .f32) (b h : Fin 4) (r c d : Fin 64) :
    mixOf P V (ix5 b h r c d) = ∑ x : Fin 8, ∑ y : Fin 64, P (ix5 b h r c ⟨x.val * 64 + y.val, by omega⟩) * V (ix6 b h r x y d) := by
  pointwise [mixOf]

/-- A grid laid out as rows, at a row and a feature. -/
theorem flatOf_at (A : FVec Ideal S4x4x64x64x64 .f32) (t : Fin 16384) (l : Fin 256) :
    flatOf A (ix2 t l) = A (ix5 ⟨t.val / 4096, by omega⟩ ⟨l.val / 64, by omega⟩ ⟨t.val / 64 % 64, by omega⟩ ⟨t.val % 64, by omega⟩ ⟨l.val % 64, by omega⟩) := by
  pointwise [flatOf]

/-- The reference's result at a row and a feature is the plain attention there. -/
theorem outOf_at (Q K V : FVec Ideal S16384x256 .bf16) (B : FVec Ideal S4x15x31 .f32) (t : Fin 16384) (l : Fin 256) :
    outOf Q K V B (ix2 t l) = attnAt Q K V B ⟨t.val / 4096, by omega⟩ ⟨l.val / 64, by omega⟩ ⟨t.val / 64 % 64, by omega⟩ ⟨t.val % 64, by omega⟩ ⟨l.val % 64, by omega⟩ := by
  unfold outOf attnAt attend
  rw [flatOf_at, mixOf_at, ← sum_rows]
  refine Finset.sum_congr rfl fun x _ => Finset.sum_congr rfl fun y _ => ?_
  rw [probsOf_at]
  simp only [weightsOf_at, keysOf_at, gridOf_at]
  refine congrArg₂ (· * ·) rfl (congrArg V (congrArg₂ ix2 (Fin.ext ?_) rfl))
  simp only [queryRow, keyRow]
  omega

end Cert.ReferenceIdeal.Natten

end
-- ==== Proof.NattenClaim.lean ====
/- The attention's programs: their frames, and the equation of the kernel with its reference. -/
module

public import proofs.«01_k».proof.Defs
public import proofs.«01_k».proof.Proof.Gen.Kernel
public import proofs.«01_k».proof.Proof.Gen.Kernel.Frame
public import proofs.«01_k».proof.Proof.Gen.ReferenceIdeal
public import proofs.«01_k».proof.Proof.Gen.ReferenceIdeal.Run
public import proofs.«01_k».proof.Proof.Natten
public import proofs.«01_k».proof.Proof.NattenRef
public import Idealize.ShloMosaic.Lib.Claim

@[expose] public section

set_option maxRecDepth 16384

noncomputable section

open Idealize.ShloMosaic Idealize.ShloMosaic.TcCoe Idealize.SL.Sem

namespace Cert.Attention

set_option maxHeartbeats 8000000 in
/-- The reference runs, leaves its arguments alone and ends with every counter at zero. -/
theorem reference_frame : Cert.quiescent_ReferenceIdeal := by
  intro m g _
  hlo_run
  · exact fun _ => by simp
  · funext i
    obtain ⟨_, s | s⟩ := i <;> exact Fin.elim0 s

/-- The reference's result is the plain attention. -/
theorem reference_plain (Q K V : FVec Ideal ⟨2, ![16384, 256]⟩ .bf16) (B : FVec Ideal ⟨3, ![4, 15, 31]⟩ .f32) :
    Cert.ReferenceIdeal.Natten.outOf Q K V B = Cert.KernelIdeal.Natten.attnOf Q K V B := by
  funext y
  have e : y = ix2 ⟨(y 0).val, (y 0).isLt⟩ ⟨(y 1).val, (y 1).isLt⟩ := by
    funext a; fin_cases a <;> rfl
  exact (congrArg _ e).trans (Cert.ReferenceIdeal.Natten.outOf_at Q K V B _ _)

set_option maxHeartbeats 8000000 in
/-- The kernel's array is the reference's, for equal arguments. -/
theorem kernel_eq_reference : Cert.algebraic_KernelIdeal_ReferenceIdeal := by
  pair_intro
  · run_from Cert.KernelIdeal.Gen.run_main m g
    exact Cert.KernelIdeal.Gen.V_main_arg3 m c
  · run_from Cert.ReferenceIdeal.Value.run m' g'
    rw [Cert.ReferenceIdeal.Natten.result_eq, reference_plain]
    simp only [hagree c]
    exact (Cert.KernelIdeal.Natten.att_final m c).symm

end Cert.Attention

end
-- ==== Proof.Inproj.lean ====
/- The combined input projection: what each of the nine arrays holds after the kernel's run. The reference's own
   terms are named over variables; one block of the kernel is compared with them row by row. -/
module

public import proofs.«01_k».proof.Proof.Gen.Kernel2Ideal.Frame
public import proofs.«01_k».proof.Proof.Gen.Reference2Ideal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen

variable (m : (ℓ : Loc nD τ sig) → Buf (Elt Ideal) ℓ)

/-- The projection of the normalised rows, all 5632 columns, as the reference spells it. -/
abbrev projR (X : FVec Ideal S16384x1024 .f32) (g : FVec Ideal S1024 .f32) (W : FVec Ideal S1024x5632 .f32) :
    FVec Ideal Cert.Reference2Ideal.S16384x5632 .f32 :=
  Host.dotGeneral Cert.Reference2Ideal.dot_S16384x1024_S1024x5632_S16384x5632_1_0_0_1_n_n none (mulf (mulf X (broadcastInDim Cert.Reference2Ideal.S16384x1024 ![0, 1] Cert.Reference2Ideal.Gen.bcast_S16384x1_S16384x1024_0_1 (Host.rsqrt (addf (Host.divf (broadcastInDim Cert.Reference2Ideal.S16384x1 ![0] Cert.Reference2Ideal.Gen.bcast_S16384_S16384x1_0 (Host.reduceAdd (mulf X X) (constant Cert.Reference2Ideal.S_ .f32 0x00000000#32) Cert.Reference2Ideal.Gen.reducesTo_S16384x1024_S16384_d1 Cert.Reference2Ideal.Gen.h_S_)) (broadcastInDim Cert.Reference2Ideal.S16384x1 ![] Cert.Reference2Ideal.Gen.bcast_S_S16384x1 (constant Cert.Reference2Ideal.S_ .f32 0x44800000#32))) (broadcastInDim Cert.Reference2Ideal.S16384x1 ![] Cert.Reference2Ideal.Gen.bcast_S_S16384x1 (constant Cert.Reference2Ideal.S_ .f32 0x358637BD#32)))))) (broadcastInDim Cert.Reference2Ideal.S16384x1024 ![0, 1] Cert.Reference2Ideal.Gen.bcast_S1x1024_S16384x1024_0_1 (broadcastInDim Cert.Reference2Ideal.S1x1024 ![1] Cert.Reference2Ideal.Gen.bcast_S1024_S1x1024_1 g))) W

/-- The reference's array of columns 0 to 255. -/
abbrev poolR (X : FVec Ideal S16384x1024 .f32) (g : FVec Ideal S1024 .f32) (W : FVec Ideal S1024x5632 .f32) :
    FVec Ideal S16384x256 .f32 :=
  extractStridedSlice Cert.Reference2Ideal.S16384x256 ![0, 0] (projR X g W) Cert.Reference2Ideal.Gen.slices_S16384x5632_S16384x256_0_0

/-- The reference's array of columns 256 to 511. -/
abbrev retQR (X : FVec Ideal S16384x1024 .f32) (g : FVec Ideal S1024 .f32) (W : FVec Ideal S1024x5632 .f32) :
    FVec Ideal S16384x256 .f32 :=
  extractStridedSlice Cert.Reference2Ideal.S16384x256 ![0, 256] (projR X g W) Cert.Reference2Ideal.Gen.slices_S16384x5632_S16384x256_0_256

/-- The reference's array of columns 512 to 767. -/
abbrev retKR (X : FVec Ideal S16384x1024 .f32) (g : FVec Ideal S1024 .f32) (W : FVec Ideal S1024x5632 .f32) :
    FVec Ideal S16384x256 .f32 :=
  extractStridedSlice Cert.Reference2Ideal.S16384x256 ![0, 512] (projR X g W) Cert.Reference2Ideal.Gen.slices_S16384x5632_S16384x256_0_512

/-- The reference's array of columns 768 to 1279. -/
abbrev retVR (X : FVec Ideal S16384x1024 .f32) (g : FVec Ideal S1024 .f32) (W : FVec Ideal S1024x5632 .f32) :
    FVec Ideal S16384x512 .bf16 :=
  truncf .bf16 (extractStridedSlice Cert.Reference2Ideal.S16384x512 ![0, 768] (projR X g W) Cert.Reference2Ideal.Gen.slices_S16384x5632_S16384x512_0_768) Cert.Reference2Ideal.Gen.bitsLt_bf16_f32

/-- The reference's array of columns 1280 to 1791. -/
abbrev retGR (X : FVec Ideal S16384x1024 .f32) (g : FVec Ideal S1024 .f32) (W : FVec Ideal S1024x5632 .f32) :
    FVec Ideal S16384x512 .f32 :=
  extractStridedSlice Cert.Reference2Ideal.S16384x512 ![0, 1280] (projR X g W) Cert.Reference2Ideal.Gen.slices_S16384x5632_S16384x512_0_1280

/-- The reference's array of columns 1792 to 2047, scaled. -/
abbrev naQR (X : FVec Ideal S16384x1024 .f32) (g : FVec Ideal S1024 .f32) (W : FVec Ideal S1024x5632 .f32) :
    FVec Ideal S16384x256 .bf16 :=
  truncf .bf16 (mulf (extractStridedSlice Cert.Reference2Ideal.S16384x256 ![0, 1792] (projR X g W) Cert.Reference2Ideal.Gen.slices_S16384x5632_S16384x256_0_1792) (broadcastInDim Cert.Reference2Ideal.S16384x256 ![] Cert.Reference2Ideal.Gen.bcast_S_S16384x256 (constant Cert.Reference2Ideal.S_ .f32 0x3E000000#32))) Cert.Reference2Ideal.Gen.bitsLt_bf16_f32

/-- The reference's array of columns 2048 to 2303. -/
abbrev naKR (X : FVec Ideal S16384x1024 .f32) (g : FVec Ideal S1024 .f32) (W : FVec Ideal S1024x5632 .f32) :
    FVec Ideal S16384x256 .bf16 :=
  truncf .bf16 (extractStridedSlice Cert.Reference2Ideal.S16384x256 ![0, 2048] (projR X g W) Cert.Reference2Ideal.Gen.slices_S16384x5632_S16384x256_0_2048) Cert.Reference2Ideal.Gen.bitsLt_bf16_f32

/-- The reference's array of columns 2304 to 2559. -/
abbrev naVR (X : FVec Ideal S16384x1024 .f32) (g : FVec Ideal S1024 .f32) (W : FVec Ideal S1024x5632 .f32) :
    FVec Ideal S16384x256 .bf16 :=
  truncf .bf16 (extractStridedSlice Cert.Reference2Ideal.S16384x256 ![0, 2304] (projR X g W) Cert.Reference2Ideal.Gen.slices_S16384x5632_S16384x256_0_2304) Cert.Reference2Ideal.Gen.bitsLt_bf16_f32

/-- The reference's array of columns 2560 to 5631. -/
abbrev gatesR (X : FVec Ideal S16384x1024 .f32) (g : FVec Ideal S1024 .f32) (W : FVec Ideal S1024x5632 .f32) :
    FVec Ideal S16384x3072 .f32 :=
  extractStridedSlice Cert.Reference2Ideal.S16384x3072 ![0, 2560] (projR X g W) Cert.Reference2Ideal.Gen.slices_S16384x5632_S16384x3072_0_2560

/-- The block every window has at each grid point: rows are cut by the point, the gain and the weights are whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] :=
  (by decide +kernel : ∀ t : Fin grid0.N, _)

/-- The kernel's array `pool` is the reference's. -/
theorem pool_final (c : Dev nD) : (dats m 0 c).arrAt 3 (cfgs 0).N = poolR (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  open_payloads
  pointwise [poolR, projR]
  blk_point [iblk, V, idx t]

/-- The kernel's array `retQ` is the reference's. -/
theorem retQ_final (c : Dev nD) : (dats m 0 c).arrAt 4 (cfgs 0).N = retQR (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  open_payloads
  pointwise [retQR, projR]
  blk_point [iblk, V, idx t]

/-- The kernel's array `retK` is the reference's. -/
theorem retK_final (c : Dev nD) : (dats m 0 c).arrAt 5 (cfgs 0).N = retKR (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  open_payloads
  pointwise [retKR, projR]
  blk_point [iblk, V, idx t]

/-- The kernel's array `retV` is the reference's. -/
theorem retV_final (c : Dev nD) : (dats m 0 c).arrAt 6 (cfgs 0).N = retVR (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  open_payloads
  pointwise [retVR, projR]
  blk_point [iblk, V, idx t]

/-- The kernel's array `retG` is the reference's. -/
theorem retG_final (c : Dev nD) : (dats m 0 c).arrAt 7 (cfgs 0).N = retGR (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  open_payloads
  pointwise [retGR, projR]
  blk_point [iblk, V, idx t]

/-- The kernel's array `naQ` is the reference's. -/
theorem naQ_final (c : Dev nD) : (dats m 0 c).arrAt 8 (cfgs 0).N = naQR (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]; frame_out
  open_payloads
  pointwise [naQR, projR]
  blk_point [iblk, V, idx t]

/-- The kernel's array `naK` is the reference's. -/
theorem naK_final (c : Dev nD) : (dats m 0 c).arrAt 9 (cfgs 0).N = naKR (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; frame_out
  open_payloads
  pointwise [naKR, projR]
  blk_point [iblk, V, idx t]

/-- The kernel's array `naV` is the reference's. -/
theorem naV_final (c : Dev nD) : (dats m 0 c).arrAt 10 (cfgs 0).N = naVR (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; frame_out
  open_payloads
  pointwise [naVR, projR]
  blk_point [iblk, V, idx t]

end Cert.Kernel2Ideal.Inproj

end
-- ==== Proof.InprojGates.lean ====
/- The combined input projection, continued: the array of gate logits, which the kernel stores in three pieces. -/
module

public import proofs.«01_k».proof.Proof.Inproj

@[expose] public section

set_option maxRecDepth 16384

noncomputable section

open Idealize.ShloMosaic Idealize.ShloMosaic.TcCoe Idealize.SL.Sem
open Idealize.ShloMosaic.Pipeline (Dat)

namespace Cert.Kernel2Ideal.Inproj

open Cert.Kernel2Ideal Cert.Kernel2Ideal.Gen

variable (m : (ℓ : Loc nD τ sig) → Buf (Elt Ideal) ℓ)

/-- The kernel's array `gates`, stored in three pieces of 1024 columns, is the reference's. -/
theorem gates_final (c : Dev nD) : (dats m 0 c).arrAt 11 (cfgs 0).N = gatesR (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]; frame_out
  canon_tiles x h
  all_goals (open_payloads; pointwise [gatesR, projR]; blk_point [iblk, V, idx t])

end Cert.Kernel2Ideal.Inproj

end
-- ==== Proof.InprojClaim.lean ====
/- The projection's programs: their frames, and the equation of the kernel with its reference. -/
module

public import proofs.«01_k».proof.Defs
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.Inproj
public import proofs.«01_k».proof.Proof.InprojGates
public import Idealize.ShloMosaic.Lib.Claim

@[expose] public section

set_option maxRecDepth 16384

noncomputable section

open Idealize.ShloMosaic Idealize.ShloMosaic.TcCoe Idealize.SL.Sem

namespace Cert.Projection

/-- The reference runs, leaves its arguments alone and ends with every counter at zero. -/
theorem reference_frame : Cert.quiescent_Reference2Ideal := by
  intro m g _
  hlo_run
  · exact fun _ => by simp
  · funext i
    obtain ⟨_, s | s⟩ := i <;> exact Fin.elim0 s

set_option maxHeartbeats 8000000 in
/-- The kernel's nine arrays are the reference's nine, for equal arguments. -/
theorem kernel_eq_reference : Cert.algebraic_Kernel2Ideal_Reference2Ideal := by
  pair_intro
  · run_from Cert.Kernel2Ideal.Gen.run_main m g
  · run_from Cert.Reference2Ideal.Value.run m' g'
    · exact (Cert.Kernel2Ideal.Inproj.pool_final m c).symm
    · exact (Cert.Kernel2Ideal.Inproj.retQ_final m c).symm
    · exact (Cert.Kernel2Ideal.Inproj.retK_final m c).symm
    · exact (Cert.Kernel2Ideal.Inproj.retV_final m c).symm
    · exact (Cert.Kernel2Ideal.Inproj.retG_final m c).symm
    · exact (Cert.Kernel2Ideal.Inproj.naQ_final m c).symm
    · exact (Cert.Kernel2Ideal.Inproj.naK_final m c).symm
    · exact (Cert.Kernel2Ideal.Inproj.naV_final m c).symm
    · exact (Cert.Kernel2Ideal.Inproj.gates_final m c).symm

end Cert.Projection

end
-- ==== Proof.Merge.lean ====
/- The merge of the three branches: what the residual sum and the transposed normalised rows hold after the
   kernel's run, against the reference's own terms over variables. -/
module

public import proofs.«01_k».proof.Proof.Gen.Kernel3Ideal.Frame
public import proofs.«01_k».proof.Proof.Gen.Reference3Ideal.Run
public import Idealize.ShloMosaic.Lib.Claim
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

/-- The three gates, in one array. -/
abbrev gatesR (G : FVec Ideal S16384x3072 .f32) :
    FVec Ideal Cert.Reference3Ideal.S16384x3x1024 .f32 :=
  shapeCast _ (Host.divf (broadcastInDim Cert.Reference3Ideal.S16384x3072 ![] Cert.Reference3Ideal.Gen.bcast_S_S16384x3072 (constant Cert.Reference3Ideal.S_ .f32 0x3F800000#32)) (addf (broadcastInDim Cert.Reference3Ideal.S16384x3072 ![] Cert.Reference3Ideal.Gen.bcast_S_S16384x3072 (constant Cert.Reference3Ideal.S_ .f32 0x3F800000#32)) (Host.exp (Host.negf G)))) Cert.Reference3Ideal.Gen.shapeCasts_S16384x3072_S16384x3x1024

/-- The residual sum: the gated branches through the output projection, added to the input. -/
abbrev hR (X : FVec Ideal S16384x1024 .f32) (yp : FVec Ideal S16384x256 .f32) (yr : FVec Ideal S16384x512 .f32) (yn : FVec Ideal S16384x256 .f32) (G : FVec Ideal S16384x3072 .f32) (wp : FVec Ideal S256x1024 .f32) (wr : FVec Ideal S512x1024 .f32) (wn : FVec Ideal S256x1024 .f32) (wo : FVec Ideal S1024x1024 .f32) :
    FVec Ideal S16384x1024 .f32 :=
  addf X (Host.dotGeneral Cert.Reference3Ideal.dot_S16384x1024_S1024x1024_S16384x1024_1_0_0_1_n_n none (addf (addf (mulf (shapeCast _ (extractStridedSlice Cert.Reference3Ideal.S16384x1x1024 ![0, 0, 0] (gatesR G) Cert.Reference3Ideal.Gen.slices_S16384x3x1024_S16384x1x1024_0_0_0) Cert.Reference3Ideal.Gen.shapeCasts_S16384x1x1024_S16384x1024) (Host.dotGeneral Cert.Reference3Ideal.dot_S16384x256_S256x1024_S16384x1024_1_0_0_1_n_n none yp wp)) (mulf (shapeCast _ (extractStridedSlice Cert.Reference3Ideal.S16384x1x1024 ![0, 1, 0] (gatesR G) Cert.Reference3Ideal.Gen.slices_S16384x3x1024_S16384x1x1024_0_1_0) Cert.Reference3Ideal.Gen.shapeCasts_S16384x1x1024_S16384x1024) (Host.dotGeneral Cert.Reference3Ideal.dot_S16384x512_S512x1024_S16384x1024_1_0_0_1_n_n none yr wr))) (mulf (shapeCast _ (extractStridedSlice Cert.Reference3Ideal.S16384x1x1024 ![0, 2, 0] (gatesR G) Cert.Reference3Ideal.Gen.slices_S16384x3x1024_S16384x1x1024_0_2_0) Cert.Reference3Ideal.Gen.shapeCasts_S16384x1x1024_S16384x1024) (Host.dotGeneral Cert.Reference3Ideal.dot_S16384x256_S256x1024_S16384x1024_1_0_0_1_n_n none yn wn))) wo)

/-- The rows normalised by their root mean square. -/
abbrev normR (X : FVec Ideal S16384x1024 .f32) (g : FVec Ideal S1024 .f32) :
    FVec Ideal S16384x1024 .f32 :=
  mulf (mulf X (broadcastInDim Cert.Reference3Ideal.S16384x1024 ![0, 1] Cert.Reference3Ideal.Gen.bcast_S16384x1_S16384x1024_0_1 (Host.rsqrt (addf (Host.divf (broadcastInDim Cert.Reference3Ideal.S16384x1 ![0] Cert.Reference3Ideal.Gen.bcast_S16384_S16384x1_0 (Host.reduceAdd (mulf X X) (constant Cert.Reference3Ideal.S_ .f32 0x00000000#32) Cert.Reference3Ideal.Gen.reducesTo_S16384x1024_S16384_d1 Cert.Reference3Ideal.Gen.h_S_)) (broadcastInDim Cert.Reference3Ideal.S16384x1 ![] Cert.Reference3Ideal.Gen.bcast_S_S16384x1 (constant Cert.Reference3Ideal.S_ .f32 0x44800000#32))) (broadcastInDim Cert.Reference3Ideal.S16384x1 ![] Cert.Reference3Ideal.Gen.bcast_S_S16384x1 (constant Cert.Reference3Ideal.S_ .f32 0x358637BD#32)))))) (broadcastInDim Cert.Reference3Ideal.S16384x1024 ![0, 1] Cert.Reference3Ideal.Gen.bcast_S1x1024_S16384x1024_0_1 (broadcastInDim Cert.Reference3Ideal.S1x1024 ![1] Cert.Reference3Ideal.Gen.bcast_S1024_S1x1024_1 g))

/-- The normalised rows, transposed. -/
abbrev hntR (H : FVec Ideal S16384x1024 .f32) (g : FVec Ideal S1024 .f32) :
    FVec Ideal S1024x16384 .bf16 :=
  truncf .bf16 (transpose Cert.Reference3Ideal.S1024x16384 [1, 0] (normR H g) Cert.Reference3Ideal.Gen.transposes_S16384x1024_S1024x16384_1_0) Cert.Reference3Ideal.Gen.bitsLt_bf16_f32

/-- The queries. -/
abbrev queryR (H : FVec Ideal S16384x1024 .f32) (g : FVec Ideal S1024 .f32) (wq : FVec Ideal S1024x2048 .f32) :
    FVec Ideal Cert.Reference3Ideal.S16384x2048 .f32 :=
  Host.dotGeneral Cert.Reference3Ideal.dot_S16384x1024_S1024x2048_S16384x2048_1_0_0_1_n_n none (normR H g) wq

/-- The sub-key scores of given queries. -/
abbrev scoresR (Q : FVec Ideal Cert.Reference3Ideal.S16384x2048 .f32) (K : FVec Ideal S2x128x128 .f32) :
    FVec Ideal S8x2x128x16384 .f32 :=
  transpose Cert.Reference3Ideal.S8x2x128x16384 [1, 2, 3, 0] (transpose Cert.Reference3Ideal.S16384x8x2x128 [2, 3, 0, 1] (Host.dotGeneral Cert.Reference3Ideal.dot_S2x128x128_S16384x8x2x128_S2x128x16384x8_2_3_1_01_0_2 none K (shapeCast _ Q Cert.Reference3Ideal.Gen.shapeCasts_S16384x2048_S16384x8x2x128)) Cert.Reference3Ideal.Gen.transposes_S2x128x16384x8_S16384x8x2x128_2_3_0_1) Cert.Reference3Ideal.Gen.transposes_S16384x8x2x128_S8x2x128x16384_1_2_3_0

/-- The block every window has at each grid point: rows are cut by the point, the weights are whole. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![0, 0, 0]
    ∧ win0_12.index t = ![t.val, 0] ∧ win0_13.index t = ![0, t.val] ∧ win0_14.index t = ![0, 0, 0, t.val] :=
  (by decide +kernel : ∀ t : Fin grid0.N, _)

/-- The kernel's residual sum is the reference's. -/
theorem h_final (c : Dev nD) : (dats m 0 c).arrAt 12 (cfgs 0).N = (hR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 12 _ (by decide +kernel) fun t _ y => ?_
  blk_simp
  rw [after0_12]; frame_out
  open_payloads
  pointwise [hR, gatesR]
  simp only [zero_sub]
  blk_point [iblk, V, idx t]

end Cert.Kernel3Ideal.Merge

end
-- ==== Proof.MergeRows.lean ====
/- The merge, continued: the transposed normalised rows. -/
module

public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

/-- The kernel's transposed normalised rows are the reference's. -/
theorem hnt_final (c : Dev nD) : (dats m 0 c).arrAt 13 (cfgs 0).N = hntR (hR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
  refine (dats m 0 c).arrAt_eq_of_covers 13 _ (by decide +kernel) fun t _ y => ?_
  blk_simp
  rw [after0_13]; frame_out
  open_payloads
  pointwise [hntR, normR, hR, gatesR]
  simp only [zero_sub]
  blk_point [iblk, V, idx t]

end Cert.Kernel3Ideal.Merge

end
-- ==== Proof.MergeScores.lean ====
/- The merge, continued: the queries and the sub-key scores. -/
module

public import proofs.«01_k».proof.Proof.Merge

@[expose] public section

set_option maxRecDepth 16384

noncomputable section

open Idealize.ShloMosaic Idealize.ShloMosaic.TcCoe Idealize.SL.Sem
open Idealize.ShloMosaic.Pipeline (Dat)

namespace Cert.Kernel3Ideal.Merge

open Cert.Kernel3Ideal Cert.Kernel3Ideal.Gen

variable (m : (ℓ : Loc nD τ sig) → Buf (Elt Ideal) ℓ)

/-- One block of queries, at an index of the block, is the reference's queries at the row the block sits at. -/
theorem query_at (c : Dev nD) (t : Fin cfg0.N) (i : S256x2048.Idx) (j : Cert.Reference3Ideal.S16384x2048.Idx)
    (h0 : (j 0 : ℕ) = t.val * 256 + i 0) (h1 : (j 1 : ℕ) = i 1) :
    k0_pay32 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) i = queryR (hR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) j := by
  open_payloads
  pointwise [queryR, normR, hR, gatesR]
  simp only [zero_sub]
  blk_point [iblk, V, idx t]

set_option maxHeartbeats 4000000 in
/-- The kernel's sub-key scores are the reference's. -/
theorem scores_final (c : Dev nD) : (dats m 0 c).arrAt 14 (cfgs 0).N = scoresR (queryR (hR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10))) (m ((c : Thread nD τ).loc main_arg11)) := by
  refine (dats m 0 c).arrAt_eq_of_covers 14 _ (by decide +kernel) fun t _ y => ?_
  blk_simp
  rw [after0_14]; frame_out
  have hq := query_at m c t
  generalize queryR (hR (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) = Q at hq ⊢
  unfold k0_pay32 at hq
  unfold k0_pay32 k0_pay11 k0_pay12 k0_pay13 k0_pay14
  dsimp only at hq ⊢
  generalize k0_pay10 (k0_pay30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) (k0_pay31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) = B at hq ⊢
  canon_tiles x h
  all_goals
    open_payloads
    pointwise [scoresR]
    refine Finset.sum_congr rfl fun k _ => congrArg₂ (· * ·) ?_ (hq _ _ ?_ ?_)
    · blk_point [iblk, V, idx t]
    · blk_simp [idx t]; try dsimp only
      omega
    · blk_simp [idx t]; try dsimp only
      omega

end Cert.Kernel3Ideal.Merge

end
-- ==== Proof.MergeClaim.lean ====
/- The merge's programs: their frames, and the equation of the kernel with its reference. -/
module

public import proofs.«01_k».proof.Defs
public import proofs.«01_k».proof.Proof.Gen.Kernel3
public import proofs.«01_k».proof.Proof.Gen.Kernel3.Frame
public import proofs.«01_k».proof.Proof.Gen.Reference3Ideal
public import proofs.«01_k».proof.Proof.Gen.Reference3Ideal.Run
public import proofs.«01_k».proof.Proof.Merge
public import proofs.«01_k».proof.Proof.MergeRows
public import proofs.«01_k».proof.Proof.MergeScores
public import Idealize.ShloMosaic.Lib.Claim

@[expose] public section

set_option maxRecDepth 16384

noncomputable section

open Idealize.ShloMosaic Idealize.ShloMosaic.TcCoe Idealize.SL.Sem

namespace Cert.MergeStep

/-- The reference runs, leaves its arguments alone and ends with every counter at zero. -/
theorem reference_frame : Cert.quiescent_Reference3Ideal := by
  intro m g _
  hlo_run
  · exact fun _ => by simp
  · funext i
    obtain ⟨_, s | s⟩ := i <;> exact Fin.elim0 s

set_option maxHeartbeats 8000000 in
/-- The kernel's three arrays are the reference's three, for equal arguments. -/
theorem kernel_eq_reference : Cert.algebraic_Kernel3Ideal_Reference3Ideal := by
  pair_intro
  · run_from Cert.Kernel3Ideal.Gen.run_main m g
  · run_from Cert.Reference3Ideal.Value.run m' g'
    · exact (Cert.Kernel3Ideal.Merge.h_final m c).symm
    · unfold Cert.Reference3Ideal.Value.res_main_v41
      simp only [hagree c]
      exact (Cert.Kernel3Ideal.Merge.hnt_final m c).symm
    · unfold Cert.Reference3Ideal.Value.res_main_v42
      simp only [hagree c]
      exact (Cert.Kernel3Ideal.Merge.scores_final m c).symm

end Cert.MergeStep

end
-- ==== Proof.PoolBase.lean ====
/- The pooling mixer at one token of a column. -/
module

public import proofs.«01_k».proof.Proof.Gen.Kernel4Ideal.Frame
public import Idealize.ShloMosaic.Lib.Claim
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Pooling

/-- A column with eight zeros before it and after it. -/
def padded (f : Fin 4096 → EReal) (n : ℕ) : EReal := if h : 8 ≤ n ∧ n < 4104 then f ⟨n - 8, by omega⟩ else 0

/-- The column is zero before its first eight places. -/
theorem padded_low (f : Fin 4096 → EReal) (n : ℕ) (h : n < 8) : padded f n = 0 := dif_neg (by omega)

/-- The column is zero after its last token. -/
theorem padded_high (f : Fin 4096 → EReal) (n : ℕ) (h : 4104 ≤ n) : padded f n = 0 := dif_neg (by omega)

/-- The column's own token, eight places on. -/
theorem padded_at (f : Fin 4096 → EReal) (t : Fin 4096) : padded f (t.val + 8) = f t := by
  unfold padded
  rw [dif_pos (by omega)]
  congr 1

/-- The sum of group `g`'s window around token `t`: `2 ^ g` tokens before it, itself, and `2 ^ g - 1` after it. -/
def winSum (f : Fin 4096 → EReal) (g : Fin 4) (t : ℕ) : EReal := ∑ d ∈ Finset.range (2 * 2 ^ g.val), padded f (t + (8 - 2 ^ g.val + d))

/-- Half the width of group `g`'s window. -/
def half (g : Fin 4) : BitVec 32 := BitVec.ofNat 32 (2 ^ g.val)

/-- The number of tokens of the window around token `t` which are in the sequence. -/
def count (g : Fin 4) (t : Fin 4096) : BitVec 32 :=
  IntOp.subi (IntOp.minsi 4096#32 (IntOp.maxsi 0#32 (IntOp.addi (BitVec.ofNat 32 t.val) (half g))))
    (IntOp.minsi 4096#32 (IntOp.maxsi 0#32 (IntOp.subi (BitVec.ofNat 32 t.val) (half g))))

/-- The kernel's count, which clips each end of the window on one side only, is the same. -/
theorem count_eq : ∀ (g : Fin 4) (t : Fin 4096),
    IntOp.subi (IntOp.minsi (IntOp.addi (BitVec.ofNat 32 t.val) (half g)) 4096#32)
      (IntOp.maxsi (IntOp.subi (BitVec.ofNat 32 t.val) (half g)) 0#32) = count g t := by
  decide +kernel

/-- The window's mean minus the token. -/
def mixAt (f : Fin 4096 → EReal) (g : Fin 4) (t : Fin 4096) : EReal :=
  Ideal.div (winSum f g t.val) (FloatOps.sitofp (F := Ideal) .f32 (count g t)) - f t

/-- The pooling mixer at token `t` of sequence `b` and feature `e` of group `g`. -/
def poolAt (X : FVec Ideal Cert.Kernel4Ideal.S16384x256 .f32) (W : FVec Ideal Cert.Kernel4Ideal.S4x64x64 .f32) (S : FVec Ideal Cert.Kernel4Ideal.S256 .f32)
    (b : Fin 4) (t : Fin 4096) (g : Fin 4) (e : Fin 64) : EReal :=
  (∑ d : Fin 64, mixAt (fun a => X (ix2 ⟨b.val * 4096 + a.val, by omega⟩ ⟨g.val * 64 + d.val, by omega⟩)) g t * W (ix3 g d e))
    * S (ix1 ⟨g.val * 64 + e.val, by omega⟩)

/-- The pooling mixer at every row and feature. -/
def poolOf (X : FVec Ideal Cert.Kernel4Ideal.S16384x256 .f32) (W : FVec Ideal Cert.Kernel4Ideal.S4x64x64 .f32) (S : FVec Ideal Cert.Kernel4Ideal.S256 .f32) :
    FVec Ideal Cert.Kernel4Ideal.S16384x256 .f32 := fun y =>
  poolAt X W S ⟨(y 0).val / 4096, by have := (y 0).isLt; dsimp at this; omega⟩ ⟨(y 0).val % 4096, by omega⟩
    ⟨(y 1).val / 64, by have := (y 1).isLt; dsimp at this; omega⟩ ⟨(y 1).val % 64, by omega⟩

/-- A token's number compared with 1, 2 and 4. -/
theorem sge_at : ∀ t : Fin 4096,
    IntOp.cmpi .sge (BitVec.ofNat 32 t.val) 1#32 = (if 1 ≤ t.val then 1#1 else 0#1)
    ∧ IntOp.cmpi .sge (BitVec.ofNat 32 t.val) 2#32 = (if 2 ≤ t.val then 1#1 else 0#1)
    ∧ IntOp.cmpi .sge (BitVec.ofNat 32 t.val) 4#32 = (if 4 ≤ t.val then 1#1 else 0#1) := by
  decide +kernel

/-- A token's number compared with 4095, 4094 and 4092. -/
theorem slt_at : ∀ t : Fin 4096,
    IntOp.cmpi .slt (BitVec.ofNat 32 t.val) 4095#32 = (if t.val < 4095 then 1#1 else 0#1)
    ∧ IntOp.cmpi .slt (BitVec.ofNat 32 t.val) 4094#32 = (if t.val < 4094 then 1#1 else 0#1)
    ∧ IntOp.cmpi .slt (BitVec.ofNat 32 t.val) 4092#32 = (if t.val < 4092 then 1#1 else 0#1) := by
  decide +kernel

/-- A lane's number compared with 64. -/
theorem lane_at : ∀ l : Fin 128, IntOp.cmpi .slt (BitVec.ofNat 32 l.val) 64#32 = (if l.val < 64 then 1#1 else 0#1) := by
  decide +kernel

end Cert.Pooling

end
-- ==== Proof.PoolSpec.lean ====
/- The pooling kernel's window sums. -/
module

public import proofs.«01_k».proof.Proof.PoolBase
public import Idealize.ShloMosaic.Lib.Claim
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.Kernel4Ideal.Pool

open Cert.Kernel4Ideal Cert.Kernel4Ideal.Gen Cert.Pooling

/-- Moving a block down by `k` rows, with zeros above, moves each column's padded form down by `k`. -/
theorem down_at (k : ℕ) (b : BitVec 32) (hb : b.toNat = k) (hk : k ≤ 8)
    (hc : ∀ t : Fin 4096, IntOp.cmpi .sge (BitVec.ofNat 32 t.val) b = (if k ≤ t.val then 1#1 else 0#1))
    (x : FVec Ideal S4096x128 .f32) (l : Fin 128) (G : ℕ → EReal) (hx : ∀ t : Fin 4096, x (ix2 t l) = G (t.val + 8))
    (hG : ∀ n, n < 8 → G n = 0) (t : Fin 4096) :
    select (cmpi .sge (iota .tc S4096x128 32 [0] iota_S4096x128_d0_w32) (broadcast S4096x128 b))
      (dynamicRotate 0 b none x rotates_S4096x128_d0) (broadcast S4096x128 (Scalar.ofBits (F := Ideal) .f32 0x00000000#32)) (ix2 t l) = G (t.val + 8 - k) := by
  have e : ∀ z : FVec Ideal S4096x128 .f32, select (cmpi .sge (iota .tc S4096x128 32 [0] iota_S4096x128_d0_w32) (broadcast S4096x128 b)) z
      (broadcast S4096x128 (Scalar.ofBits (F := Ideal) .f32 0x00000000#32)) (ix2 t l)
        = Scalar.select (IntOp.cmpi .sge (BitVec.ofNat 32 t.val) b) (z (ix2 t l)) (0 : EReal) := fun z => by pointwise
  rw [e, hc t]
  by_cases h : k ≤ t.val
  · rw [if_pos h]
    show dynamicRotate 0 b none x rotates_S4096x128_d0 (ix2 t l) = _
    rw [dynamicRotate_apply 0 b x rotates_S4096x128_d0 (ix2 t l) (ix2 ⟨t.val - k, by omega⟩ l) (by
      intro a
      match a with
      | ⟨0, _⟩ =>
        refine Eq.trans ?_ (if_pos rfl).symm
        show t.val - k = (t.val + 4096 - b.toNat % 4096) % 4096
        rw [hb]
        omega
      | ⟨1, _⟩ => rfl), hx]
    show G (t.val - k + 8) = _
    congr 1
    omega
  · rw [if_neg h]
    exact (hG _ (by omega)).symm

/-- Moving a block up by `k` rows, with zeros below, moves each column's padded form up by `k`. -/
theorem up_at (k : ℕ) (b : BitVec 32) (hb : b.toNat = 4096 - k) (hk : 0 < k ∧ k ≤ 8)
    (hc : ∀ t : Fin 4096, IntOp.cmpi .slt (BitVec.ofNat 32 t.val) b = (if t.val < 4096 - k then 1#1 else 0#1))
    (x : FVec Ideal S4096x128 .f32) (l : Fin 128) (G : ℕ → EReal) (hx : ∀ t : Fin 4096, x (ix2 t l) = G (t.val + 8))
    (hG : ∀ n, 4104 ≤ n → G n = 0) (t : Fin 4096) :
    select (cmpi .slt (iota .tc S4096x128 32 [0] iota_S4096x128_d0_w32) (broadcast S4096x128 b))
      (dynamicRotate 0 b none x rotates_S4096x128_d0) (broadcast S4096x128 (Scalar.ofBits (F := Ideal) .f32 0x00000000#32)) (ix2 t l) = G (t.val + 8 + k) := by
  have e : ∀ z : FVec Ideal S4096x128 .f32, select (cmpi .slt (iota .tc S4096x128 32 [0] iota_S4096x128_d0_w32) (broadcast S4096x128 b)) z
      (broadcast S4096x128 (Scalar.ofBits (F := Ideal) .f32 0x00000000#32)) (ix2 t l)
        = Scalar.select (IntOp.cmpi .slt (BitVec.ofNat 32 t.val) b) (z (ix2 t l)) (0 : EReal) := fun z => by pointwise
  rw [e, hc t]
  by_cases h : t.val < 4096 - k
  · rw [if_pos h]
    show dynamicRotate 0 b none x rotates_S4096x128_d0 (ix2 t l) = _
    rw [dynamicRotate_apply 0 b x rotates_S4096x128_d0 (ix2 t l) (ix2 ⟨t.val + k, by omega⟩ l) (by
      intro a
      match a with
      | ⟨0, _⟩ =>
        refine Eq.trans ?_ (if_pos rfl).symm
        show t.val + k = (t.val + 4096 - b.toNat % 4096) % 4096
        rw [hb]
        omega
      | ⟨1, _⟩ => rfl), hx]
    show G (t.val + k + 8) = _
    congr 1
    omega
  · rw [if_neg h]
    exact (hG _ (by omega)).symm

/-- The sum of two rows ending at `n`. -/
def back2 (p : ℕ → EReal) (n : ℕ) : EReal := p n + p (n - 1)
/-- The sum of four rows ending at `n`. -/
def back4 (p : ℕ → EReal) (n : ℕ) : EReal := back2 p n + back2 p (n - 2)
/-- The sum of eight rows ending at `n`. -/
def back8 (p : ℕ → EReal) (n : ℕ) : EReal := back4 p n + back4 p (n - 4)

/-- The sum of two rows starting at `n`. -/
def fwd2 (p : ℕ → EReal) (n : ℕ) : EReal := p n + p (n + 1)
/-- The sum of four rows starting at `n`. -/
def fwd4 (p : ℕ → EReal) (n : ℕ) : EReal := fwd2 p n + fwd2 p (n + 2)

section Stages

variable (x : Vec Ideal S4096x128 .f32) (l : Fin 128)

/-- One column of a block, padded. -/
def colOf : ℕ → EReal := padded fun s => x (ix2 s l)

/-- A block's entry is its padded column's, eight places on. -/
theorem colOf_at (t : Fin 4096) : x (ix2 t l) = colOf x l (t.val + 8) := (padded_at (fun s => x (ix2 s l)) t).symm

/-- A block's padded column starts with zeros. -/
theorem colOf_low (n : ℕ) (h : n < 8) : colOf x l n = 0 := padded_low _ n h

/-- A block's padded column ends with zeros. -/
theorem colOf_high (n : ℕ) (h : 4104 ≤ n) : colOf x l n = 0 := padded_high _ n h

/-- The sum of two rows is zero before the first token. -/
theorem back2_low (n : ℕ) (h : n < 8) : back2 (colOf x l) n = 0 := by
  unfold back2; rw [colOf_low x l n h, colOf_low x l _ (by omega), add_zero]
/-- The sum of four rows is zero before the first token. -/
theorem back4_low (n : ℕ) (h : n < 8) : back4 (colOf x l) n = 0 := by
  unfold back4; rw [back2_low x l n h, back2_low x l _ (by omega), add_zero]
/-- The sum of eight rows is zero before the first token. -/
theorem back8_low (n : ℕ) (h : n < 8) : back8 (colOf x l) n = 0 := by
  unfold back8; rw [back4_low x l n h, back4_low x l _ (by omega), add_zero]
/-- The sum of two rows is zero after the last token. -/
theorem fwd2_high (n : ℕ) (h : 4104 ≤ n) : fwd2 (colOf x l) n = 0 := by
  unfold fwd2; rw [colOf_high x l n h, colOf_high x l _ (by omega), add_zero]
/-- The sum of four rows is zero after the last token. -/
theorem fwd4_high (n : ℕ) (h : 4104 ≤ n) : fwd4 (colOf x l) n = 0 := by
  unfold fwd4; rw [fwd2_high x l n h, fwd2_high x l _ (by omega), add_zero]

/-- Two rows summed backwards. -/
theorem pay2_at (t : Fin 4096) : k0_pay2 x (ix2 t l) = back2 (colOf x l) (t.val + 8) :=
  congrArg₂ (· + ·) (colOf_at x l t) (down_at 1 1#32 rfl (by omega) (fun t => (sge_at t).1) x l (colOf x l) (colOf_at x l) (colOf_low x l) t)
/-- Four rows summed backwards. -/
theorem pay4_at (t : Fin 4096) : k0_pay4 x (ix2 t l) = back4 (colOf x l) (t.val + 8) :=
  congrArg₂ (· + ·) (pay2_at x l t) (down_at 2 2#32 rfl (by omega) (fun t => (sge_at t).2.1) (k0_pay2 x) l (back2 (colOf x l)) (pay2_at x l) (back2_low x l) t)
/-- Eight rows summed backwards. -/
theorem pay6_at (t : Fin 4096) : k0_pay6 x (ix2 t l) = back8 (colOf x l) (t.val + 8) :=
  congrArg₂ (· + ·) (pay4_at x l t) (down_at 4 4#32 rfl (by omega) (fun t => (sge_at t).2.2) (k0_pay4 x) l (back4 (colOf x l)) (pay4_at x l) (back4_low x l) t)

/-- Two rows summed forwards. -/
theorem pay3_at (t : Fin 4096) : k0_pay3 x (ix2 t l) = fwd2 (colOf x l) (t.val + 8) :=
  congrArg₂ (· + ·) (colOf_at x l t) (up_at 1 4095#32 rfl (by omega) (fun t => (slt_at t).1) x l (colOf x l) (colOf_at x l) (colOf_high x l) t)
/-- Four rows summed forwards. -/
theorem pay5_at (t : Fin 4096) : k0_pay5 x (ix2 t l) = fwd4 (colOf x l) (t.val + 8) :=
  congrArg₂ (· + ·) (pay3_at x l t) (up_at 2 4094#32 rfl (by omega) (fun t => (slt_at t).2.1) (k0_pay3 x) l (fwd2 (colOf x l)) (pay3_at x l) (fwd2_high x l) t)
/-- Four rows summed forwards, four places on. -/
theorem pay7_at (t : Fin 4096) : k0_pay7 x (ix2 t l) = fwd4 (colOf x l) (t.val + 8 + 4) :=
  up_at 4 4092#32 rfl (by omega) (fun t => (slt_at t).2.2) (k0_pay5 x) l (fwd4 (colOf x l)) (pay5_at x l) (fwd4_high x l) t

/-- The first group's window. -/
theorem win0 (t : ℕ) : colOf x l (t + 8 - 1) + colOf x l (t + 8) = winSum (fun s => x (ix2 s l)) 0 t := by
  unfold winSum
  simp only [Fin.val_zero, pow_zero, mul_one, Finset.sum_range_succ, Finset.sum_range_zero, zero_add]
  rfl
/-- The second group's window. -/
theorem win1 (t : ℕ) : back2 (colOf x l) (t + 8 - 1) + fwd2 (colOf x l) (t + 8) = winSum (fun s => x (ix2 s l)) 1 t := by
  unfold winSum back2 fwd2
  change _ = ∑ d ∈ Finset.range 4, colOf x l (t + (6 + d))
  simp only [Finset.sum_range_succ, Finset.sum_range_zero, zero_add, Nat.add_assoc, Nat.reduceAdd, Nat.add_sub_assoc, Nat.reduceSub, Nat.reduceLeDiff]
  abel
/-- The third group's window. -/
theorem win2 (t : ℕ) : back4 (colOf x l) (t + 8 - 1) + fwd4 (colOf x l) (t + 8) = winSum (fun s => x (ix2 s l)) 2 t := by
  unfold winSum back4 fwd4 back2 fwd2
  change _ = ∑ d ∈ Finset.range 8, colOf x l (t + (4 + d))
  simp only [Finset.sum_range_succ, Finset.sum_range_zero, zero_add, Nat.add_assoc, Nat.reduceAdd, Nat.add_sub_assoc, Nat.reduceSub, Nat.reduceLeDiff]
  abel
/-- The fourth group's window. -/
theorem win3 (t : ℕ) : back8 (colOf x l) (t + 8 - 1) + (fwd4 (colOf x l) (t + 8) + fwd4 (colOf x l) (t + 8 + 4)) = winSum (fun s => x (ix2 s l)) 3 t := by
  unfold winSum back8 back4 fwd4 back2 fwd2
  change _ = ∑ d ∈ Finset.range 16, colOf x l (t + (0 + d))
  simp only [Finset.sum_range_succ, Finset.sum_range_zero, zero_add, Nat.add_assoc, Nat.reduceAdd, Nat.add_sub_assoc, Nat.reduceSub, Nat.reduceLeDiff]
  abel

/-- The window of the group a lane is in. -/
theorem pay8_at (h : Fin 2) (t : Fin 4096) :
    k0_pay8 (BitVec.ofNat 32 h.val) x (iota .tc S4096x128 32 [0] iota_S4096x128_d0_w32) (iota .tc S4096x128 32 [1] iota_S4096x128_d1_w32)
      (k0_pay2 x) (k0_pay3 x) (k0_pay4 x) (k0_pay5 x) (k0_pay6 x) (k0_pay7 x) (ix2 t l)
      = winSum (fun s => x (ix2 s l)) ⟨2 * h.val + l.val / 64, by omega⟩ t.val := by
  have d1 : ∀ y : FVec Ideal S4096x128 .f32, ∀ G : ℕ → EReal, (∀ t : Fin 4096, y (ix2 t l) = G (t.val + 8)) → (∀ n, n < 8 → G n = 0) →
      select (cmpi .sge (iota .tc S4096x128 32 [0] iota_S4096x128_d0_w32) (broadcast S4096x128 1#32))
        (dynamicRotate 0 1#32 none y rotates_S4096x128_d0) (broadcast S4096x128 (Scalar.ofBits (F := Ideal) .f32 0x00000000#32)) (ix2 t l) = G (t.val + 8 - 1) :=
    fun y G hy hG => down_at 1 1#32 rfl (by omega) (fun t => (sge_at t).1) y l G hy hG t
  have a0 := (congrArg₂ (· + ·) (d1 x (colOf x l) (colOf_at x l) (colOf_low x l)) (colOf_at x l t)).trans (win0 x l t.val)
  have a1 := (congrArg₂ (· + ·) (d1 (k0_pay2 x) (back2 (colOf x l)) (pay2_at x l) (back2_low x l)) (pay3_at x l t)).trans (win1 x l t.val)
  have a2 := (congrArg₂ (· + ·) (d1 (k0_pay4 x) (back4 (colOf x l)) (pay4_at x l) (back4_low x l)) (pay5_at x l t)).trans (win2 x l t.val)
  have a3 := (congrArg₂ (· + ·) (d1 (k0_pay6 x) (back8 (colOf x l)) (pay6_at x l) (back8_low x l))
    (congrArg₂ (· + ·) (pay5_at x l t) (pay7_at x l t))).trans (win3 x l t.val)
  have e : k0_pay8 (BitVec.ofNat 32 h.val) x (iota .tc S4096x128 32 [0] iota_S4096x128_d0_w32) (iota .tc S4096x128 32 [1] iota_S4096x128_d1_w32)
      (k0_pay2 x) (k0_pay3 x) (k0_pay4 x) (k0_pay5 x) (k0_pay6 x) (k0_pay7 x) (ix2 t l)
      = Scalar.select (Scalar.cmpi .eq (BitVec.ofNat 32 h.val) 0#32)
        (Scalar.select (cmpi .slt (iota .tc S4096x128 32 [1] iota_S4096x128_d1_w32) (broadcast S4096x128 64#32) (ix2 t l))
          (winSum (fun s => x (ix2 s l)) 0 t.val) (winSum (fun s => x (ix2 s l)) 1 t.val))
        (Scalar.select (cmpi .slt (iota .tc S4096x128 32 [1] iota_S4096x128_d1_w32) (broadcast S4096x128 64#32) (ix2 t l))
          (winSum (fun s => x (ix2 s l)) 2 t.val) (winSum (fun s => x (ix2 s l)) 3 t.val)) := by
    rw [← a0, ← a1, ← a2, ← a3]
    rcases h with ⟨_ | _ | n, hn⟩
    · rfl
    · rfl
    · omega
  have c : cmpi .slt (iota .tc S4096x128 32 [1] iota_S4096x128_d1_w32) (broadcast S4096x128 64#32) (ix2 t l) = IntOp.cmpi .slt (BitVec.ofNat 32 l.val) 64#32 := by
    pointwise
  rw [e, c, lane_at]
  by_cases hl : l.val < 64
  · rw [if_pos hl]
    rcases h with ⟨_ | _ | n, hn⟩
    · exact congrArg (fun g => winSum (fun s => x (ix2 s l)) g t.val) (Fin.ext (by show 0 = 2 * 0 + l.val / 64; omega))
    · exact congrArg (fun g => winSum (fun s => x (ix2 s l)) g t.val) (Fin.ext (by show 2 = 2 * 1 + l.val / 64; omega))
    · omega
  · rw [if_neg hl]
    rcases h with ⟨_ | _ | n, hn⟩
    · exact congrArg (fun g => winSum (fun s => x (ix2 s l)) g t.val) (Fin.ext (by show 1 = 2 * 0 + l.val / 64; omega))
    · exact congrArg (fun g => winSum (fun s => x (ix2 s l)) g t.val) (Fin.ext (by show 3 = 2 * 1 + l.val / 64; omega))
    · omega

/-- Half the width of the window of a lane's group, as the kernel selects it. -/
theorem half_at (h : Fin 2) :
    Scalar.select (Scalar.cmpi .eq (BitVec.ofNat 32 h.val) 0#32)
      (Scalar.select (IntOp.cmpi .slt (BitVec.ofNat 32 l.val) 64#32) 1#32 2#32)
      (Scalar.select (IntOp.cmpi .slt (BitVec.ofNat 32 l.val) 64#32) 4#32 8#32) = half ⟨2 * h.val + l.val / 64, by omega⟩ := by
  rw [lane_at]
  by_cases hl : l.val < 64
  · rw [if_pos hl]
    rcases h with ⟨_ | _ | n, hn⟩
    · exact congrArg half (Fin.ext (by show 0 = 2 * 0 + l.val / 64; omega) : (0 : Fin 4) = _)
    · exact congrArg half (Fin.ext (by show 2 = 2 * 1 + l.val / 64; omega) : (2 : Fin 4) = _)
    · omega
  · rw [if_neg hl]
    rcases h with ⟨_ | _ | n, hn⟩
    · exact congrArg half (Fin.ext (by show 1 = 2 * 0 + l.val / 64; omega) : (1 : Fin 4) = _)
    · exact congrArg half (Fin.ext (by show 3 = 2 * 1 + l.val / 64; omega) : (3 : Fin 4) = _)
    · omega

end Stages

/-- What the kernel stores from one block: the mixed lanes through the half's weights, and its scale. -/
theorem pay1_at (h : Fin 2) (x : Vec Ideal S4096x128 .f32) (w : Vec Ideal S1x128x128 .bf16) (s : Vec Ideal S1x1x128 .f32) (t : Fin 4096) (e : Fin 128) :
    k0_pay1 (BitVec.ofNat 32 h.val) x (iota .tc S4096x128 32 [0] iota_S4096x128_d0_w32)
      (k0_pay8 (BitVec.ofNat 32 h.val) x (iota .tc S4096x128 32 [0] iota_S4096x128_d0_w32) (iota .tc S4096x128 32 [1] iota_S4096x128_d1_w32)
        (k0_pay2 x) (k0_pay3 x) (k0_pay4 x) (k0_pay5 x) (k0_pay6 x) (k0_pay7 x))
      (k0_pay9 (iota .tc S4096x128 32 [1] iota_S4096x128_d1_w32)) (k0_pay10 (iota .tc S4096x128 32 [1] iota_S4096x128_d1_w32)) 4#32 w s (ix2 t e)
      = (∑ l : Fin 128, mixAt (fun a => x (ix2 a l)) ⟨2 * h.val + l.val / 64, by omega⟩ t * w (ix3 0 l e)) * s (ix3 0 0 e) := by
  have k8 := fun l => pay8_at x l h t
  generalize k0_pay8 (BitVec.ofNat 32 h.val) x (iota .tc S4096x128 32 [0] iota_S4096x128_d0_w32) (iota .tc S4096x128 32 [1] iota_S4096x128_d1_w32)
        (k0_pay2 x) (k0_pay3 x) (k0_pay4 x) (k0_pay5 x) (k0_pay6 x) (k0_pay7 x) = Y at k8 ⊢
  have hh := fun l => half_at l h
  generalize BitVec.ofNat 32 h.val = b at hh ⊢
  pointwise [k0_pay1, k0_pay9, k0_pay10]
  refine congrArg (· * s (ix3 0 0 e)) (Finset.sum_congr rfl fun l _ => congrArg (· * w (ix3 0 l e)) ?_)
  rw [hh, k8, count_eq]
  rfl

end Cert.Kernel4Ideal.Pool

end
-- ==== Proof.PoolW.lean ====
/- The pooling call's weights as the host lays them out. -/
module

public import proofs.«01_k».proof.Proof.Gen.Kernel4Ideal.Frame
public import Idealize.ShloMosaic.Lib.Claim
public import Idealize.ShloMosaic.Lib.Pointwise
public import Idealize.ShloMosaic.Lib.Routing.OpsOne
public import Idealize.ShloMosaic.Lib.Pipeline.ValueKit

@[expose] public section

set_option maxRecDepth 16384

noncomputable section

open Idealize.ShloMosaic Idealize.ShloMosaic.TcCoe Idealize.SL.Sem

namespace Cert.Kernel4Ideal.Pool

open Cert.Kernel4Ideal Cert.Kernel4Ideal.Gen

/-- An update of 64 rows and columns lands at `(r, c)` exactly when its place, moved by the two index words, is `(r, c)`. -/
theorem lands (idx : IVec S2 32) (k : S64x64.Idx) (r c : Fin 128) :
    scatter_S128x128_S2_S64x64_01_n_01_0.resultIdx? k idx = some (ix2 r c)
      ↔ (idx (ix1 (0 : Fin 2))).toInt + ((k 0).val : Int) = r.val ∧ (idx (ix1 (1 : Fin 2))).toInt + ((k 1).val : Int) = c.val := by
  have h0 : scatter_S128x128_S2_S64x64_01_n_01_0.window k 0 = (k 0).val := rfl
  have h1 : scatter_S128x128_S2_S64x64_01_n_01_0.window k 1 = (k 1).val := rfl
  refine (Routing.resultIdx?_ix2 (R := 128) (C := 128) scatter_S128x128_S2_S64x64_01_n_01_0 k idx r c).trans ?_
  rw [show scatter_S128x128_S2_S64x64_01_n_01_0.start k idx 0 = _ from Routing.start_pair (R := 128) (C := 128) scatter_S128x128_S2_S64x64_01_n_01_0 rfl rfl idx k 0,
    show scatter_S128x128_S2_S64x64_01_n_01_0.start k idx 1 = _ from Routing.start_pair (R := 128) (C := 128) scatter_S128x128_S2_S64x64_01_n_01_0 rfl rfl idx k 1, h0, h1]
  exact Iff.rfl

/-- A 64 × 64 matrix written into a 128 × 128 one at `(o, o)`. -/
theorem put_at (x : FVec Ideal S128x128 .f32) (idx : IVec S2 32) (u : FVec Ideal S64x64 .f32) (o : ℕ) (h0 : (idx (ix1 (0 : Fin 2))).toInt = o)
    (h1 : (idx (ix1 (1 : Fin 2))).toInt = o) (r c : Fin 128) :
    Host.scatter scatter_S128x128_S2_S64x64_01_n_01_0 (fun _ b => b) x idx u (ix2 r c)
      = if h : (o ≤ r.val ∧ r.val < o + 64) ∧ o ≤ c.val ∧ c.val < o + 64 then u (ix2 ⟨r.val - o, by omega⟩ ⟨c.val - o, by omega⟩) else x (ix2 r c) := by
  have hl : ∀ k : S64x64.Idx, (k 0).val < 64 ∧ (k 1).val < 64 := fun k => ⟨(k 0).isLt, (k 1).isLt⟩
  by_cases h : (o ≤ r.val ∧ r.val < o + 64) ∧ o ≤ c.val ∧ c.val < o + 64
  · rw [dif_pos h]
    refine Routing.scatter_set_hit _ x idx u _ _ (fun k hk => ?_) (ix2 ⟨r.val - o, by omega⟩ ⟨c.val - o, by omega⟩) ((lands idx _ r c).2 ?_)
    · have e := (lands idx k r c).1 hk
      rw [h0, h1] at e
      rw [eq_ix2 k]
      congr 1
      congr 1
      · exact Fin.ext (show (k 0).val = r.val - o by omega)
      · exact Fin.ext (show (k 1).val = c.val - o by omega)
    · rw [h0, h1]
      show (o : Int) + ((r.val - o : ℕ) : Int) = _ ∧ (o : Int) + ((c.val - o : ℕ) : Int) = _
      omega
  · rw [dif_neg h]
    refine Routing.scatter_set_miss _ x idx u _ fun k hk => h ?_
    have e := (lands idx k r c).1 hk
    have := hl k
    rw [h0, h1] at e
    omega

/-- Two matrices laid out one after the other along the diagonal of a matrix of zeros. -/
theorem diag_at (x : FVec Ideal S128x128 .f32) (hx : ∀ y, x y = (0 : EReal)) (i j : IVec S2 32) (u v : FVec Ideal S64x64 .f32)
    (hi : ∀ q : Fin 2, i (ix1 q) = 0#32) (hj : ∀ q : Fin 2, j (ix1 q) = 64#32) (r c : Fin 128) :
    Host.scatter scatter_S128x128_S2_S64x64_01_n_01_0 (fun _ b => b)
        (Host.scatter scatter_S128x128_S2_S64x64_01_n_01_0 (fun _ b => b) x i u) j v (ix2 r c)
      = if r.val / 64 = c.val / 64 then
          (if r.val < 64 then u else v) (ix2 ⟨r.val % 64, by omega⟩ ⟨c.val % 64, by omega⟩)
        else (0 : EReal) := by
  rw [put_at _ j v 64 (by rw [hj]; rfl) (by rw [hj]; rfl), put_at x i u 0 (by rw [hi]; rfl) (by rw [hi]; rfl)]
  by_cases h : r.val / 64 = c.val / 64
  · rw [if_pos h]
    by_cases hr : r.val < 64
    · rw [dif_neg (by omega), dif_pos (by omega), if_pos hr]
      congr 2
      · exact Fin.ext (by show r.val - 0 = r.val % 64; omega)
      · exact Fin.ext (by show c.val - 0 = c.val % 64; omega)
    · rw [dif_pos (by omega), if_neg hr]
      congr 2
      · exact Fin.ext (by show r.val - 64 = r.val % 64; omega)
      · exact Fin.ext (by show c.val - 64 = c.val % 64; omega)
  · rw [if_neg h, dif_neg (by omega), dif_neg (by omega), hx]

variable (m : (ℓ : Loc nD τ sig) → Buf (Elt Ideal) ℓ)

/-- The matrices of two groups along the diagonal. -/
def pairOf (u v : FVec Ideal S64x64 .f32) : FVec Ideal S128x128 .f32 :=
  Host.scatter scatter_S128x128_S2_S64x64_01_n_01_0 (fun _ b => b)
    (Host.scatter scatter_S128x128_S2_S64x64_01_n_01_0 (fun _ b => b)
      (broadcastInDim S128x128 ![] bcast_S_S128x128 (constant (F := Ideal) S_ .f32 0#32))
      (concatenate S2 0 [⟨S1, broadcastInDim S1 ![] bcast_S_S1 (constantI S_ 32 0#32)⟩, ⟨S1, broadcastInDim S1 ![] bcast_S_S1 (constantI S_ 32 0#32)⟩]
        concatenates_S1_S1_S2_d0) u)
    (concatenate S2 0 [⟨S1, broadcastInDim S1 ![] bcast_S_S1 (constantI S_ 32 64#32)⟩, ⟨S1, broadcastInDim S1 ![] bcast_S_S1 (constantI S_ 32 64#32)⟩]
      concatenates_S1_S1_S2_d0) v

/-- A matrix of the groups' weights. -/
def grp (W : FVec Ideal S4x64x64 .f32) (g : Fin 4) : FVec Ideal S64x64 .f32 := fun y => W (ix3 g (y 0) (y 1))

/-- The two matrices along the diagonal, at one place. -/
theorem pair_at (u v : FVec Ideal S64x64 .f32) (r c : Fin 128) :
    pairOf u v (ix2 r c) = if r.val / 64 = c.val / 64 then
          (if r.val < 64 then u else v) (ix2 ⟨r.val % 64, by omega⟩ ⟨c.val % 64, by omega⟩)
        else (0 : EReal) := by
  refine diag_at _ (fun y => ?_) _ _ u v (fun q => ?_) (fun q => ?_) r c
  · rw [eq_ix2 y]; pointwise
  · fin_cases q <;> rfl
  · fin_cases q <;> rfl

/-- The weights the kernel reads: for each half of the features, its two groups' matrices along the diagonal. -/
theorem w29 (c : Dev nD) (h : Fin 2) (r e : Fin 128) :
    (V m c main_v29 : FVec Ideal S2x128x128 .bf16) (ix3 h r e)
      = if r.val / 64 = e.val / 64 then
          (m ((c : Thread nD τ).loc main_arg1) : FVec Ideal S4x64x64 .f32) (ix3 ⟨2 * h.val + r.val / 64, by omega⟩ ⟨r.val % 64, by omega⟩ ⟨e.val % 64, by omega⟩)
        else (0 : EReal) := by
  have key : (V m c main_v29 : FVec Ideal S2x128x128 .bf16) = truncf .bf16 (concatenate S2x128x128 0
        [⟨S1x128x128, broadcastInDim S1x128x128 ![1, 2] bcast_S128x128_S1x128x128_1_2
          (pairOf (shapeCast S64x64 (extractStridedSlice S1x64x64 ![0, 0, 0] (m ((c : Thread nD τ).loc main_arg1) : FVec Ideal S4x64x64 .f32) slices_S4x64x64_S1x64x64_0_0_0) shapeCasts_S1x64x64_S64x64)
            (shapeCast S64x64 (extractStridedSlice S1x64x64 ![1, 0, 0] (m ((c : Thread nD τ).loc main_arg1) : FVec Ideal S4x64x64 .f32) slices_S4x64x64_S1x64x64_1_0_0) shapeCasts_S1x64x64_S64x64))⟩,
         ⟨S1x128x128, broadcastInDim S1x128x128 ![1, 2] bcast_S128x128_S1x128x128_1_2
          (pairOf (shapeCast S64x64 (extractStridedSlice S1x64x64 ![2, 0, 0] (m ((c : Thread nD τ).loc main_arg1) : FVec Ideal S4x64x64 .f32) slices_S4x64x64_S1x64x64_2_0_0) shapeCasts_S1x64x64_S64x64)
            (shapeCast S64x64 (extractStridedSlice S1x64x64 ![3, 0, 0] (m ((c : Thread nD τ).loc main_arg1) : FVec Ideal S4x64x64 .f32) slices_S4x64x64_S1x64x64_3_0_0) shapeCasts_S1x64x64_S64x64))⟩]
        concatenates_S1x128x128_S1x128x128_S2x128x128_d0) bitsLt_bf16_f32 := by
    unfold V
    after_results
    rfl
  rw [key]
  generalize (m ((c : Thread nD τ).loc main_arg1) : FVec Ideal S4x64x64 .f32) = W
  have s0 : shapeCast S64x64 (extractStridedSlice S1x64x64 ![0, 0, 0] W slices_S4x64x64_S1x64x64_0_0_0) shapeCasts_S1x64x64_S64x64 = grp W 0 := by
    funext y; rw [eq_ix2 y]; pointwise [grp]
  have s1 : shapeCast S64x64 (extractStridedSlice S1x64x64 ![1, 0, 0] W slices_S4x64x64_S1x64x64_1_0_0) shapeCasts_S1x64x64_S64x64 = grp W 1 := by
    funext y; rw [eq_ix2 y]; pointwise [grp]
  have s2 : shapeCast S64x64 (extractStridedSlice S1x64x64 ![2, 0, 0] W slices_S4x64x64_S1x64x64_2_0_0) shapeCasts_S1x64x64_S64x64 = grp W 2 := by
    funext y; rw [eq_ix2 y]; pointwise [grp]
  have s3 : shapeCast S64x64 (extractStridedSlice S1x64x64 ![3, 0, 0] W slices_S4x64x64_S1x64x64_3_0_0) shapeCasts_S1x64x64_S64x64 = grp W 3 := by
    funext y; rw [eq_ix2 y]; pointwise [grp]
  rw [s0, s1, s2, s3]
  have pick : ∀ A B : FVec Ideal S128x128 .f32, truncf (F := Ideal) .bf16 (concatenate S2x128x128 0
        [⟨S1x128x128, broadcastInDim S1x128x128 ![1, 2] bcast_S128x128_S1x128x128_1_2 A⟩, ⟨S1x128x128, broadcastInDim S1x128x128 ![1, 2] bcast_S128x128_S1x128x128_1_2 B⟩]
        concatenates_S1x128x128_S1x128x128_S2x128x128_d0) bitsLt_bf16_f32 (ix3 h r e) = (if h.val = 0 then A else B) (ix2 r e) := fun A B => by
    fin_cases h <;> pointwise <;> rfl
  rw [pick]
  fin_cases h
  · show pairOf (grp W 0) (grp W 1) (ix2 r e) = _
    rw [pair_at]
    by_cases hr : r.val < 64
    · rw [if_pos hr]
      have : (⟨2 * 0 + r.val / 64, by omega⟩ : Fin 4) = 0 := Fin.ext (by show 2 * 0 + r.val / 64 = 0; omega)
      simp only [this]
      rfl
    · rw [if_neg hr]
      have : (⟨2 * 0 + r.val / 64, by omega⟩ : Fin 4) = 1 := Fin.ext (by show 2 * 0 + r.val / 64 = 1; omega)
      simp only [this]
      rfl
  · show pairOf (grp W 2) (grp W 3) (ix2 r e) = _
    rw [pair_at]
    by_cases hr : r.val < 64
    · rw [if_pos hr]
      have : (⟨2 * 1 + r.val / 64, by omega⟩ : Fin 4) = 2 := Fin.ext (by show 2 * 1 + r.val / 64 = 2; omega)
      simp only [this]
      rfl
    · rw [if_neg hr]
      have : (⟨2 * 1 + r.val / 64, by omega⟩ : Fin 4) = 3 := Fin.ext (by show 2 * 1 + r.val / 64 = 3; omega)
      simp only [this]
      rfl

/-- The scale the kernel reads. -/
theorem w30 (c : Dev nD) (h : Fin 2) (e : Fin 128) :
    (V m c main_v30 : FVec Ideal S2x1x128 .f32) (ix3 h 0 e) = (m ((c : Thread nD τ).loc main_arg2) : FVec Ideal S256 .f32) (ix1 ⟨h.val * 128 + e.val, by omega⟩) := by
  have key : (V m c main_v30 : FVec Ideal S2x1x128 .f32) = shapeCast S2x1x128 (m ((c : Thread nD τ).loc main_arg2) : FVec Ideal S256 .f32) shapeCasts_S256_S2x1x128 := by
    unfold V
    after_results
    rfl
  rw [key]
  generalize (m ((c : Thread nD τ).loc main_arg2) : FVec Ideal S256 .f32) = W
  pointwise

end Cert.Kernel4Ideal.Pool

end
-- ==== Proof.Pool.lean ====
/- The pooling kernel's array is the pooling mixer. -/
module

public import proofs.«01_k».proof.Proof.PoolSpec
public import proofs.«01_k».proof.Proof.PoolW
public import proofs.«01_k».proof.Proof.Gen.Kernel4Ideal.Value

@[expose] public section

set_option maxRecDepth 16384

noncomputable section

open Idealize.ShloMosaic Idealize.ShloMosaic.TcCoe Idealize.SL.Sem
open Idealize.ShloMosaic.Pipeline (Dat)

namespace Cert.Kernel4Ideal.Pool

open Cert.Kernel4Ideal Cert.Kernel4Ideal.Gen Cert.Pooling

variable (m : (ℓ : Loc nD τ sig) → Buf (Elt Ideal) ℓ)

/-- The block every window has at each grid point. -/
theorem idx : ∀ t : Fin cfg0.N, win0_0.index t = ![t.val / 2, t.val % 2] ∧ win0_1.index t = ![t.val % 2, 0, 0] ∧ win0_2.index t = ![t.val % 2, 0, 0]
    ∧ win0_3.index t = ![t.val / 2, t.val % 2] :=
  (by decide +kernel : ∀ t : Fin grid0.N, _)

/-- The half of the features a grid point works on. -/
theorem coord_at : ∀ t : Fin cfg0.N, (grid0.coords t 1).val = t.val % 2 :=
  (by decide +kernel : ∀ t : Fin grid0.N, _)

/-- The tokens' block. -/
theorem blk_x (c : Dev nD) (t : Fin cfg0.N) (a : Fin 4096) (l : Fin 128) (ht : t.val < 8) :
    iblk m c 0 t (ix2 a l) = (m ((c : Thread nD τ).loc main_arg0) : FVec Ideal S16384x256 .f32) (ix2 ⟨t.val / 2 * 4096 + a.val, by omega⟩ ⟨t.val % 2 * 128 + l.val, by omega⟩) := by
  have e : iblk m c 0 t (ix2 a l) = (V m c main_arg0 : FVec Ideal S16384x256 .f32) (ix2 ⟨t.val / 2 * 4096 + a.val, by omega⟩ ⟨t.val % 2 * 128 + l.val, by omega⟩) := by
    blk_ext [iblk, idx t]
  rw [e, V_main_arg0]

/-- The weights' block. -/
theorem blk_w (c : Dev nD) (t : Fin cfg0.N) (r e : Fin 128) :
    iblk m c 1 t (ix3 0 r e) = if r.val / 64 = e.val / 64 then
          (m ((c : Thread nD τ).loc main_arg1) : FVec Ideal S4x64x64 .f32) (ix3 ⟨2 * (t.val % 2) + r.val / 64, by omega⟩ ⟨r.val % 64, by omega⟩ ⟨e.val % 64, by omega⟩)
        else (0 : EReal) := by
  have q : iblk m c 1 t (ix3 0 r e) = (V m c main_v29 : FVec Ideal S2x128x128 .bf16) (ix3 ⟨t.val % 2, by omega⟩ r e) := by
    blk_ext [iblk, idx t]
  rw [q]
  exact w29 m c ⟨t.val % 2, by omega⟩ r e

/-- The scale's block. -/
theorem blk_s (c : Dev nD) (t : Fin cfg0.N) (e : Fin 128) :
    iblk m c 2 t (ix3 0 0 e) = (m ((c : Thread nD τ).loc main_arg2) : FVec Ideal S256 .f32) (ix1 ⟨t.val % 2 * 128 + e.val, by omega⟩) := by
  have q : iblk m c 2 t (ix3 0 0 e) = (V m c main_v30 : FVec Ideal S2x1x128 .f32) (ix3 ⟨t.val % 2, by omega⟩ 0 e) := by
    blk_ext [iblk, idx t]
  rw [q]
  exact w30 m c ⟨t.val % 2, by omega⟩ e

/-- A sum over 128 lanes which vanishes outside one group of 64. -/
theorem sum_half (q : Fin 2) (f : Fin 128 → EReal) (hf : ∀ l : Fin 128, l.val / 64 ≠ q.val → f l = 0) :
    ∑ l, f l = ∑ d : Fin 64, f ⟨q.val * 64 + d.val, by omega⟩ := by
  have : ∑ l, f l = ∑ p : Fin 2, ∑ d : Fin 64, f ⟨p.val * 64 + d.val, by omega⟩ := by
    rw [← Fintype.sum_prod_type']
    refine (Fintype.sum_equiv (finProdFinEquiv (m := 2) (n := 64)) _ _ fun p => congrArg f (Fin.ext ?_)).symm
    simp only [finProdFinEquiv_apply_val]
    omega
  rw [this]
  refine Fintype.sum_eq_single q fun p hp => Finset.sum_eq_zero fun d _ => hf _ ?_
  have := Fin.val_ne_of_ne hp
  show (p.val * 64 + d.val) / 64 ≠ q.val
  omega

/-- What one grid point stores, from its blocks' reads of the arguments. -/
theorem point_of (b : Fin 4) (h : Fin 2) (x : Vec Ideal S4096x128 .f32) (w : Vec Ideal S1x128x128 .bf16) (s : Vec Ideal S1x1x128 .f32)
    (X : FVec Ideal S16384x256 .f32) (W : FVec Ideal S4x64x64 .f32) (S : FVec Ideal S256 .f32)
    (hx : ∀ (a : Fin 4096) (l : Fin 128), x (ix2 a l) = X (ix2 ⟨b.val * 4096 + a.val, by omega⟩ ⟨h.val * 128 + l.val, by omega⟩))
    (hw : ∀ r e : Fin 128, w (ix3 0 r e) = if r.val / 64 = e.val / 64 then W (ix3 ⟨2 * h.val + r.val / 64, by omega⟩ ⟨r.val % 64, by omega⟩ ⟨e.val % 64, by omega⟩) else (0 : EReal))
    (hs : ∀ e : Fin 128, s (ix3 0 0 e) = S (ix1 ⟨h.val * 128 + e.val, by omega⟩)) (t : Fin 4096) (e : Fin 128) :
    (∑ l : Fin 128, mixAt (fun a => x (ix2 a l)) ⟨2 * h.val + l.val / 64, by omega⟩ t * w (ix3 0 l e)) * s (ix3 0 0 e)
      = poolAt X W S b t ⟨2 * h.val + e.val / 64, by omega⟩ ⟨e.val % 64, by omega⟩ := by
  rw [sum_half ⟨e.val / 64, by omega⟩ _ fun l hl => by rw [hw, if_neg hl]; exact mul_zero _]
  unfold poolAt
  rw [hs]
  refine congrArg₂ (· * ·) (Finset.sum_congr rfl fun d _ => ?_) (congrArg (fun k => S (ix1 k)) (Fin.ext (by
    show h.val * 128 + e.val = (2 * h.val + e.val / 64) * 64 + e.val % 64; omega)))
  rw [hw, if_pos (show (e.val / 64 * 64 + d.val) / 64 = e.val / 64 by omega)]
  have hg : (⟨2 * h.val + (e.val / 64 * 64 + d.val) / 64, by omega⟩ : Fin 4) = ⟨2 * h.val + e.val / 64, by omega⟩ := Fin.ext (by
    show 2 * h.val + (e.val / 64 * 64 + d.val) / 64 = 2 * h.val + e.val / 64; omega)
  have hd : (⟨(e.val / 64 * 64 + d.val) % 64, by omega⟩ : Fin 64) = d := Fin.ext (by
    show (e.val / 64 * 64 + d.val) % 64 = d.val; omega)
  have hl : (⟨h.val * 128 + (e.val / 64 * 64 + d.val), by omega⟩ : Fin 256) = ⟨(2 * h.val + e.val / 64) * 64 + d.val, by omega⟩ := Fin.ext (by
    show h.val * 128 + (e.val / 64 * 64 + d.val) = (2 * h.val + e.val / 64) * 64 + d.val; omega)
  simp only [hx, hg, hd, hl]

/-- The kernel's array is the pooling mixer. -/
theorem pool_final (c : Dev nD) : (dats m 0 c).arrAt 3 (cfgs 0).N =
    poolOf (m ((c : Thread nD τ).loc main_arg0)) (m ((c : Thread nD τ).loc main_arg1)) (m ((c : Thread nD τ).loc main_arg2)) := by
  refine (dats m 0 c).arrAt_eq_of_covers 3 _ (by decide +kernel) fun t _ y => ?_
  have hy0 : (((View.whole main_v31).slice (win0_3.rect t)).emb y 0).val = t.val / 2 * 4096 + (y 0).val := by
    blk_simp [idx t]
  have hy1 : (((View.whole main_v31).slice (win0_3.rect t)).emb y 1).val = t.val % 2 * 128 + (y 1).val := by
    blk_simp [idx t]
  have ht : t.val < 8 := t.isLt
  have q0 := fun a l => blk_x m c t a l ht
  have q1 := blk_w m c t
  have q2 := blk_s m c t
  have hc := coord_at t
  blk_simp
  rw [after0_3]; frame_out
  generalize ((View.whole main_v31).slice (win0_3.rect t)).emb y = z at hy0 hy1 ⊢
  generalize m ((c : Thread nD τ).loc main_arg0) = X at q0 ⊢
  generalize m ((c : Thread nD τ).loc main_arg1) = W at q1 ⊢
  generalize m ((c : Thread nD τ).loc main_arg2) = S at q2 ⊢
  generalize iblk m c 0 t = X0 at q0 ⊢
  generalize iblk m c 1 t = X1 at q1 ⊢
  generalize iblk m c 2 t = X2 at q2 ⊢
  rw [hc]
  have p := (pay1_at ⟨t.val % 2, by omega⟩ X0 X1 X2 (y 0) (y 1)).trans
    (point_of ⟨t.val / 2, by omega⟩ ⟨t.val % 2, by omega⟩ X0 X1 X2 X W S q0 q1 q2 (y 0) (y 1))
  have b0 : (y 0).val < 4096 := (y 0).isLt
  have b1 : (y 1).val < 128 := (y 1).isLt
  have hyy : y = (ix2 (y 0) (y 1) : S4096x128.Idx) := eq_ix2 (n0 := 4096) (n1 := 128) y
  rw [hyy]
  refine p.trans ?_
  unfold poolOf
  congr 1 <;> refine Fin.ext ?_
  · show t.val / 2 = (z 0).val / 4096
    omega
  · show (y 0).val = (z 0).val % 4096
    omega
  · show 2 * (t.val % 2) + (y 1).val / 64 = (z 1).val / 64
    omega
  · show (y 1).val % 64 = (z 1).val % 64
    omega

end Cert.Kernel4Ideal.Pool

end
-- ==== Proof.PoolRef.lean ====
/- The pooling reference's array is the pooling mixer. -/
module

public import proofs.«01_k».proof.Proof.Gen.Reference4Ideal.Run
public import proofs.«01_k».proof.Proof.PoolBase

@[expose] public section

set_option maxRecDepth 16384

noncomputable section

open Idealize.ShloMosaic Idealize.ShloMosaic.TcCoe Idealize.SL.Sem

namespace Cert.Reference4Ideal.Pool

open Cert.Reference4Ideal Cert.Reference4Ideal.Gen Cert.Pooling

variable (V0 : Valuation τ sig (Elt Ideal))

/-- The reference's padded array at one place. -/
theorem pad_at (X : FVec Ideal S16384x256 .f32) (hX : V0 (Proc.devRef .tc main_arg0) = X) (b : Fin 4) (n : Fin 4112) (l : Fin 256) :
    (Value.res_main_v1 V0 : FVec Ideal S4x4112x256 .f32) (ix3 b n l) = padded (fun a => X (ix2 ⟨b.val * 4096 + a.val, by omega⟩ l)) n.val := by
  unfold Value.res_main_v1 Value.res_main_v0
  rw [hX]
  by_cases h : 8 ≤ n.val ∧ n.val < 4104
  · unfold padded
    rw [dif_pos h]
    refine (pad_apply_of_inside _ _ _ _ _ _ _ _ (ix3 b ⟨n.val - 8, by omega⟩ l : S4x4096x256.Idx) ?_).trans ?_
    · intro a
      match a with
      | ⟨0, _⟩ => show b.val = 0 + b.val * (0 + 1); omega
      | ⟨1, _⟩ => show n.val = 8 + (n.val - 8) * (0 + 1); omega
      | ⟨2, _⟩ => show l.val = 0 + l.val * (0 + 1); omega
    · generalize (⟨n.val - 8, by omega⟩ : Fin 4096) = k
      pointwise
  · unfold padded
    rw [dif_neg h]
    refine (pad_apply_of_not_inside _ _ _ _ _ _ _ _ (1 : Fin 3) ?_).trans ?_
    · rintro ⟨h1, _, h3⟩
      have h1' : 8 ≤ n.val := h1
      have h3' : (n.val - 8) / (0 + 1) < 4096 := h3
      omega
    · pointwise
      show (((0#32).toInt : ℝ) : EReal) = 0
      simp

/-- Four arrays of 64 features side by side. -/
theorem pick (A B C D : FVec Ideal S4x4096x64 .f32) (b : Fin 4) (t : Fin 4096) (g : Fin 4) (e : Fin 64) :
    concatenate S4x4096x256 2 [⟨S4x4096x64, A⟩, ⟨S4x4096x64, B⟩, ⟨S4x4096x64, C⟩, ⟨S4x4096x64, D⟩] concatenates_S4x4096x64_S4x4096x64_S4x4096x64_S4x4096x64_S4x4096x256_d2
      (ix3 b t ⟨g.val * 64 + e.val, by omega⟩) = (![A, B, C, D] g) (ix3 b t e) := by
  fin_cases g
  · pointwise
  · pointwise
  · pointwise
    rw [dif_neg (by omega), dif_neg (by omega), dif_pos (by omega)]
    exact congrArg (fun k => C (ix3 b t k)) (Fin.ext (by show 128 + e.val - 64 - 64 = e.val; omega))
  · pointwise
    rw [dif_neg (by omega), dif_neg (by omega), dif_neg (by omega)]
    exact congrArg (fun k => D (ix3 b t k)) (Fin.ext (by show 192 + e.val - 64 - 64 - 64 = e.val; omega))

/-- The first window term by term. -/
theorem sum0 (f : Fin 4096 → EReal) (t : ℕ) : padded f (7 + t) + padded f (8 + t) = winSum f 0 t := by
  change _ = ∑ d ∈ Finset.range 2, padded f (t + (7 + d))
  simp only [Finset.sum_range_succ, Finset.sum_range_zero, zero_add, Nat.add_comm t, Nat.reduceAdd, Nat.add_zero]
/-- The second window term by term. -/
theorem sum1 (f : Fin 4096 → EReal) (t : ℕ) : padded f (6 + t) + padded f (7 + t) + padded f (8 + t) + padded f (9 + t) = winSum f 1 t := by
  change _ = ∑ d ∈ Finset.range 4, padded f (t + (6 + d))
  simp only [Finset.sum_range_succ, Finset.sum_range_zero, zero_add, Nat.add_comm t, Nat.reduceAdd, Nat.add_zero]
/-- The third window term by term. -/
theorem sum2 (f : Fin 4096 → EReal) (t : ℕ) : padded f (4 + t) + padded f (5 + t) + padded f (6 + t) + padded f (7 + t) + padded f (8 + t) + padded f (9 + t)
    + padded f (10 + t) + padded f (11 + t) = winSum f 2 t := by
  change _ = ∑ d ∈ Finset.range 8, padded f (t + (4 + d))
  simp only [Finset.sum_range_succ, Finset.sum_range_zero, zero_add, Nat.add_comm t, Nat.reduceAdd, Nat.add_zero]
/-- The fourth window term by term. -/
theorem sum3 (f : Fin 4096 → EReal) (t : ℕ) : padded f t + padded f (1 + t) + padded f (2 + t) + padded f (3 + t) + padded f (4 + t) + padded f (5 + t)
    + padded f (6 + t) + padded f (7 + t) + padded f (8 + t) + padded f (9 + t) + padded f (10 + t) + padded f (11 + t) + padded f (12 + t) + padded f (13 + t)
    + padded f (14 + t) + padded f (15 + t) = winSum f 3 t := by
  change _ = ∑ d ∈ Finset.range 16, padded f (t + (0 + d))
  simp only [Finset.sum_range_succ, Finset.sum_range_zero, zero_add, Nat.add_comm t, Nat.reduceAdd, Nat.add_zero]

/-- The reference before its scale, at one place. -/
theorem v131_at (X : FVec Ideal S16384x256 .f32) (hX : V0 (Proc.devRef .tc main_arg0) = X) (W : FVec Ideal S4x64x64 .f32) (hW : V0 (Proc.devRef .tc main_arg1) = W)
    (b : Fin 4) (t : Fin 4096) (g : Fin 4) (e : Fin 64) :
    (Value.res_main_v131 V0 : FVec Ideal S4x4096x256 .f32) (ix3 b t ⟨g.val * 64 + e.val, by omega⟩)
      = ∑ d : Fin 64, mixAt (fun a => X (ix2 ⟨b.val * 4096 + a.val, by omega⟩ ⟨g.val * 64 + d.val, by omega⟩)) g t * W (ix3 g d e) := by
  have hp := pad_at V0 X hX
  have hx : ∀ l : Fin 256, (Value.res_main_v0 V0 : FVec Ideal S4x4096x256 .f32) (ix3 b t l) = X (ix2 ⟨b.val * 4096 + t.val, by omega⟩ l) := fun l => by
    unfold Value.res_main_v0
    rw [hX]
    pointwise
  unfold Value.res_main_v131 Value.res_main_v2
  rw [hW]
  generalize Value.res_main_v1 V0 = P at hp ⊢
  generalize Value.res_main_v0 V0 = Y at hx ⊢
  refine (pick _ _ _ _ b t g e).trans ?_
  fin_cases g
  · show Host.dotGeneral _ _ _ _ _ = _
    pointwise
    refine Finset.sum_congr rfl fun x _ => congrArg (· * W (ix3 0 x e)) ?_
    refine congrArg₂ (· - ·) (congrArg₂ Ideal.div ?_ rfl) (hx _)
    simp only [hp]
    exact sum0 _ _
  · show Host.dotGeneral _ _ _ _ _ = _
    pointwise
    refine Finset.sum_congr rfl fun x _ => congrArg (· * W (ix3 1 x e)) ?_
    refine congrArg₂ (· - ·) (congrArg₂ Ideal.div ?_ rfl) (hx _)
    simp only [hp]
    exact sum1 _ _
  · show Host.dotGeneral _ _ _ _ _ = _
    pointwise
    refine Finset.sum_congr rfl fun x _ => congrArg (· * W (ix3 2 x e)) ?_
    refine congrArg₂ (· - ·) (congrArg₂ Ideal.div ?_ rfl) (hx _)
    simp only [hp]
    exact sum2 _ _
  · show Host.dotGeneral _ _ _ _ _ = _
    pointwise
    refine Finset.sum_congr rfl fun x _ => congrArg (· * W (ix3 3 x e)) ?_
    refine congrArg₂ (· - ·) (congrArg₂ Ideal.div ?_ rfl) (hx _)
    simp only [hp]
    exact sum3 _ _

/-- The scaled array with the sequences end to end. -/
theorem scaled_at (R : FVec Ideal S4x4096x256 .f32) (S : FVec Ideal S256 .f32) (r : Fin 16384) (l : Fin 256) :
    shapeCast S16384x256 (mulf R (broadcastInDim S4x4096x256 ![0, 1, 2] bcast_S1x1x256_S4x4096x256_0_1_2 (broadcastInDim S1x1x256 ![2] bcast_S256_S1x1x256_2 S)))
      shapeCasts_S4x4096x256_S16384x256 (ix2 r l) = R (ix3 ⟨r.val / 4096, by omega⟩ ⟨r.val % 4096, by omega⟩ l) * S (ix1 l) := by
  pointwise

/-- The reference's result. -/
theorem result_eq (X : FVec Ideal S16384x256 .f32) (hX : V0 (Proc.devRef .tc main_arg0) = X) (W : FVec Ideal S4x64x64 .f32) (hW : V0 (Proc.devRef .tc main_arg1) = W)
    (S : FVec Ideal S256 .f32) :
    shapeCast S16384x256 (mulf (Value.res_main_v131 V0 : FVec Ideal S4x4096x256 .f32)
      (broadcastInDim S4x4096x256 ![0, 1, 2] bcast_S1x1x256_S4x4096x256_0_1_2 (broadcastInDim S1x1x256 ![2] bcast_S256_S1x1x256_2 S))) shapeCasts_S4x4096x256_S16384x256
      = poolOf X W S := by
  have hv := v131_at V0 X hX W hW
  generalize (Value.res_main_v131 V0 : FVec Ideal S4x4096x256 .f32) = R at hv ⊢
  funext y
  rw [eq_ix2 y]
  have b0 : (y 0).val < 16384 := (y 0).isLt
  have b1 : (y 1).val < 256 := (y 1).isLt
  refine (scaled_at R S (y 0) (y 1)).trans ?_
  have hl : (y 1 : Fin 256) = ⟨(y 1).val / 64 * 64 + (y 1).val % 64, by omega⟩ :=
    Fin.ext (by show (y 1).val = (y 1).val / 64 * 64 + (y 1).val % 64; omega)
  have := hv ⟨(y 0).val / 4096, by omega⟩ ⟨(y 0).val % 4096, by omega⟩ ⟨(y 1).val / 64, by omega⟩ ⟨(y 1).val % 64, by omega⟩
  unfold poolOf poolAt
  exact congrArg₂ (· * ·) ((congrArg (fun k => R (ix3 _ _ k)) hl).trans this) (congrArg (fun k => S (ix1 k)) hl)

end Cert.Reference4Ideal.Pool

end
-- ==== Proof.PoolClaim.lean ====
/- The pooling programs: their frames, and the equation of the kernel with its reference. -/
module

public import proofs.«01_k».proof.Defs
public import proofs.«01_k».proof.Proof.Gen.Kernel4
public import proofs.«01_k».proof.Proof.Gen.Kernel4.Frame
public import proofs.«01_k».proof.Proof.Gen.Reference4Ideal
public import proofs.«01_k».proof.Proof.Gen.Reference4Ideal.Run
public import proofs.«01_k».proof.Proof.Pool
public import proofs.«01_k».proof.Proof.PoolRef
public import Idealize.ShloMosaic.Lib.Claim

@[expose] public section

set_option maxRecDepth 16384

noncomputable section

open Idealize.ShloMosaic Idealize.ShloMosaic.TcCoe Idealize.SL.Sem

namespace Cert.Pooling

/-- The reference runs, leaves its arguments alone and ends with every counter at zero. -/
theorem reference_frame : Cert.quiescent_Reference4Ideal := by
  intro m g _
  hlo_run
  · exact fun _ => by simp
  · funext i
    obtain ⟨_, s | s⟩ := i <;> exact Fin.elim0 s

/-- The kernel's array is the reference's, for equal arguments. -/
theorem kernel_eq_reference : Cert.algebraic_Kernel4Ideal_Reference4Ideal := by
  pair_intro
  · run_from Cert.Kernel4Ideal.Gen.run_main m g
  · run_from Cert.Reference4Ideal.Value.run m' g'
    refine (Cert.Reference4Ideal.Pool.result_eq _ _ rfl _ rfl _).trans ?_
    simp only [hagree c]
    exact (Cert.Kernel4Ideal.Pool.pool_final m c).symm

end Cert.Pooling

end
-- ==== Proof.RetSpec.lean ====
/- The decayed sums of the retention over real numbers: the running state, and how it joins a block's own part. -/
module

public import Idealize.ShloMosaic.Lib.Claim
public import Idealize.ShloMosaic.Lib.Pointwise
public import Idealize.ShloMosaic.Lib.KernelVsHost

@[expose] public section

noncomputable section

open Idealize.ShloMosaic

namespace Cert.Ret

/-- The first `n` tokens' keys times values, each decayed by its distance to token `n - 1`. -/
def stR (g : ℝ) (k : ℕ → Fin 64 → ℝ) (v : ℕ → ℝ) (n : ℕ) (d : Fin 64) : ℝ :=
  ∑ s ∈ Finset.range n, k s d * Real.exp (g * ((n : ℝ) - 1 - s)) * v s

/-- Token `t`'s result: the values of the tokens up to `t`, weighted by score and decay. -/
def outR (g : ℝ) (q : Fin 64 → ℝ) (k : ℕ → Fin 64 → ℝ) (v : ℕ → ℝ) (t : ℕ) : ℝ :=
  ∑ s ∈ Finset.range 4096, (if s ≤ t then (∑ d, q d * k s d) * Real.exp (g * ((t : ℝ) - s)) * v s else 0)

/-- Before any token the state is zero. -/
theorem stR_zero (g : ℝ) (k : ℕ → Fin 64 → ℝ) (v : ℕ → ℝ) (d : Fin 64) : stR g k v 0 d = 0 := by
  simp [stR]

/-- A block of 256 tokens decays the state and adds the block's own decayed products. -/
theorem stR_block (g : ℝ) (k : ℕ → Fin 64 → ℝ) (v : ℕ → ℝ) (n : ℕ) (d : Fin 64) :
    stR g k v (n + 256) d = stR g k v n d * Real.exp (g * 256)
      + ∑ c : Fin 256, k (n + c.val) d * Real.exp (g * (255 - (c.val : ℝ))) * v (n + c.val) := by
  unfold stR
  rw [Finset.sum_range_add, Finset.sum_mul, ← Finset.sum_range (fun c => k (n + c) d * Real.exp (g * (255 - (c : ℝ))) * v (n + c))]
  refine congrArg₂ (· + ·) (Finset.sum_congr rfl fun s _ => ?_) (Finset.sum_congr rfl fun c _ => ?_)
  · have e : g * (((n + 256 : ℕ) : ℝ) - 1 - s) = g * ((n : ℝ) - 1 - s) + g * 256 := by push_cast; ring
    rw [e, Real.exp_add]; ring
  · have e : g * (((n + 256 : ℕ) : ℝ) - 1 - ((n + c : ℕ) : ℝ)) = g * (255 - (c : ℝ)) := by push_cast; ring
    rw [e]

/-- The block's own part and the state's part make the whole sum. -/
theorem outR_block (g : ℝ) (q : Fin 64 → ℝ) (k : ℕ → Fin 64 → ℝ) (v : ℕ → ℝ) (n : ℕ) (hn : n + 256 ≤ 4096) (p : Fin 256) :
    (∑ c : Fin 256, (if c.val ≤ p.val then (∑ d, q d * k (n + c.val) d) * Real.exp (g * ((p.val : ℝ) - c.val)) * v (n + c.val) else 0))
      + ∑ d, q d * Real.exp (g * ((p.val : ℝ) + 1)) * stR g k v n d = outR g q k v (n + p.val) := by
  have hp := p.isLt
  obtain ⟨r, hr⟩ := Nat.exists_eq_add_of_le hn
  unfold outR
  rw [hr, Finset.sum_range_add, Finset.sum_range_add, add_comm,
    ← Finset.sum_range (fun c => if c ≤ p.val then (∑ d, q d * k (n + c) d) * Real.exp (g * ((p.val : ℝ) - c)) * v (n + c) else 0)]
  have z : ∑ x ∈ Finset.range r, (if n + 256 + x ≤ n + p.val then (∑ d, q d * k (n + 256 + x) d)
      * Real.exp (g * (((n + p.val : ℕ) : ℝ) - ((n + 256 + x : ℕ) : ℝ))) * v (n + 256 + x) else 0) = 0 :=
    Finset.sum_eq_zero fun x _ => if_neg (by omega)
  rw [z, add_zero]
  refine congrArg₂ (· + ·) ?_ (Finset.sum_congr rfl fun c _ => ?_)
  · simp only [stR, Finset.mul_sum]
    rw [Finset.sum_comm]
    refine Finset.sum_congr rfl fun s hs => ?_
    have hs' := Finset.mem_range.1 hs
    rw [if_pos (by omega), Finset.sum_mul, Finset.sum_mul]
    refine Finset.sum_congr rfl fun d _ => ?_
    have e : g * (((n + p.val : ℕ) : ℝ) - s) = g * ((p.val : ℝ) + 1) + g * ((n : ℝ) - 1 - s) := by push_cast; ring
    rw [e, Real.exp_add]; ring
  · by_cases h : c ≤ p.val
    · rw [if_pos h, if_pos (by omega)]
      have e : g * (((n + p.val : ℕ) : ℝ) - ((n + c : ℕ) : ℝ)) = g * ((p.val : ℝ) - c) := by push_cast; ring
      rw [e]
    · rw [if_neg h, if_neg (by omega)]

/-- The sum of reals read as extended reals is the extended reals' sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A position below 4096 as a 32-bit number, read as a float. -/
theorem pos_coe (x : ℕ) (h : x < 4096) : FloatOps.sitofp (F := Ideal) .f32 (BitVec.ofNat 32 x) = ((x : ℝ) : EReal) := by
  show (((BitVec.ofNat 32 x).toInt : ℝ) : EReal) = _
  have e : (BitVec.ofNat 32 x).toInt = (x : ℤ) := by
    rw [BitVec.toInt_eq_toNat_of_lt (by rw [BitVec.toNat_ofNat]; omega), BitVec.toNat_ofNat]; omega
  rw [e]; simp

/-- The difference of two positions, the second not after the first. -/
theorem sub_nat (p x : Fin 256) (h : x.val ≤ p.val) :
    IntOp.subi (BitVec.ofNat 32 p.val) (BitVec.ofNat 32 x.val) = BitVec.ofNat 32 (p.val - x.val) := by
  show BitVec.ofNat 32 p.val - BitVec.ofNat 32 x.val = _
  have := p.isLt; have := x.isLt
  apply BitVec.eq_of_toNat_eq
  simp only [BitVec.toNat_sub, BitVec.toNat_ofNat]; omega

/-- The test that one position is not after another. -/
theorem le_test (p x : Fin 256) :
    IntOp.cmpi .sge (IntOp.subi (BitVec.ofNat 32 p.val) (BitVec.ofNat 32 x.val)) 0#32 = if x.val ≤ p.val then 1#1 else 0#1 := by
  have hp := p.isLt
  have hx := x.isLt
  by_cases h : x.val ≤ p.val
  · rw [if_pos h, sub_nat p x h]
    exact (by decide +kernel : ∀ k : Fin 256, IntOp.cmpi .sge (BitVec.ofNat 32 k.val) 0#32 = 1#1) ⟨p.val - x.val, by omega⟩
  · rw [if_neg h]
    have e : IntOp.subi (BitVec.ofNat 32 p.val) (BitVec.ofNat 32 x.val) = BitVec.ofNat 32 (4294967040 + (256 - (x.val - p.val))) := by
      show BitVec.ofNat 32 p.val - BitVec.ofNat 32 x.val = _
      apply BitVec.eq_of_toNat_eq
      simp only [BitVec.toNat_sub, BitVec.toNat_ofNat]; omega
    rw [e]
    exact (by decide +kernel : ∀ k : Fin 256, IntOp.cmpi .sge (BitVec.ofNat 32 (4294967040 + k.val)) 0#32 = 0#1) ⟨256 - (x.val - p.val), by omega⟩

/-- The word of 256. -/
theorem c256 : Ideal.ofBits .f32 0x43800000#32 = ((256 : ℝ) : EReal) := by
  simp [Ideal.ofBits, Ideal.ieee, -EReal.coe_mul]; norm_num
/-- The word of 255. -/
theorem c255 : Ideal.ofBits .f32 0x437F0000#32 = ((255 : ℝ) : EReal) := by
  simp [Ideal.ofBits, Ideal.ieee, -EReal.coe_mul]; norm_num
/-- The word of one eighth. -/
theorem c8 : Ideal.ofBits .f32 0x3E000000#32 = ((1 / 8 : ℝ) : EReal) := by
  simp [Ideal.ofBits, Ideal.ieee, -EReal.coe_mul]; norm_num

end Cert.Ret

end
-- ==== Proof.RetK.lean ====
/- The retention kernel's payloads over finite blocks: what each head stores into the state and into the result. -/
module

public import proofs.«01_k».proof.Proof.Gen.Kernel5Ideal.Value
public import proofs.«01_k».proof.Proof.RetSpec
public import Idealize.ShloMosaic.Lib.Claim
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Ret

namespace Cert.Kernel5Ideal.Ret

open Cert.Kernel5Ideal Cert.Kernel5Ideal.Gen

/-- Real entries read as extended reals. -/
def co {S : Shape} (f : S.Idx → ℝ) : S.Idx → EReal := fun i => (f i : EReal)

/-- An array of reals read at an index. -/
theorem co_apply {S : Shape} (f : S.Idx → ℝ) (i : S.Idx) : co f i = (f i : EReal) := rfl

/-- One entry of the state after a block. -/
def stepR (g : ℝ) (k v : Fin 256 → ℝ) (s : ℝ) : ℝ :=
  s * Real.exp (g * 256) + ∑ c : Fin 256, k c * Real.exp (g * (255 - (c.val : ℝ))) * v c

/-- One entry of the result from the block and the state before it. -/
def resR (g : ℝ) (q : Fin 64 → ℝ) (k : Fin 256 → Fin 64 → ℝ) (v : Fin 256 → ℝ) (s : Fin 64 → ℝ) (p : Fin 256) : ℝ :=
  (∑ c : Fin 256, (if c.val ≤ p.val then (∑ d, q d * k c d) * Real.exp (g * ((p.val : ℝ) - c.val)) * v c else 0))
    + ∑ d, q d * Real.exp (g * ((p.val : ℝ) + 1)) * s d

/-- The state's step, from extended reals to reals. -/
theorem step_coe (g : ℝ) (k v : Fin 256 → ℝ) (s : ℝ) :
    (s : EReal) * Ideal.exp ((g : EReal) * Ideal.ofBits FTy.f32 1132462080#32)
      + ∑ x : Fin 256, (k x : EReal) * Ideal.exp ((g : EReal) * (Ideal.ofBits FTy.f32 1132396544#32
          - FloatOps.sitofp (F := Ideal) FTy.f32 (BitVec.ofNat 32 x.val))) * (v x : EReal)
      = ((stepR g k v s : ℝ) : EReal) := by
  rw [stepR, EReal.coe_add, coe_sum, EReal.coe_mul]
  refine congrArg₂ (· + ·) ?_ (Finset.sum_congr rfl fun x _ => ?_)
  · rw [c256, ← EReal.coe_mul, Ideal.exp_coe]
  · rw [c255, pos_coe x.val (by omega), ← EReal.coe_sub, ← EReal.coe_mul, Ideal.exp_coe, ← EReal.coe_mul, ← EReal.coe_mul]

/-- The result's entry, from extended reals to reals. -/
theorem res_coe (g : ℝ) (q : Fin 64 → ℝ) (k : Fin 256 → Fin 64 → ℝ) (v : Fin 256 → ℝ) (s : Fin 64 → ℝ) (p : Fin 256) :
    (∑ x : Fin 256, Scalar.select (IntOp.cmpi CmpIPredicate.sge (IntOp.subi (BitVec.ofNat 32 p.val) (BitVec.ofNat 32 x.val)) 0#32)
          ((∑ d : Fin 64, (q d : EReal) * (k x d : EReal)) * Ideal.exp ((g : EReal) * FloatOps.sitofp (F := Ideal) FTy.f32
            (Scalar.select (IntOp.cmpi CmpIPredicate.sge (IntOp.subi (BitVec.ofNat 32 p.val) (BitVec.ofNat 32 x.val)) 0#32)
              (IntOp.subi (BitVec.ofNat 32 p.val) (BitVec.ofNat 32 x.val)) 0#32)) * (v x : EReal)) 0)
      + ∑ d : Fin 64, (q d : EReal) * Ideal.exp ((g : EReal) * (FloatOps.sitofp (F := Ideal) FTy.f32 (BitVec.ofNat 32 p.val) + 1)) * (s d : EReal)
      = ((resR g q k v s p : ℝ) : EReal) := by
  rw [resR, EReal.coe_add, coe_sum, coe_sum]
  refine congrArg₂ (· + ·) (Finset.sum_congr rfl fun x _ => ?_) (Finset.sum_congr rfl fun d _ => ?_)
  · rw [le_test]
    by_cases h : x.val ≤ p.val
    · rw [if_pos h, if_pos h, sub_nat p x h]
      show (∑ d : Fin 64, (q d : EReal) * (k x d : EReal)) * Ideal.exp ((g : EReal) * FloatOps.sitofp (F := Ideal) FTy.f32 (BitVec.ofNat 32 (p.val - x.val))) * (v x : EReal) = _
      rw [pos_coe _ (by omega), Nat.cast_sub h, ← EReal.coe_mul, Ideal.exp_coe, EReal.coe_mul, EReal.coe_mul, coe_sum]
      simp only [EReal.coe_mul]
    · rw [if_neg h, if_neg h]; rfl
  · have e1 : (1 : EReal) = ((1 : ℝ) : EReal) := by norm_cast
    rw [pos_coe p.val (by omega), e1, ← EReal.coe_add, ← EReal.coe_mul, Ideal.exp_coe, ← EReal.coe_mul, ← EReal.coe_mul]

/-- What head 0 stores into the state. -/
theorem state0 (g : ℝ) (k : S256x256.Idx → ℝ) (v : S256x512.Idx → ℝ) (st : S1x64x128.Idx → ℝ)
    (C S : FVec Ideal S256x256 .f32) (X : FVec Ideal S256x256 .f32)
    (hk : k0_pay11 (F := Ideal) k0_pay5 (k0_pay6 C) (k0_pay7 S) X (k0_pay9 X) (k0_pay10 X) = co k) (d : Fin 64) (e : Fin 128) :
    k0_pay25 (F := Ideal) (g : EReal) (k0_pay20 (co v)) (k0_pay23 k0_pay5 (k0_pay6 C) (k0_pay7 S) X (k0_pay9 X) (k0_pay10 X) (g : EReal)) (co st) (ix3 (n0 := 1) (n1 := 64) (n2 := 128) 0 d e)
      = ((stepR g (fun c => k (ix2 c ⟨0 + d.val, by omega⟩)) (fun c => v (ix2 c ⟨0 + e.val, by omega⟩)) (st (ix3 0 d e)) : ℝ) : EReal) := by
  unfold k0_pay23 k0_pay19; rw [hk]
  rw [← step_coe]
  pointwise [k0_pay25, k0_pay20, k0_pay23, k0_pay24, k0_pay19, k0_pay26, k0_pay21, k0_pay22, k0_pay18, k0_pay12, k0_pay13, k0_pay14, k0_pay15, k0_pay16, k0_pay17, co_apply]

/-- What head 0 stores into the result. -/
theorem out0 (g : ℝ) (q k : S256x256.Idx → ℝ) (v : S256x512.Idx → ℝ) (st : S1x64x128.Idx → ℝ)
    (C S : FVec Ideal S256x256 .f32) (X : FVec Ideal S256x256 .f32)
    (hk : k0_pay11 (F := Ideal) k0_pay5 (k0_pay6 C) (k0_pay7 S) X (k0_pay9 X) (k0_pay10 X) = co k) (p : Fin 256) (e : Fin 128) :
    k0_pay26 (F := Ideal) (k0_pay21 k0_pay5 (k0_pay6 C) (k0_pay7 S) (co q) X (k0_pay9 X) (k0_pay10 X) (co v) (g : EReal)) (k0_pay22 (co q) (g : EReal)) (co st) (ix2 (n0 := 256) (n1 := 128) p e)
      = ((resR g (fun d => q (ix2 p ⟨0 + d.val, by omega⟩)) (fun c d => k (ix2 c ⟨0 + d.val, by omega⟩))
          (fun c => v (ix2 c ⟨0 + e.val, by omega⟩)) (fun d => st (ix3 0 d e)) p : ℝ) : EReal) := by
  unfold k0_pay21 k0_pay19; rw [hk]
  rw [← res_coe]
  pointwise [k0_pay25, k0_pay20, k0_pay23, k0_pay24, k0_pay19, k0_pay26, k0_pay21, k0_pay22, k0_pay18, k0_pay12, k0_pay13, k0_pay14, k0_pay15, k0_pay16, k0_pay17, co_apply]

/-- What head 1 stores into the state. -/
theorem state1 (g : ℝ) (k : S256x256.Idx → ℝ) (v : S256x512.Idx → ℝ) (st : S1x64x128.Idx → ℝ)
    (d : Fin 64) (e : Fin 128) :
    k0_pay34 (F := Ideal) (g : EReal) (k0_pay29 (co v)) (k0_pay32 (co k) k0_pay16 (g : EReal)) (co st) (ix3 (n0 := 1) (n1 := 64) (n2 := 128) 0 d e)
      = ((stepR g (fun c => k (ix2 c ⟨64 + d.val, by omega⟩)) (fun c => v (ix2 c ⟨128 + e.val, by omega⟩)) (st (ix3 0 d e)) : ℝ) : EReal) := by
  rw [← step_coe]
  pointwise [k0_pay34, k0_pay29, k0_pay32, k0_pay33, k0_pay35, k0_pay30, k0_pay31, k0_pay27, k0_pay28, k0_pay12, k0_pay13, k0_pay14, k0_pay15, k0_pay16, k0_pay17, co_apply]

/-- What head 1 stores into the result. -/
theorem out1 (g : ℝ) (q k : S256x256.Idx → ℝ) (v : S256x512.Idx → ℝ) (st : S1x64x128.Idx → ℝ)
    (p : Fin 256) (e : Fin 128) :
    k0_pay35 (F := Ideal) (k0_pay30 (co q) (co k) (co v) k0_pay14 k0_pay17 (g : EReal)) (k0_pay31 (co q) k0_pay15 (g : EReal)) (co st) (ix2 (n0 := 256) (n1 := 128) p e)
      = ((resR g (fun d => q (ix2 p ⟨64 + d.val, by omega⟩)) (fun c d => k (ix2 c ⟨64 + d.val, by omega⟩))
          (fun c => v (ix2 c ⟨128 + e.val, by omega⟩)) (fun d => st (ix3 0 d e)) p : ℝ) : EReal) := by
  rw [← res_coe]
  pointwise [k0_pay34, k0_pay29, k0_pay32, k0_pay33, k0_pay35, k0_pay30, k0_pay31, k0_pay27, k0_pay28, k0_pay12, k0_pay13, k0_pay14, k0_pay15, k0_pay16, k0_pay17, co_apply]

/-- What head 2 stores into the state. -/
theorem state2 (g : ℝ) (k : S256x256.Idx → ℝ) (v : S256x512.Idx → ℝ) (st : S1x64x128.Idx → ℝ)
    (d : Fin 64) (e : Fin 128) :
    k0_pay43 (F := Ideal) (g : EReal) (k0_pay37 (co k)) (k0_pay38 (co v)) (k0_pay41 k0_pay16 (g : EReal)) (co st) (ix3 (n0 := 1) (n1 := 64) (n2 := 128) 0 d e)
      = ((stepR g (fun c => k (ix2 c ⟨128 + d.val, by omega⟩)) (fun c => v (ix2 c ⟨256 + e.val, by omega⟩)) (st (ix3 0 d e)) : ℝ) : EReal) := by
  rw [← step_coe]
  pointwise [k0_pay43, k0_pay37, k0_pay38, k0_pay41, k0_pay42, k0_pay44, k0_pay39, k0_pay40, k0_pay36, k0_pay12, k0_pay13, k0_pay14, k0_pay15, k0_pay16, k0_pay17, co_apply]

/-- What head 2 stores into the result. -/
theorem out2 (g : ℝ) (q k : S256x256.Idx → ℝ) (v : S256x512.Idx → ℝ) (st : S1x64x128.Idx → ℝ)
    (p : Fin 256) (e : Fin 128) :
    k0_pay44 (F := Ideal) (k0_pay39 (co q) (co k) (co v) k0_pay14 k0_pay17 (g : EReal)) (k0_pay40 (co q) k0_pay15 (g : EReal)) (co st) (ix2 (n0 := 256) (n1 := 128) p e)
      = ((resR g (fun d => q (ix2 p ⟨128 + d.val, by omega⟩)) (fun c d => k (ix2 c ⟨128 + d.val, by omega⟩))
          (fun c => v (ix2 c ⟨256 + e.val, by omega⟩)) (fun d => st (ix3 0 d e)) p : ℝ) : EReal) := by
  rw [← res_coe]
  pointwise [k0_pay43, k0_pay37, k0_pay38, k0_pay41, k0_pay42, k0_pay44, k0_pay39, k0_pay40, k0_pay36, k0_pay12, k0_pay13, k0_pay14, k0_pay15, k0_pay16, k0_pay17, co_apply]

/-- What head 3 stores into the state. -/
theorem state3 (g : ℝ) (k : S256x256.Idx → ℝ) (v : S256x512.Idx → ℝ) (st : S1x64x128.Idx → ℝ)
    (d : Fin 64) (e : Fin 128) :
    k0_pay2 (F := Ideal) k0_pay16 (g : EReal) (k0_pay46 (co k)) (k0_pay47 (co v)) (k0_pay50 (g : EReal)) (co st) (ix3 (n0 := 1) (n1 := 64) (n2 := 128) 0 d e)
      = ((stepR g (fun c => k (ix2 c ⟨192 + d.val, by omega⟩)) (fun c => v (ix2 c ⟨384 + e.val, by omega⟩)) (st (ix3 0 d e)) : ℝ) : EReal) := by
  rw [← step_coe]
  pointwise [k0_pay2, k0_pay46, k0_pay47, k0_pay50, k0_pay1, k0_pay3, k0_pay48, k0_pay49, k0_pay45, k0_pay12, k0_pay13, k0_pay14, k0_pay15, k0_pay16, k0_pay17, co_apply]

/-- What head 3 stores into the result. -/
theorem out3 (g : ℝ) (q k : S256x256.Idx → ℝ) (v : S256x512.Idx → ℝ) (st : S1x64x128.Idx → ℝ)
    (p : Fin 256) (e : Fin 128) :
    k0_pay3 (F := Ideal) (k0_pay48 (co q) (co k) (co v) k0_pay14 k0_pay17 (g : EReal)) (k0_pay49 (co q) k0_pay15 (g : EReal)) (co st) (ix2 (n0 := 256) (n1 := 128) p e)
      = ((resR g (fun d => q (ix2 p ⟨192 + d.val, by omega⟩)) (fun c d => k (ix2 c ⟨192 + d.val, by omega⟩))
          (fun c => v (ix2 c ⟨384 + e.val, by omega⟩)) (fun d => st (ix3 0 d e)) p : ℝ) : EReal) := by
  rw [← res_coe]
  pointwise [k0_pay2, k0_pay46, k0_pay47, k0_pay50, k0_pay1, k0_pay3, k0_pay48, k0_pay49, k0_pay45, k0_pay12, k0_pay13, k0_pay14, k0_pay15, k0_pay16, k0_pay17, co_apply]

end Cert.Kernel5Ideal.Ret

end
-- ==== Proof.RetRun.lean ====
/- The retention kernel's points over finite blocks: the state and the result after a point. -/
module

public import proofs.«01_k».proof.Proof.RetK
public import Idealize.ShloMosaic.Lib.Claim
public import Idealize.ShloMosaic.Lib.Pointwise
public import Idealize.ShloMosaic.Lib.KernelVsHost
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Ret

namespace Cert.Kernel5Ideal.Ret

open Cert.Kernel5Ideal Cert.Kernel5Ideal.Gen

/-- The lane 32 away within a head's 64 lanes. -/
def sw (w : Fin 256) : Fin 256 := if w.val % 64 < 32 then ⟨(w.val + 256 - 224) % 256, by omega⟩ else ⟨(w.val + 256 - 32) % 256, by omega⟩

/-- A block rotated by its cosines and signed sines. -/
def rotR (c s x : S256x256.Idx → ℝ) (i : S256x256.Idx) : ℝ := x i * c i + x (ix2 (n0 := 256) (n1 := 256) (i 0) (sw (i 1))) * s i

/-- The lanes of the lower half of a head. -/
theorem mask_at (p w : Fin 256) : k0_pay5 (ix2 (n0 := 256) (n1 := 256) p w) = if w.val % 64 < 32 then 1#1 else 0#1 := by
  pointwise [k0_pay5]
  revert w; decide +kernel

/-- The rotated queries of a block. -/
theorem rotQ (c s x : S256x256.Idx → ℝ) : k0_pay8 (F := Ideal) (co c) (co s) (co x) = co (rotR c s x) := by
  funext i
  rw [eq_ix2 (n0 := 256) (n1 := 256) i]
  generalize i 0 = p
  generalize i 1 = w
  change Fin 256 at p
  change Fin 256 at w
  have e : k0_pay8 (F := Ideal) (co c) (co s) (co x) (ix2 p w) = co x (ix2 p w) * co c (ix2 p w)
      + Scalar.select (k0_pay5 (ix2 (n0 := 256) (n1 := 256) p w)) (co x (ix2 p ⟨(w.val + 256 - 224) % 256, by omega⟩)) (co x (ix2 p ⟨(w.val + 256 - 32) % 256, by omega⟩)) * co s (ix2 p w) := by
    pointwise [k0_pay8, k0_pay6, k0_pay7]
  rw [e, mask_at, co_apply (rotR c s x), rotR, EReal.coe_add, EReal.coe_mul, EReal.coe_mul]
  refine congrArg₂ (· + ·) rfl (congrArg (· * _) ?_)
  show _ = ((x (ix2 p (sw w)) : ℝ) : EReal)
  unfold sw
  split <;> rfl

/-- The rotated and scaled keys of a block. -/
theorem rotK (c s x : S256x256.Idx → ℝ) :
    k0_pay11 (F := Ideal) k0_pay5 (k0_pay6 (co c)) (k0_pay7 (co s)) (co x) (k0_pay9 (co x)) (k0_pay10 (co x)) = co (fun i => rotR c s x i * (1 / 8)) := by
  funext i
  have e : k0_pay11 (F := Ideal) k0_pay5 (k0_pay6 (co c)) (k0_pay7 (co s)) (co x) (k0_pay9 (co x)) (k0_pay10 (co x)) i
      = k0_pay8 (F := Ideal) (co c) (co s) (co x) i * Ideal.ofBits FTy.f32 0x3E000000#32 := rfl
  rw [e, rotQ, c8, co_apply, co_apply, EReal.coe_mul]

/-- Heads other than the one stored read what was stored before. -/
theorem skip_head (o : ℕ) (inb : ∀ a, (![o, 0, 0] : Fin 3 → ℕ) a + (![1, 64, 128] : Fin 3 → ℕ) a ≤ S4x64x128.size a)
    (w : (Rect.unit (s := S4x64x128) ![o, 0, 0] ![1, 64, 128] inb).shape.Idx → EReal) (L : List (View.Piece (Elt Ideal) S4x64x128 .f32))
    (n : Fin 4) (d : Fin 64) (e : Fin 128) (h : n.val ≠ o) :
    View.canon (⟨Rect.unit (s := S4x64x128) ![o, 0, 0] ![1, 64, 128] inb, w⟩ :: L) (ix3 (n0 := 4) (n1 := 64) (n2 := 128) n d e)
      = View.canon L (ix3 (n0 := 4) (n1 := 64) (n2 := 128) n d e) := by
  refine View.canon_cons_of_not_mem _ _ fun hm => ?_
  have q : o ≤ n.val ∧ n.val < o + 1 := (Rect.mem_set_unit (inb := inb) (i := (ix3 n d e : S4x64x128.Idx))).1 hm 0
  omega

/-- Lanes of heads other than the one stored read what was stored before. -/
theorem skip_lane (k o : ℕ) (ho : o = 128 * k) (inb : ∀ a, (![0, o] : Fin 2 → ℕ) a + (![256, 128] : Fin 2 → ℕ) a ≤ S256x512.size a)
    (w : (Rect.unit (s := S256x512) ![0, o] ![256, 128] inb).shape.Idx → EReal) (L : List (View.Piece (Elt Ideal) S256x512 .f32))
    (n : Fin 4) (p : Fin 256) (e : Fin 128) (h : n.val ≠ k) :
    View.canon (⟨Rect.unit (s := S256x512) ![0, o] ![256, 128] inb, w⟩ :: L) (ix2 (n0 := 256) (n1 := 512) p ⟨128 * n.val + e.val, by omega⟩)
      = View.canon L (ix2 (n0 := 256) (n1 := 512) p ⟨128 * n.val + e.val, by omega⟩) := by
  refine View.canon_cons_of_not_mem _ _ fun hm => ?_
  have q : o ≤ 128 * n.val + e.val ∧ 128 * n.val + e.val < o + 128 :=
    (Rect.mem_set_unit (inb := inb) (i := (ix2 p ⟨128 * n.val + e.val, by omega⟩ : S256x512.Idx))).1 hm 1
  omega

/-- Lanes of the head stored read what was stored. -/
theorem hit_lane (o : ℕ) (inb : ∀ a, (![0, o] : Fin 2 → ℕ) a + (![256, 128] : Fin 2 → ℕ) a ≤ S256x512.size a)
    (w : (Rect.unit (s := S256x512) ![0, o] ![256, 128] inb).shape.Idx → EReal) (L : List (View.Piece (Elt Ideal) S256x512 .f32))
    (n : Fin 4) (p : Fin 256) (e : Fin 128) (h : o = 128 * n.val) :
    View.canon (⟨Rect.unit (s := S256x512) ![0, o] ![256, 128] inb, w⟩ :: L) (ix2 (n0 := 256) (n1 := 512) p ⟨128 * n.val + e.val, by omega⟩)
      = w (ix2 (n0 := 256) (n1 := 128) p e) := by
  have q : (ix2 (n0 := 256) (n1 := 512) p ⟨128 * n.val + e.val, by omega⟩ : S256x512.Idx)
      = (Rect.unit (s := S256x512) ![0, o] ![256, 128] inb).emb (ix2 (n0 := 256) (n1 := 128) p e) := by
    funext a
    refine Fin.ext ?_
    fin_cases a
    · show p.val = 0 + 1 * p.val; omega
    · show 128 * n.val + e.val = o + 1 * e.val; omega
  rw [q]
  exact View.canon_cons_emb _ w L _

/-- The head stored reads what was stored. -/
theorem hit_head (o : ℕ) (inb : ∀ a, (![o, 0, 0] : Fin 3 → ℕ) a + (![1, 64, 128] : Fin 3 → ℕ) a ≤ S4x64x128.size a)
    (w : (Rect.unit (s := S4x64x128) ![o, 0, 0] ![1, 64, 128] inb).shape.Idx → EReal) (L : List (View.Piece (Elt Ideal) S4x64x128 .f32))
    (h : Fin 4) (d : Fin 64) (e : Fin 128) (ho : h.val = o) :
    View.canon (⟨Rect.unit (s := S4x64x128) ![o, 0, 0] ![1, 64, 128] inb, w⟩ :: L) (ix3 (n0 := 4) (n1 := 64) (n2 := 128) h d e)
      = w (ix3 (n0 := 1) (n1 := 64) (n2 := 128) 0 d e) := by
  have q : (ix3 (n0 := 4) (n1 := 64) (n2 := 128) h d e : S4x64x128.Idx)
      = (Rect.unit (s := S4x64x128) ![o, 0, 0] ![1, 64, 128] inb).emb (ix3 (n0 := 1) (n1 := 64) (n2 := 128) 0 d e) := by
    funext a
    refine Fin.ext ?_
    fin_cases a
    · show h.val = o + 1 * 0; omega
    · show d.val = 0 + 1 * d.val; omega
    · show e.val = 0 + 1 * e.val; omega
  rw [q]
  exact View.canon_cons_emb _ w L _

/-- A head's log decay. -/
theorem ld_decay (g : S2x4.Idx → ℝ) (o : ℕ) (inb : ∀ a, (![0, o] : Fin 2 → ℕ) a + (![1, 1] : Fin 2 → ℕ) a ≤ S2x4.size a) (p) (n : Fin 4) (hn : n.val = o) :
    View.ld (Val := Elt Ideal) (e' := .f32) (co g) (Rect.unit (s := S2x4) ![0, o] ![1, 1] inb) (Shape.Idx.first p) = ((g (ix2 0 n) : ℝ) : EReal) := by
  show ((g _ : ℝ) : EReal) = _
  refine congrArg (fun i => ((g i : ℝ) : EReal)) (funext fun a => Fin.ext ?_)
  fin_cases a
  · rfl
  · show o + 1 * 0 = n.val; omega

/-- A head's part of the state. -/
theorem ld_state (st : S4x64x128.Idx → ℝ) (o : ℕ) (inb : ∀ a, (![o, 0, 0] : Fin 3 → ℕ) a + (![1, 64, 128] : Fin 3 → ℕ) a ≤ S4x64x128.size a)
    (n : Fin 4) (hn : n.val = o) :
    View.ld (Val := Elt Ideal) (e' := .f32) (co st) (Rect.unit (s := S4x64x128) ![o, 0, 0] ![1, 64, 128] inb)
      = co (S := S1x64x128) (fun i => st (ix3 (n0 := 4) (n1 := 64) (n2 := 128) n (i 1) (i 2))) := by
  funext i
  show ((st _ : ℝ) : EReal) = ((st _ : ℝ) : EReal)
  refine congrArg (fun i => ((st i : ℝ) : EReal)) (funext fun a => Fin.ext ?_)
  have h0 : (i 0).val < 1 := (i 0).isLt
  fin_cases a
  · show o + 1 * (i 0).val = n.val; omega
  · show 0 + 1 * (i 1).val = (i 1).val; omega
  · show 0 + 1 * (i 2).val = (i 2).val; omega

/-- A head's part of the state, where nothing but zero has been stored there. -/
theorem ld_zero (L : List (View.Piece (Elt Ideal) S4x64x128 .f32)) (o : ℕ)
    (inb : ∀ a, (![o, 0, 0] : Fin 3 → ℕ) a + (![1, 64, 128] : Fin 3 → ℕ) a ≤ S4x64x128.size a)
    (n : Fin 4) (hn : n.val = o) (h : ∀ d e, View.canon L (ix3 (n0 := 4) (n1 := 64) (n2 := 128) n d e) = (0 : EReal)) :
    (View.whole cc0_scratch0).readCov L (Rect.unit (s := S4x64x128) ![o, 0, 0] ![1, 64, 128] inb).toLoadRect
      = co (S := S1x64x128) (fun _ => 0) := by
  rw [View.readCov_eq_canon']
  funext i
  refine Eq.trans (congrArg (View.canon L) (funext fun a => Fin.ext ?_)) (h (i 1) (i 2))
  have h0 : (i 0).val < 1 := (i 0).isLt
  fin_cases a
  · show o + 1 * (i 0).val = n.val; omega
  · show 0 + 1 * (i 1).val = (i 1).val; omega
  · show 0 + 1 * (i 2).val = (i 2).val; omega

/-- After the zeros are stored everything is zero. -/
theorem all_zero (inb : ∀ a, (![0, 0, 0] : Fin 3 → ℕ) a + (![4, 64, 128] : Fin 3 → ℕ) a ≤ S4x64x128.size a)
    (L : List (View.Piece (Elt Ideal) S4x64x128 .f32)) (y : S4x64x128.Idx) :
    View.canon (⟨Rect.unit (s := S4x64x128) ![0, 0, 0] ![4, 64, 128] inb, k0_pay4 (F := Ideal)⟩ :: L) y = (0 : EReal) := by
  have e := View.canon_cons_unit_lit (S := S4x64x128) (off := ![0, 0, 0]) inb (k0_pay4 (F := Ideal)) L (by decide)
  refine (congrFun e y).trans ?_
  pointwise [k0_pay4]

variable (m : (ℓ : Loc nD τ sig) → Buf (Elt Ideal) ℓ)

/-- The state after a point from the state before it. -/
theorem state_next (c : Dev nD) (t : Fin cfg0.N) (h : ¬ t.val % 16 = 0) (g : S2x4.Idx → ℝ) (cs sn xq xk : S256x256.Idx → ℝ) (v : S256x512.Idx → ℝ)
    (st : S4x64x128.Idx → ℝ) (h0 : iblk m c 0 t = co g) (h1 : iblk m c 1 t = co xq) (h2 : iblk m c 2 t = co xk) (h3 : iblk m c 3 t = co v)
    (h4 : iblk m c 4 t = co cs) (h5 : iblk m c 5 t = co sn)
    (hs : (outsAt0 m c (t.val - 1) (by omega)).2 = co st)
    (n : Fin 4) (d : Fin 64) (e : Fin 128) :
    (outsAt0 m c t.val t.isLt).2 (ix3 (n0 := 4) (n1 := 64) (n2 := 128) n d e)
      = ((stepR (g (ix2 0 n)) (fun c => rotR cs sn xk (ix2 c ⟨64 * n.val + d.val, by omega⟩) * (1 / 8))
          (fun c => v (ix2 c ⟨128 * n.val + e.val, by omega⟩)) (st (ix3 n d e)) : ℝ) : EReal) := by
  rw [outsAt0_B m c t h]; frame_out
  generalize iblk m c 0 t = X0 at h0 ⊢
  generalize iblk m c 1 t = X1 at h1 ⊢
  generalize iblk m c 2 t = X2 at h2 ⊢
  generalize iblk m c 3 t = X3 at h3 ⊢
  generalize iblk m c 4 t = X4 at h4 ⊢
  generalize iblk m c 5 t = X5 at h5 ⊢
  generalize (outsAt0 m c (t.val - 1) _).2 = Y at hs ⊢
  subst h0 h1 h2 h3 h4 h5 hs
  simp only [read_unread_whole]
  fin_cases n
  · refine (skip_head 3 _ _ _ _ _ _ (by decide)).trans ?_
    refine (skip_head 2 _ _ _ _ _ _ (by decide)).trans ?_
    refine (skip_head 1 _ _ _ _ _ _ (by decide)).trans ?_
    refine (hit_head 0 _ _ _ 0 d e rfl).trans ?_
    rw [ld_decay g 0 _ _ 0 rfl, ld_state st 0 _ 0 rfl, state0 _ _ _ _ _ _ _ (rotK cs sn xk)]
    rfl
  · refine (skip_head 3 _ _ _ _ _ _ (by decide)).trans ?_
    refine (skip_head 2 _ _ _ _ _ _ (by decide)).trans ?_
    refine (hit_head 1 _ _ _ 1 d e rfl).trans ?_
    rw [ld_decay g 1 _ _ 1 rfl, ld_state st 1 _ 1 rfl, rotK, state1]
    rfl
  · refine (skip_head 3 _ _ _ _ _ _ (by decide)).trans ?_
    refine (hit_head 2 _ _ _ 2 d e rfl).trans ?_
    rw [ld_decay g 2 _ _ 2 rfl, ld_state st 2 _ 2 rfl, rotK, state2]
    rfl
  · refine (hit_head 3 _ _ _ 3 d e rfl).trans ?_
    rw [ld_decay g 3 _ _ 3 rfl, ld_state st 3 _ 3 rfl, rotK, state3]
    rfl

/-- The result block after a point from the state before it. -/
theorem out_next (c : Dev nD) (t : Fin cfg0.N) (h : ¬ t.val % 16 = 0) (g : S2x4.Idx → ℝ) (cs sn xq xk : S256x256.Idx → ℝ) (v : S256x512.Idx → ℝ)
    (st : S4x64x128.Idx → ℝ) (h0 : iblk m c 0 t = co g) (h1 : iblk m c 1 t = co xq) (h2 : iblk m c 2 t = co xk) (h3 : iblk m c 3 t = co v)
    (h4 : iblk m c 4 t = co cs) (h5 : iblk m c 5 t = co sn)
    (hs : (outsAt0 m c (t.val - 1) (by omega)).2 = co st)
    (n : Fin 4) (p : Fin 256) (e : Fin 128) :
    (outsAt0 m c t.val t.isLt).1 (ix2 (n0 := 256) (n1 := 512) p ⟨128 * n.val + e.val, by omega⟩)
      = ((resR (g (ix2 0 n)) (fun d => rotR cs sn xq (ix2 p ⟨64 * n.val + d.val, by omega⟩))
          (fun c d => rotR cs sn xk (ix2 c ⟨64 * n.val + d.val, by omega⟩) * (1 / 8))
          (fun c => v (ix2 c ⟨128 * n.val + e.val, by omega⟩)) (fun d => st (ix3 n d e)) p : ℝ) : EReal) := by
  rw [outsAt0_B m c t h]; frame_out
  generalize iblk m c 0 t = X0 at h0 ⊢
  generalize iblk m c 1 t = X1 at h1 ⊢
  generalize iblk m c 2 t = X2 at h2 ⊢
  generalize iblk m c 3 t = X3 at h3 ⊢
  generalize iblk m c 4 t = X4 at h4 ⊢
  generalize iblk m c 5 t = X5 at h5 ⊢
  generalize (outsAt0 m c (t.val - 1) _).2 = Y at hs ⊢
  subst h0 h1 h2 h3 h4 h5 hs
  simp only [read_unread_whole]
  fin_cases n
  · refine (skip_lane 3 384 rfl _ _ _ _ _ _ (by decide)).trans ?_
    refine (skip_lane 2 256 rfl _ _ _ _ _ _ (by decide)).trans ?_
    refine (skip_lane 1 128 rfl _ _ _ _ _ _ (by decide)).trans ?_
    refine (hit_lane 0 _ _ _ 0 p e rfl).trans ?_
    rw [ld_decay g 0 _ _ 0 rfl, ld_state st 0 _ 0 rfl, rotQ, out0 _ _ _ _ _ _ _ _ (rotK cs sn xk)]
    rfl
  · refine (skip_lane 3 384 rfl _ _ _ _ _ _ (by decide)).trans ?_
    refine (skip_lane 2 256 rfl _ _ _ _ _ _ (by decide)).trans ?_
    refine (hit_lane 128 _ _ _ 1 p e rfl).trans ?_
    rw [ld_decay g 1 _ _ 1 rfl, ld_state st 1 _ 1 rfl, rotQ, rotK, out1]
    rfl
  · refine (skip_lane 3 384 rfl _ _ _ _ _ _ (by decide)).trans ?_
    refine (hit_lane 256 _ _ _ 2 p e rfl).trans ?_
    rw [ld_decay g 2 _ _ 2 rfl, ld_state st 2 _ 2 rfl, rotQ, rotK, out2]
    rfl
  · refine (hit_lane 384 _ _ _ 3 p e rfl).trans ?_
    rw [ld_decay g 3 _ _ 3 rfl, ld_state st 3 _ 3 rfl, rotQ, rotK, out3]
    rfl

/-- The state after a point that starts a sequence. -/
theorem state_first (c : Dev nD) (t : Fin cfg0.N) (h : t.val % 16 = 0) (g : S2x4.Idx → ℝ) (cs sn xq xk : S256x256.Idx → ℝ) (v : S256x512.Idx → ℝ)
    (h0 : iblk m c 0 t = co g) (h1 : iblk m c 1 t = co xq) (h2 : iblk m c 2 t = co xk) (h3 : iblk m c 3 t = co v)
    (h4 : iblk m c 4 t = co cs) (h5 : iblk m c 5 t = co sn)
    (n : Fin 4) (d : Fin 64) (e : Fin 128) :
    (outsAt0 m c t.val t.isLt).2 (ix3 (n0 := 4) (n1 := 64) (n2 := 128) n d e)
      = ((stepR (g (ix2 0 n)) (fun c => rotR cs sn xk (ix2 c ⟨64 * n.val + d.val, by omega⟩) * (1 / 8))
          (fun c => v (ix2 c ⟨128 * n.val + e.val, by omega⟩)) 0 : ℝ) : EReal) := by
  rw [outsAt0_A m c t h]; frame_out
  generalize iblk m c 0 t = X0 at h0 ⊢
  generalize iblk m c 1 t = X1 at h1 ⊢
  generalize iblk m c 2 t = X2 at h2 ⊢
  generalize iblk m c 3 t = X3 at h3 ⊢
  generalize iblk m c 4 t = X4 at h4 ⊢
  generalize iblk m c 5 t = X5 at h5 ⊢
  subst h0 h1 h2 h3 h4 h5
  fin_cases n
  · refine (skip_head 3 _ _ _ _ _ _ (by decide)).trans ?_
    refine (skip_head 2 _ _ _ _ _ _ (by decide)).trans ?_
    refine (skip_head 1 _ _ _ _ _ _ (by decide)).trans ?_
    refine (hit_head 0 _ _ _ 0 d e rfl).trans ?_
    rw [ld_decay g 0 _ _ 0 rfl, ld_zero _ 0 _ 0 rfl fun d e => all_zero _ _ _, state0 _ _ _ _ _ _ _ (rotK cs sn xk)]
    rfl
  · refine (skip_head 3 _ _ _ _ _ _ (by decide)).trans ?_
    refine (skip_head 2 _ _ _ _ _ _ (by decide)).trans ?_
    refine (hit_head 1 _ _ _ 1 d e rfl).trans ?_
    rw [ld_decay g 1 _ _ 1 rfl, ld_zero _ 1 _ 1 rfl fun d e => (skip_head 0 _ _ _ _ _ _ (by decide)).trans (all_zero _ _ _), rotK, state1]
    rfl
  · refine (skip_head 3 _ _ _ _ _ _ (by decide)).trans ?_
    refine (hit_head 2 _ _ _ 2 d e rfl).trans ?_
    rw [ld_decay g 2 _ _ 2 rfl, ld_zero _ 2 _ 2 rfl fun d e => (skip_head 1 _ _ _ _ _ _ (by decide)).trans ((skip_head 0 _ _ _ _ _ _ (by decide)).trans (all_zero _ _ _)), rotK, state2]
    rfl
  · refine (hit_head 3 _ _ _ 3 d e rfl).trans ?_
    rw [ld_decay g 3 _ _ 3 rfl, ld_zero _ 3 _ 3 rfl fun d e => (skip_head 2 _ _ _ _ _ _ (by decide)).trans ((skip_head 1 _ _ _ _ _ _ (by decide)).trans ((skip_head 0 _ _ _ _ _ _ (by decide)).trans (all_zero _ _ _))), rotK, state3]
    rfl

/-- The result block after a point that starts a sequence. -/
theorem out_first (c : Dev nD) (t : Fin cfg0.N) (h : t.val % 16 = 0) (g : S2x4.Idx → ℝ) (cs sn xq xk : S256x256.Idx → ℝ) (v : S256x512.Idx → ℝ)
    (h0 : iblk m c 0 t = co g) (h1 : iblk m c 1 t = co xq) (h2 : iblk m c 2 t = co xk) (h3 : iblk m c 3 t = co v)
    (h4 : iblk m c 4 t = co cs) (h5 : iblk m c 5 t = co sn)
    (n : Fin 4) (p : Fin 256) (e : Fin 128) :
    (outsAt0 m c t.val t.isLt).1 (ix2 (n0 := 256) (n1 := 512) p ⟨128 * n.val + e.val, by omega⟩)
      = ((resR (g (ix2 0 n)) (fun d => rotR cs sn xq (ix2 p ⟨64 * n.val + d.val, by omega⟩))
          (fun c d => rotR cs sn xk (ix2 c ⟨64 * n.val + d.val, by omega⟩) * (1 / 8))
          (fun c => v (ix2 c ⟨128 * n.val + e.val, by omega⟩)) (fun _ => 0) p : ℝ) : EReal) := by
  rw [outsAt0_A m c t h]; frame_out
  generalize iblk m c 0 t = X0 at h0 ⊢
  generalize iblk m c 1 t = X1 at h1 ⊢
  generalize iblk m c 2 t = X2 at h2 ⊢
  generalize iblk m c 3 t = X3 at h3 ⊢
  generalize iblk m c 4 t = X4 at h4 ⊢
  generalize iblk m c 5 t = X5 at h5 ⊢
  subst h0 h1 h2 h3 h4 h5
  fin_cases n
  · refine (skip_lane 3 384 rfl _ _ _ _ _ _ (by decide)).trans ?_
    refine (skip_lane 2 256 rfl _ _ _ _ _ _ (by decide)).trans ?_
    refine (skip_lane 1 128 rfl _ _ _ _ _ _ (by decide)).trans ?_
    refine (hit_lane 0 _ _ _ 0 p e rfl).trans ?_
    rw [ld_decay g 0 _ _ 0 rfl, ld_zero _ 0 _ 0 rfl fun d e => all_zero _ _ _, rotQ, out0 _ _ _ _ _ _ _ _ (rotK cs sn xk)]
    rfl
  · refine (skip_lane 3 384 rfl _ _ _ _ _ _ (by decide)).trans ?_
    refine (skip_lane 2 256 rfl _ _ _ _ _ _ (by decide)).trans ?_
    refine (hit_lane 128 _ _ _ 1 p e rfl).trans ?_
    rw [ld_decay g 1 _ _ 1 rfl, ld_zero _ 1 _ 1 rfl fun d e => (skip_head 0 _ _ _ _ _ _ (by decide)).trans (all_zero _ _ _), rotQ, rotK, out1]
    rfl
  · refine (skip_lane 3 384 rfl _ _ _ _ _ _ (by decide)).trans ?_
    refine (hit_lane 256 _ _ _ 2 p e rfl).trans ?_
    rw [ld_decay g 2 _ _ 2 rfl, ld_zero _ 2 _ 2 rfl fun d e => (skip_head 1 _ _ _ _ _ _ (by decide)).trans ((skip_head 0 _ _ _ _ _ _ (by decide)).trans (all_zero _ _ _)), rotQ, rotK, out2]
    rfl
  · refine (hit_lane 384 _ _ _ 3 p e rfl).trans ?_
    rw [ld_decay g 3 _ _ 3 rfl, ld_zero _ 3 _ 3 rfl fun d e => (skip_head 2 _ _ _ _ _ _ (by decide)).trans ((skip_head 1 _ _ _ _ _ _ (by decide)).trans ((skip_head 0 _ _ _ _ _ _ (by decide)).trans (all_zero _ _ _))), rotQ, rotK, out3]
    rfl

end Cert.Kernel5Ideal.Ret

end
-- ==== Proof.RetFin.lean ====
/- The retention kernel's array over finite arguments: every token's decayed sum. -/
module

public import proofs.«01_k».proof.Proof.RetRun
public import Idealize.ShloMosaic.Lib.Claim
public import Idealize.ShloMosaic.Lib.Pointwise
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.Ret

namespace Cert.Kernel5Ideal.Ret

open Cert.Kernel5Ideal Cert.Kernel5Ideal.Gen

/-- The cosines laid out over the lanes. -/
def tabC (cs : S4096x32.Idx → ℝ) (s : Fin 4096) (w : Fin 256) : ℝ := cs (ix2 s ⟨w.val % 32, by omega⟩)

/-- The sines laid out over the lanes, negated in the lower half of each head. -/
def tabS (sn : S4096x32.Idx → ℝ) (s : Fin 4096) (w : Fin 256) : ℝ :=
  if w.val % 64 < 32 then -sn (ix2 s ⟨w.val % 32, by omega⟩) else sn (ix2 s ⟨w.val % 32, by omega⟩)

/-- A lane of a rotated token. -/
def rotT (cs sn : S4096x32.Idx → ℝ) (x : S16384x256.Idx → ℝ) (r : ℕ) (w : Fin 256) : ℝ :=
  x (ix2 ⟨r % 16384, by omega⟩ w) * tabC cs ⟨r % 4096, by omega⟩ w
    + x (ix2 ⟨r % 16384, by omega⟩ (sw w)) * tabS sn ⟨r % 4096, by omega⟩ w

/-- The rotated and scaled keys of one sequence and head. -/
def keys (cs sn : S4096x32.Idx → ℝ) (xk : S16384x256.Idx → ℝ) (b : ℕ) (n : Fin 4) (s : ℕ) (d : Fin 64) : ℝ :=
  rotT cs sn xk (4096 * b + s) ⟨64 * n.val + d.val, by omega⟩ * (1 / 8)

/-- One feature of the values of one sequence and head. -/
def vals (v : S16384x512.Idx → ℝ) (b : ℕ) (n : Fin 4) (e : Fin 128) (s : ℕ) : ℝ :=
  v (ix2 ⟨(4096 * b + s) % 16384, by omega⟩ ⟨128 * n.val + e.val, by omega⟩)

/-- The retention's result at one token and feature. -/
def retAt (g : S2x4.Idx → ℝ) (xq xk : S16384x256.Idx → ℝ) (v : S16384x512.Idx → ℝ) (cs sn : S4096x32.Idx → ℝ) (r : ℕ) (n : Fin 4) (e : Fin 128) : ℝ :=
  outR (g (ix2 0 n)) (fun d => rotT cs sn xq r ⟨64 * n.val + d.val, by omega⟩) (keys cs sn xk (r / 4096) n) (vals v (r / 4096) n e) (r % 4096)

/-- The retention's result. -/
def retOf (g : S2x4.Idx → ℝ) (xq xk : S16384x256.Idx → ℝ) (v : S16384x512.Idx → ℝ) (cs sn : S4096x32.Idx → ℝ) (i : S16384x512.Idx) : ℝ :=
  retAt g xq xk v cs sn (i 0).val ⟨(i 1).val / 128, by have : (i 1).val < 512 := (i 1).isLt; omega⟩ ⟨(i 1).val % 128, by omega⟩

variable (m : (ℓ : Loc nD τ sig) → Buf (Elt Ideal) ℓ)

/-- The block every window has at each grid point. -/
theorem idx : ∀ t : Fin cfg0.N, win0_0.index t = ![0, 0] ∧ win0_1.index t = ![t.val, 0] ∧ win0_2.index t = ![t.val, 0]
    ∧ win0_3.index t = ![t.val, 0] ∧ win0_4.index t = ![t.val % 16, 0] ∧ win0_5.index t = ![t.val % 16, 0] ∧ win0_6.index t = ![t.val, 0] :=
  (by decide +kernel : ∀ t : Fin grid0.N, _)

/-- Two arrays of 32 lanes side by side, repeated for the four heads. -/
def tileOf (A B : FVec Ideal S4096x32 .f32) : FVec Ideal S4096x256 .f32 :=
  shapeCast S4096x256 (broadcastInDim S1x4096x4x64 ![0, 1, 2, 3] bcast_S1x4096x1x64_S1x4096x4x64_0_1_2_3
    (shapeCast S1x4096x1x64 (concatenate S4096x64 1 [⟨S4096x32, A⟩, ⟨S4096x32, B⟩] concatenates_S4096x32_S4096x32_S4096x64_d1)
      shapeCasts_S4096x64_S1x4096x1x64)) shapeCasts_S1x4096x4x64_S4096x256

/-- Two tables side by side, repeated for each head, read at a lane. -/
theorem tile_at (A B : FVec Ideal S4096x32 .f32) (s : Fin 4096) (w : Fin 256) :
    tileOf A B (ix2 s w) = if w.val % 64 < 32 then A (ix2 s ⟨w.val % 32, by omega⟩) else B (ix2 s ⟨w.val % 32, by omega⟩) := by
  pointwise [tileOf]
  split
  · next h => exact congrArg (fun k => A (ix2 s k)) (Fin.ext (by show w.val % 64 = w.val % 32; omega))
  · next h => exact congrArg (fun k => B (ix2 s k)) (Fin.ext (by show w.val % 64 - 32 = w.val % 32; omega))

/-- The table of cosines. -/
theorem v3_at (c : Dev nD) (cs : S4096x32.Idx → ℝ) (h : m ((c : Thread nD τ).loc main_arg4) = co cs) (s : Fin 4096) (w : Fin 256) :
    (V m c main_v3 : FVec Ideal S4096x256 .f32) (ix2 s w) = ((tabC cs s w : ℝ) : EReal) := by
  have key : (V m c main_v3 : FVec Ideal S4096x256 .f32) = tileOf (m ((c : Thread nD τ).loc main_arg4)) (m ((c : Thread nD τ).loc main_arg4)) := by
    unfold V; after_results; rfl
  rw [key, h, tile_at]
  split <;> rfl

/-- The table of sines. -/
theorem v8_at (c : Dev nD) (sn : S4096x32.Idx → ℝ) (h : m ((c : Thread nD τ).loc main_arg5) = co sn) (s : Fin 4096) (w : Fin 256) :
    (V m c main_v8 : FVec Ideal S4096x256 .f32) (ix2 s w) = ((tabS sn s w : ℝ) : EReal) := by
  have key : (V m c main_v8 : FVec Ideal S4096x256 .f32) = tileOf (Host.negf (F := Ideal) (φ := .f32) (s := S4096x32) (m ((c : Thread nD τ).loc main_arg5)))
      (m ((c : Thread nD τ).loc main_arg5)) := by
    unfold V; after_results; rfl
  rw [key, h, tile_at, tabS]
  split
  · rw [EReal.coe_neg]; rfl
  · rfl

section
variable (c : Dev nD) (g : S2x4.Idx → ℝ) (xq xk : S16384x256.Idx → ℝ) (v : S16384x512.Idx → ℝ) (cs sn : S4096x32.Idx → ℝ)
  (h0 : m ((c : Thread nD τ).loc main_arg0) = co g) (h1 : m ((c : Thread nD τ).loc main_arg1) = co xq) (h2 : m ((c : Thread nD τ).loc main_arg2) = co xk)
  (h3 : m ((c : Thread nD τ).loc main_arg3) = co v) (h4 : m ((c : Thread nD τ).loc main_arg4) = co cs) (h5 : m ((c : Thread nD τ).loc main_arg5) = co sn)

/-- The block of rows of a point. -/
def rowsX (x : S16384x256.Idx → ℝ) (t : ℕ) : S256x256.Idx → ℝ := fun i => x (ix2 ⟨(256 * t + (i 0).val) % 16384, by omega⟩ (i 1))
/-- The block of values of a point. -/
def rowsV (x : S16384x512.Idx → ℝ) (t : ℕ) : S256x512.Idx → ℝ := fun i => x (ix2 ⟨(256 * t + (i 0).val) % 16384, by omega⟩ (i 1))
/-- The block of cosines of a point. -/
def rowsC (cs : S4096x32.Idx → ℝ) (t : ℕ) : S256x256.Idx → ℝ := fun i => tabC cs ⟨(256 * t + (i 0).val) % 4096, by omega⟩ (i 1)
/-- The block of sines of a point. -/
def rowsS (sn : S4096x32.Idx → ℝ) (t : ℕ) : S256x256.Idx → ℝ := fun i => tabS sn ⟨(256 * t + (i 0).val) % 4096, by omega⟩ (i 1)

include h0 in
/-- The decay block of a point is the whole decay array. -/
theorem blk0 (t : Fin cfg0.N) : iblk m c 0 t = co g := by
  funext i
  rw [eq_ix2 (n0 := 2) (n1 := 4) i]
  have e : iblk m c 0 t (ix2 (n0 := 2) (n1 := 4) (i 0) (i 1)) = (V m c main_arg0 : FVec Ideal S2x4 .f32) (ix2 (n0 := 2) (n1 := 4) (i 0) (i 1)) := by
    blk_ext [iblk, idx t]
  rw [e, V_main_arg0, h0]

include h1 in
/-- The query block of a point is its rows of the queries. -/
theorem blk1 (t : Fin cfg0.N) : iblk m c 1 t = co (rowsX xq t.val) := by
  have ht : t.val < 64 := t.isLt
  funext i
  have hi : (i 0).val < 256 := (i 0).isLt
  rw [eq_ix2 (n0 := 256) (n1 := 256) i]
  have e : iblk m c 1 t (ix2 (n0 := 256) (n1 := 256) (i 0) (i 1)) = (V m c main_arg1 : FVec Ideal S16384x256 .f32) (ix2 ⟨(256 * t.val + (i 0).val) % 16384, by omega⟩ (i 1)) := by
    blk_ext [iblk, idx t]
  rw [e, V_main_arg1, h1]; rfl

include h2 in
/-- The key block of a point is its rows of the keys. -/
theorem blk2 (t : Fin cfg0.N) : iblk m c 2 t = co (rowsX xk t.val) := by
  have ht : t.val < 64 := t.isLt
  funext i
  have hi : (i 0).val < 256 := (i 0).isLt
  rw [eq_ix2 (n0 := 256) (n1 := 256) i]
  have e : iblk m c 2 t (ix2 (n0 := 256) (n1 := 256) (i 0) (i 1)) = (V m c main_arg2 : FVec Ideal S16384x256 .f32) (ix2 ⟨(256 * t.val + (i 0).val) % 16384, by omega⟩ (i 1)) := by
    blk_ext [iblk, idx t]
  rw [e, V_main_arg2, h2]; rfl

include h3 in
/-- The value block of a point is its rows of the values. -/
theorem blk3 (t : Fin cfg0.N) : iblk m c 3 t = co (rowsV v t.val) := by
  have ht : t.val < 64 := t.isLt
  funext i
  have hi : (i 0).val < 256 := (i 0).isLt
  rw [eq_ix2 (n0 := 256) (n1 := 512) i]
  have e : iblk m c 3 t (ix2 (n0 := 256) (n1 := 512) (i 0) (i 1)) = (V m c main_arg3 : FVec Ideal S16384x512 .bf16) (ix2 ⟨(256 * t.val + (i 0).val) % 16384, by omega⟩ (i 1)) := by
    blk_ext [iblk, idx t]
  rw [e, V_main_arg3, h3]; rfl

include h4 in
/-- The cosine block of a point is its rows of the cosines. -/
theorem blk4 (t : Fin cfg0.N) : iblk m c 4 t = co (rowsC cs t.val) := by
  have ht : t.val < 64 := t.isLt
  funext i
  have hi : (i 0).val < 256 := (i 0).isLt
  rw [eq_ix2 (n0 := 256) (n1 := 256) i]
  have e : iblk m c 4 t (ix2 (n0 := 256) (n1 := 256) (i 0) (i 1)) = (V m c main_v3 : FVec Ideal S4096x256 .f32) (ix2 ⟨(256 * t.val + (i 0).val) % 4096, by omega⟩ (i 1)) := by
    blk_ext [iblk, idx t]
  exact e.trans (v3_at m c cs h4 _ _)

include h5 in
/-- The sine block of a point is its rows of the signed sines. -/
theorem blk5 (t : Fin cfg0.N) : iblk m c 5 t = co (rowsS sn t.val) := by
  have ht : t.val < 64 := t.isLt
  funext i
  have hi : (i 0).val < 256 := (i 0).isLt
  rw [eq_ix2 (n0 := 256) (n1 := 256) i]
  have e : iblk m c 5 t (ix2 (n0 := 256) (n1 := 256) (i 0) (i 1)) = (V m c main_v8 : FVec Ideal S4096x256 .f32) (ix2 ⟨(256 * t.val + (i 0).val) % 4096, by omega⟩ (i 1)) := by
    blk_ext [iblk, idx t]
  exact e.trans (v8_at m c sn h5 _ _)

/-- A rotated block is the block of the rotated tokens. -/
theorem rot_rows (x : S16384x256.Idx → ℝ) (t : ℕ) (p w : Fin 256) :
    rotR (rowsC cs t) (rowsS sn t) (rowsX x t) (ix2 p w) = rotT cs sn x (256 * t + p.val) w := rfl

/-- The state after a point. -/
def stT (t : ℕ) : S4x64x128.Idx → ℝ := fun i =>
  stR (g (ix2 0 (i 0))) (keys cs sn xk (t / 16) (i 0)) (vals v (t / 16) (i 0) (i 2)) (256 * (t % 16) + 256) (i 1)

/-- A block's step joins the state of the tokens before it to the state after it. -/
theorem step_stR (t : ℕ) (n : Fin 4) (d : Fin 64) (e : Fin 128) :
    stepR (g (ix2 0 n)) (fun c => rotR (rowsC cs t) (rowsS sn t) (rowsX xk t) (ix2 c ⟨64 * n.val + d.val, by omega⟩) * (1 / 8))
        (fun c => rowsV v t (ix2 c ⟨128 * n.val + e.val, by omega⟩))
        (stR (g (ix2 0 n)) (keys cs sn xk (t / 16) n) (vals v (t / 16) n e) (256 * (t % 16)) d)
      = stT g xk v cs sn t (ix3 n d e) := by
  show _ = stR (g (ix2 0 n)) (keys cs sn xk (t / 16) n) (vals v (t / 16) n e) (256 * (t % 16) + 256) d
  rw [stR_block]
  refine congrArg₂ (· + ·) rfl (Finset.sum_congr rfl fun x _ => ?_)
  have q : 4096 * (t / 16) + (256 * (t % 16) + x.val) = 256 * t + x.val := by omega
  simp only [rot_rows, keys, vals, q]
  rfl

include h0 h1 h2 h3 h4 h5 in
/-- The state after a point is the decayed sum over the tokens of its sequence so far. -/
theorem state_at : ∀ (k : ℕ) (hk : k < cfg0.N), (outsAt0 m c k hk).2 = co (stT g xk v cs sn k) := by
  intro k
  induction k with
  | zero =>
    intro hk
    have q : ∀ (n : Fin 4) (d : Fin 64) (e : Fin 128), (outsAt0 m c 0 hk).2 (ix3 n d e) = ((stT g xk v cs sn 0 (ix3 n d e) : ℝ) : EReal) := fun n d e => by
      refine (state_first m c ⟨0, hk⟩ rfl g _ _ _ _ _ (blk0 m c g h0 _) (blk1 m c xq h1 _) (blk2 m c xk h2 _) (blk3 m c v h3 _) (blk4 m c cs h4 _) (blk5 m c sn h5 _) n d e).trans ?_
      rw [← step_stR, Nat.zero_mod, Nat.mul_zero, stR_zero]
    funext i
    rw [eq_ix3 (n0 := 4) (n1 := 64) (n2 := 128) i]
    exact q _ _ _
  | succ k ih =>
    intro hk
    have q : ∀ (n : Fin 4) (d : Fin 64) (e : Fin 128), (outsAt0 m c (k + 1) hk).2 (ix3 n d e) = ((stT g xk v cs sn (k + 1) (ix3 n d e) : ℝ) : EReal) := fun n d e => by
      by_cases hm : (k + 1) % 16 = 0
      · refine (state_first m c ⟨k + 1, hk⟩ hm g _ _ _ _ _ (blk0 m c g h0 _) (blk1 m c xq h1 _) (blk2 m c xk h2 _) (blk3 m c v h3 _) (blk4 m c cs h4 _) (blk5 m c sn h5 _) n d e).trans ?_
        rw [← step_stR, hm, Nat.mul_zero, stR_zero]
      · refine (state_next m c ⟨k + 1, hk⟩ hm g _ _ _ _ _ _ (blk0 m c g h0 _) (blk1 m c xq h1 _) (blk2 m c xk h2 _) (blk3 m c v h3 _) (blk4 m c cs h4 _) (blk5 m c sn h5 _)
          (ih (by omega)) n d e).trans ?_
        have e : stT g xk v cs sn k (ix3 n d e) = stR (g (ix2 0 n)) (keys cs sn xk ((k + 1) / 16) n) (vals v ((k + 1) / 16) n e) (256 * ((k + 1) % 16)) d := by
          show stR (g (ix2 0 n)) (keys cs sn xk (k / 16) n) (vals v (k / 16) n e) (256 * (k % 16) + 256) d = _
          rw [show k / 16 = (k + 1) / 16 by omega, show 256 * (k % 16) + 256 = 256 * ((k + 1) % 16) by omega]
        rw [e, ← step_stR]
    funext i
    rw [eq_ix3 (n0 := 4) (n1 := 64) (n2 := 128) i]
    exact q _ _ _

/-- A block's part and the state's part make the token's result. -/
theorem res_ret (t : ℕ) (n : Fin 4) (p : Fin 256) (e : Fin 128) :
    resR (g (ix2 0 n)) (fun d => rotR (rowsC cs t) (rowsS sn t) (rowsX xq t) (ix2 p ⟨64 * n.val + d.val, by omega⟩))
        (fun c d => rotR (rowsC cs t) (rowsS sn t) (rowsX xk t) (ix2 c ⟨64 * n.val + d.val, by omega⟩) * (1 / 8))
        (fun c => rowsV v t (ix2 c ⟨128 * n.val + e.val, by omega⟩))
        (fun d => stR (g (ix2 0 n)) (keys cs sn xk (t / 16) n) (vals v (t / 16) n e) (256 * (t % 16)) d) p
      = retAt g xq xk v cs sn (256 * t + p.val) n e := by
  unfold retAt
  have hp := p.isLt
  have q : ∀ x : ℕ, 4096 * (t / 16) + (256 * (t % 16) + x) = 256 * t + x := fun x => by omega
  rw [show (256 * t + p.val) / 4096 = t / 16 by omega, show (256 * t + p.val) % 4096 = 256 * (t % 16) + p.val by omega,
    ← outR_block _ _ _ _ _ (by omega) p]
  simp only [resR, rot_rows, keys, vals, q]
  rfl

include h0 h1 h2 h3 h4 h5 in
/-- The block a point writes is the retention of its rows. -/
theorem out_at (t : Fin cfg0.N) (n : Fin 4) (p : Fin 256) (e : Fin 128) :
    (outsAt0 m c t.val t.isLt).1 (ix2 (n0 := 256) (n1 := 512) p ⟨128 * n.val + e.val, by omega⟩)
      = ((retAt g xq xk v cs sn (256 * t.val + p.val) n e : ℝ) : EReal) := by
  rw [← res_ret]
  by_cases hm : t.val % 16 = 0
  · refine (out_first m c t hm g _ _ _ _ _ (blk0 m c g h0 _) (blk1 m c xq h1 _) (blk2 m c xk h2 _) (blk3 m c v h3 _) (blk4 m c cs h4 _) (blk5 m c sn h5 _) n p e).trans ?_
    simp only [hm, Nat.mul_zero, stR_zero]
  · refine (out_next m c t hm g _ _ _ _ _ _ (blk0 m c g h0 _) (blk1 m c xq h1 _) (blk2 m c xk h2 _) (blk3 m c v h3 _) (blk4 m c cs h4 _) (blk5 m c sn h5 _)
      (state_at m c g xq xk v cs sn h0 h1 h2 h3 h4 h5 (t.val - 1) (by omega)) n p e).trans ?_
    have e1 : ∀ d, stT g xk v cs sn (t.val - 1) (ix3 n d e) = stR (g (ix2 0 n)) (keys cs sn xk (t.val / 16) n) (vals v (t.val / 16) n e) (256 * (t.val % 16)) d := fun d => by
      show stR (g (ix2 0 n)) (keys cs sn xk ((t.val - 1) / 16) n) (vals v ((t.val - 1) / 16) n e) (256 * ((t.val - 1) % 16) + 256) d = _
      rw [show (t.val - 1) / 16 = t.val / 16 by omega, show 256 * ((t.val - 1) % 16) + 256 = 256 * (t.val % 16) by omega]
    simp only [e1]

include h0 h1 h2 h3 h4 h5 in
/-- The kernel's array is the retention of its arguments. -/
theorem ret_final : (dats m 0 c).arrAt 6 (cfgs 0).N = co (retOf g xq xk v cs sn) := by
  refine (dats m 0 c).arrAt_eq_of_covers 6 _ (by decide +kernel) fun t _ y => ?_
  have hy0 : (((View.whole main_v9).slice (win0_6.rect t)).emb y 0).val = t.val * 256 + (y 0).val := by
    blk_simp [idx t]
  have hy1 : (((View.whole main_v9).slice (win0_6.rect t)).emb y 1).val = (y 1).val := by
    blk_simp [idx t]
  have b0 : (y 0).val < 256 := (y 0).isLt
  have b1 : (y 1).val < 512 := (y 1).isLt
  have p := out_at m c g xq xk v cs sn h0 h1 h2 h3 h4 h5 t ⟨(y 1).val / 128, by omega⟩ (y 0) ⟨(y 1).val % 128, by omega⟩
  have key : ∀ z : S16384x512.Idx, (z 0).val = t.val * 256 + (y 0).val → (z 1).val = (y 1).val →
      (outsAt0 m c t.val t.isLt).1 y = co (retOf g xq xk v cs sn) z := fun z z0 z1 => by
    have hyy : y = (ix2 (n0 := 256) (n1 := 512) (y 0) ⟨128 * ((y 1).val / 128) + (y 1).val % 128, by omega⟩ : S256x512.Idx) :=
      (eq_ix2 (n0 := 256) (n1 := 512) y).trans (congrArg (ix2 (n0 := 256) (n1 := 512) (y 0)) (Fin.ext (by show (y 1).val = 128 * ((y 1).val / 128) + (y 1).val % 128; omega)))
    refine (congrArg (outsAt0 m c t.val t.isLt).1 hyy).trans (p.trans ?_)
    rw [co_apply]
    refine congrArg (fun r : ℝ => (r : EReal)) ?_
    unfold retOf
    congr 1
    · show 256 * t.val + (y 0).val = (z 0).val; omega
    · exact Fin.ext (by show (y 1).val / 128 = (z 1).val / 128; rw [z1])
    · exact Fin.ext (by show (y 1).val % 128 = (z 1).val % 128; rw [z1])
  blk_simp
  rw [after0_6]
  exact key _ hy0 hy1

end

end Cert.Kernel5Ideal.Ret

end
-- ==== Proof.RetPre.lean ====
/- Finite arguments: what the precondition says of an array. -/
module

public import proofs.«01_k».proof.Defs
public import proofs.«01_k».proof.Proof.RetFin
public import Idealize.ShloMosaic.Lib.Claim
public import Idealize.ShloMosaic.Lib.Pointwise

@[expose] public section

set_option maxRecDepth 16384

noncomputable section

open Idealize.ShloMosaic Idealize.ShloMosaic.TcCoe Idealize.SL.Sem

namespace Cert.Retention

open Cert.Kernel5Ideal.Ret (co co_apply)

/-- The shape conditions of the finiteness test. -/
instance facts : Cert.Pre_all_finite.Facts where
  bcast_S_S2x4 := by decide
  bcast_S_S16384x256 := by decide
  bitsLt_bf16_f32 := by decide
  bcast_S_S16384x512 := by decide
  bcast_S_S4096x32 := by decide

/-- The word of infinity is the top value. -/
theorem infinity : Ideal.ofBits .f32 0x7F800000#32 = ⊤ := by
  simp [Ideal.ofBits, Ideal.ieee]

/-- A value whose absolute value is below infinity is a real number. -/
theorem real_of_lt (x : EReal) (h : BitVec.ofBool (decide (FloatOps.absf (F := Ideal) (φ := .f32) x < Ideal.ofBits .f32 0x7F800000#32)) = 1#1) :
    ((x.toReal : ℝ) : EReal) = x := by
  have k : max x (-x) < ⊤ := by
    rw [← infinity]
    by_contra hn
    have hn' : ¬ FloatOps.absf (F := Ideal) (φ := .f32) x < Ideal.ofBits .f32 0x7F800000#32 := hn
    rw [decide_eq_false hn'] at h
    exact absurd h (by decide)
  refine EReal.coe_toReal ?_ ?_
  · rintro rfl
    exact absurd ((le_max_left _ _).trans_lt k) (lt_irrefl _)
  · rintro rfl
    exact absurd ((le_max_right _ _).trans_lt k) (by rw [EReal.neg_bot]; exact lt_irrefl _)

/-- An array all of whose entries are finite is an array of reals. -/
theorem array_real {S : Shape} (X : S.Idx → EReal)
    (h : ∀ i, BitVec.ofBool (decide (FloatOps.absf (F := Ideal) (φ := .f32) (X i) < Ideal.ofBits .f32 0x7F800000#32)) = 1#1) :
    ∃ x : S.Idx → ℝ, X = co x :=
  ⟨fun i => (X i).toReal, funext fun i => (real_of_lt (X i) (h i)).symm⟩

/-- Under the precondition every argument is an array of reals. -/
theorem args_real (X0 : FVec Ideal Cert.Pre_all_finite.S2x4 .f32) (X1 X2 : FVec Ideal Cert.Pre_all_finite.S16384x256 .f32)
    (X3 : FVec Ideal Cert.Pre_all_finite.S16384x512 .bf16) (X4 X5 : FVec Ideal Cert.Pre_all_finite.S4096x32 .f32)
    (h0 : (Cert.Pre_all_finite.fn (F := Ideal) X0 X1 X2 X3 X4 X5).1 = fun _ => 1#1)
    (h1 : (Cert.Pre_all_finite.fn (F := Ideal) X0 X1 X2 X3 X4 X5).2.1 = fun _ => 1#1)
    (h2 : (Cert.Pre_all_finite.fn (F := Ideal) X0 X1 X2 X3 X4 X5).2.2.1 = fun _ => 1#1)
    (h3 : (Cert.Pre_all_finite.fn (F := Ideal) X0 X1 X2 X3 X4 X5).2.2.2.1 = fun _ => 1#1)
    (h4 : (Cert.Pre_all_finite.fn (F := Ideal) X0 X1 X2 X3 X4 X5).2.2.2.2.1 = fun _ => 1#1)
    (h5 : (Cert.Pre_all_finite.fn (F := Ideal) X0 X1 X2 X3 X4 X5).2.2.2.2.2 = fun _ => 1#1) :
    (∃ x, X0 = co x) ∧ (∃ x, X1 = co x) ∧ (∃ x, X2 = co x) ∧ (∃ x, X3 = co x) ∧ (∃ x, X4 = co x) ∧ (∃ x, X5 = co x) :=
  ⟨array_real X0 fun i => congrFun h0 i, array_real X1 fun i => congrFun h1 i, array_real X2 fun i => congrFun h2 i,
    array_real X3 fun i => congrFun h3 i, array_real X4 fun i => congrFun h4 i, array_real X5 fun i => congrFun h5 i⟩

end Cert.Retention

end
-- ==== Proof.RetRef.lean ====
/- The retention reference's array over finite arguments. -/
module

public import proofs.«01_k».proof.Proof.Gen.Reference5Ideal.Run
public import proofs.«01_k».proof.Proof.RetFin
public import Idealize.ShloMosaic.Lib.Claim
public import Idealize.ShloMosaic.Lib.Pointwise
public import Idealize.ShloMosaic.Lib.KernelVsHost

@[expose] public section

set_option maxRecDepth 16384

noncomputable section

open Idealize.ShloMosaic Idealize.ShloMosaic.TcCoe Idealize.SL.Sem
open Cert.Ret

namespace Cert.Reference5Ideal.Ret

open Cert.Reference5Ideal Cert.Reference5Ideal.Gen
open Cert.Kernel5Ideal.Ret (co co_apply rotT tabC tabS sw keys vals retAt retOf)

/-- Lanes split into heads. -/
def headsOf (X : FVec Ideal S16384x256 .f32) : FVec Ideal S4x4x4096x64 .f32 :=
  transpose S4x4x4096x64 [0, 2, 1, 3] (shapeCast S4x4096x4x64 X shapeCasts_S16384x256_S4x4096x4x64) transposes_S4x4096x4x64_S4x4x4096x64_0_2_1_3
/-- The lower half of each head. -/
def lowOf (X : FVec Ideal S16384x256 .f32) : FVec Ideal S4x4x4096x32 .f32 := extractStridedSlice S4x4x4096x32 ![0, 0, 0, 0] (headsOf X) slices_S4x4x4096x64_S4x4x4096x32_0_0_0_0
/-- The upper half of each head. -/
def highOf (X : FVec Ideal S16384x256 .f32) : FVec Ideal S4x4x4096x32 .f32 := extractStridedSlice S4x4x4096x32 ![0, 0, 0, 32] (headsOf X) slices_S4x4x4096x64_S4x4x4096x32_0_0_0_32
/-- A table of angles for every sequence and head. -/
def overHeads (C : FVec Ideal S4096x32 .f32) : FVec Ideal S4x4x4096x32 .f32 :=
  broadcastInDim S4x4x4096x32 ![0, 1, 2, 3] bcast_S1x1x4096x32_S4x4x4096x32_0_1_2_3 (broadcastInDim S1x1x4096x32 ![2, 3] bcast_S4096x32_S1x1x4096x32_2_3 C)
/-- The rotated heads. -/
def rotOf (X : FVec Ideal S16384x256 .f32) (C S : FVec Ideal S4096x32 .f32) : FVec Ideal S4x4x4096x64 .f32 :=
  concatenate S4x4x4096x64 3 [⟨S4x4x4096x32, subf (mulf (lowOf X) (overHeads C)) (mulf (highOf X) (overHeads S))⟩,
    ⟨S4x4x4096x32, addf (mulf (lowOf X) (overHeads S)) (mulf (highOf X) (overHeads C))⟩] concatenates_S4x4x4096x32_S4x4x4096x32_S4x4x4096x64_d3
/-- The rotated and scaled keys. -/
def keyOf (X : FVec Ideal S16384x256 .f32) (C S : FVec Ideal S4096x32 .f32) : FVec Ideal S4x4x4096x64 .f32 :=
  mulf (rotOf X C S) (broadcastInDim S4x4x4096x64 ![] bcast_S_S4x4x4096x64 (constant S_ .f32 0x3E000000#32))
/-- The values by heads. -/
def valOf (W : FVec Ideal S16384x512 .bf16) : FVec Ideal S4x4x4096x128 .f32 :=
  transpose S4x4x4096x128 [0, 2, 1, 3] (shapeCast S4x4096x4x128 (extf .f32 W bitsLt_bf16_f32) shapeCasts_S16384x512_S4x4096x4x128) transposes_S4x4096x4x128_S4x4x4096x128_0_2_1_3
/-- The distance of two tokens. -/
def distOf : FVec Ideal S4096x4096 .f32 :=
  subf (broadcastInDim S4096x4096 ![0, 1] bcast_S4096x1_S4096x4096_0_1 (broadcastInDim S4096x1 ![0] bcast_S4096_S4096x1_0 (sitofp .f32 (iotaInDim S4096 32 0))))
    (broadcastInDim S4096x4096 ![0, 1] bcast_S1x4096_S4096x4096_0_1 (broadcastInDim S1x4096 ![1] bcast_S4096_S1x4096_1 (sitofp .f32 (iotaInDim S4096 32 0))))
/-- Whether the second token is not after the first. -/
def pastOf : IVec S4096x4096 1 := cmpf .oge distOf (broadcastInDim S4096x4096 ![] bcast_S_S4096x4096 (constant S_ .f32 0x00000000#32))
/-- The decay between two tokens. -/
def decayOf (G : FVec Ideal S2x4 .f32) : FVec Ideal S4x4096x4096 .f32 :=
  select (broadcastInDim S4x4096x4096 ![1, 2] bcast_S4096x4096_S4x4096x4096_1_2 pastOf)
    (Host.exp (mulf (broadcastInDim S4x4096x4096 ![0, 1, 2] bcast_S4x1x1_S4x4096x4096_0_1_2 (broadcastInDim S4x1x1 ![0] bcast_S4_S4x1x1_0
        (shapeCast S4 (extractStridedSlice S1x4 ![0, 0] G slices_S2x4_S1x4_0_0) shapeCasts_S1x4_S4)))
      (broadcastInDim S4x4096x4096 ![0, 1, 2] bcast_S1x4096x4096_S4x4096x4096_0_1_2 (broadcastInDim S1x4096x4096 ![1, 2] bcast_S4096x4096_S1x4096x4096_1_2
        (select pastOf distOf (broadcastInDim S4096x4096 ![] bcast_S_S4096x4096 (constant S_ .f32 0x00000000#32)))))))
    (broadcastInDim S4x4096x4096 ![] bcast_S_S4x4096x4096 (constant S_ .f32 0x00000000#32))
/-- The decayed scores. -/
def scoreOf (Q K : FVec Ideal S4x4x4096x64 .f32) (D : FVec Ideal S4x4096x4096 .f32) : FVec Ideal S4x4x4096x4096 .f32 :=
  mulf (Host.dotGeneral dot_S4x4x4096x64_S4x4x4096x64_S4x4x4096x4096_3_3_2_2_01_01 none Q K)
    (broadcastInDim S4x4x4096x4096 ![0, 1, 2, 3] bcast_S1x4x4096x4096_S4x4x4096x4096_0_1_2_3 (broadcastInDim S1x4x4096x4096 ![1, 2, 3] bcast_S4x4096x4096_S1x4x4096x4096_1_2_3 D))
/-- The weighted values, tokens first. -/
def sumOf (P : FVec Ideal S4x4x4096x4096 .f32) (W : FVec Ideal S4x4x4096x128 .f32) : FVec Ideal S16384x512 .f32 :=
  shapeCast S16384x512 (transpose S4x4096x4x128 [0, 2, 1, 3] (Host.dotGeneral dot_S4x4x4096x4096_S4x4x4096x128_S4x4x4096x128_3_2_2_3_01_01 none P W) transposes_S4x4x4096x128_S4x4096x4x128_0_2_1_3) shapeCasts_S4x4096x4x128_S16384x512

variable (m : (ℓ : Loc nD τ sig) → Buf (Elt Ideal) ℓ)

/-- The reference's result, stage by stage. -/
theorem res_stages (c : Dev nD) : Value.res_main_v67 m c
    = sumOf (scoreOf (rotOf (m ((c.tc : Thread nD τ).loc main_arg1)) (m ((c.tc : Thread nD τ).loc main_arg4)) (m ((c.tc : Thread nD τ).loc main_arg5)))
        (keyOf (m ((c.tc : Thread nD τ).loc main_arg2)) (m ((c.tc : Thread nD τ).loc main_arg4)) (m ((c.tc : Thread nD τ).loc main_arg5)))
        (decayOf (m ((c.tc : Thread nD τ).loc main_arg0)))) (valOf (m ((c.tc : Thread nD τ).loc main_arg3))) := rfl

/-- A difference of two products of reals, as a sum. -/
theorem join_lo (a b c d : ℝ) : (a : EReal) * b - (c : EReal) * d = ((a * b + c * -d : ℝ) : EReal) := by
  rw [← EReal.coe_mul, ← EReal.coe_mul, ← EReal.coe_sub, mul_neg, sub_eq_add_neg]

/-- A sum of two products of reals, in the other order. -/
theorem join_hi (a b c d : ℝ) : (a : EReal) * b + (c : EReal) * d = ((c * d + a * b : ℝ) : EReal) := by
  rw [← EReal.coe_mul, ← EReal.coe_mul, ← EReal.coe_add, add_comm]

/-- The rotated heads over reals are the rotation of the kernel's lanes. -/
theorem rot_at (x : S16384x256.Idx → ℝ) (cs sn : S4096x32.Idx → ℝ) (b n : Fin 4) (s : Fin 4096) (d : Fin 64) :
    rotOf (co x) (co cs) (co sn) (ix4 b n s d) = ((rotT cs sn x (4096 * b.val + s.val) ⟨64 * n.val + d.val, by omega⟩ : ℝ) : EReal) := by
  pointwise [rotOf, lowOf, highOf, headsOf, overHeads, co_apply]
  have hb := b.isLt
  have hn := n.isLt
  have hs := s.isLt
  have hd := d.isLt
  have e0 : (⟨(4096 * b.val + s.val) % 16384, by omega⟩ : Fin 16384) = ⟨b.val * 4096 + s.val, by omega⟩ := Fin.ext (by simp only []; omega)
  have e1 : (⟨(4096 * b.val + s.val) % 4096, by omega⟩ : Fin 4096) = s := Fin.ext (by simp only []; omega)
  have e2 : (⟨64 * n.val + d.val, by omega⟩ : Fin 256) = ⟨n.val * 64 + d.val, by omega⟩ := Fin.ext (by simp only []; omega)
  split
  · rename_i h
    have e3 : sw ⟨64 * n.val + d.val, by omega⟩ = ⟨n.val * 64 + (32 + d.val), by omega⟩ := by
      unfold sw
      rw [if_pos (by simp only []; omega)]
      exact Fin.ext (by simp only []; omega)
    have e4 : (⟨(64 * n.val + d.val) % 32, by omega⟩ : Fin 32) = ⟨d.val, h⟩ := Fin.ext (by simp only []; omega)
    have e : rotT cs sn x (4096 * b.val + s.val) ⟨64 * n.val + d.val, by omega⟩
        = x (ix2 ⟨b.val * 4096 + s.val, by omega⟩ ⟨n.val * 64 + d.val, by omega⟩) * cs (ix2 s ⟨d.val, h⟩)
          + x (ix2 ⟨b.val * 4096 + s.val, by omega⟩ ⟨n.val * 64 + (32 + d.val), by omega⟩) * -sn (ix2 s ⟨d.val, h⟩) := by
      unfold rotT tabC tabS
      rw [if_pos (by simp only []; omega), e0, e1, e3, e4, e2]
    exact (join_lo _ _ _ _).trans (congrArg _ e.symm)
  · rename_i h
    have e3 : sw ⟨64 * n.val + d.val, by omega⟩ = ⟨n.val * 64 + (d.val - 32), by omega⟩ := by
      unfold sw
      rw [if_neg (by simp only []; omega)]
      exact Fin.ext (by simp only []; omega)
    have e4 : (⟨(64 * n.val + d.val) % 32, by omega⟩ : Fin 32) = ⟨d.val - 32, by omega⟩ := Fin.ext (by simp only []; omega)
    have e5 : (⟨64 * n.val + d.val, by omega⟩ : Fin 256) = ⟨n.val * 64 + (32 + (d.val - 32)), by omega⟩ := Fin.ext (by simp only []; omega)
    have e : rotT cs sn x (4096 * b.val + s.val) ⟨64 * n.val + d.val, by omega⟩
        = x (ix2 ⟨b.val * 4096 + s.val, by omega⟩ ⟨n.val * 64 + (32 + (d.val - 32)), by omega⟩) * cs (ix2 s ⟨d.val - 32, by omega⟩)
          + x (ix2 ⟨b.val * 4096 + s.val, by omega⟩ ⟨n.val * 64 + (d.val - 32), by omega⟩) * sn (ix2 s ⟨d.val - 32, by omega⟩) := by
      unfold rotT tabC tabS
      rw [if_neg (by simp only []; omega), e0, e1, e3, e4, e5]
    exact (join_hi _ _ _ _).trans (congrArg _ e.symm)

/-- The rotated and scaled keys over reals. -/
theorem key_at (x : S16384x256.Idx → ℝ) (cs sn : S4096x32.Idx → ℝ) (b n : Fin 4) (s : Fin 4096) (d : Fin 64) :
    keyOf (co x) (co cs) (co sn) (ix4 b n s d) = ((keys cs sn x b.val n s.val d : ℝ) : EReal) := by
  have e := rot_at x cs sn b n s d
  unfold keyOf
  generalize rotOf (co x) (co cs) (co sn) = R at e ⊢
  pointwise
  rw [e, c8, ← EReal.coe_mul]
  rfl

/-- The values by heads over reals. -/
theorem val_at (v : S16384x512.Idx → ℝ) (b n : Fin 4) (s : Fin 4096) (e : Fin 128) :
    valOf (co v) (ix4 b n s e) = ((vals v b.val n e s.val : ℝ) : EReal) := by
  pointwise [valOf, co_apply]
  have hb := b.isLt
  have hs := s.isLt
  have e0 : (⟨(4096 * b.val + s.val) % 16384, by omega⟩ : Fin 16384) = ⟨b.val * 4096 + s.val, by omega⟩ := Fin.ext (by simp only []; omega)
  have e1 : (⟨128 * n.val + e.val, by omega⟩ : Fin 512) = ⟨n.val * 128 + e.val, by omega⟩ := Fin.ext (by simp only []; omega)
  simp only [vals, e0, e1]

/-- The distance of two tokens is the difference of their positions. -/
theorem dist_at (t s : Fin 4096) : distOf (ix2 t s) = (((t.val : ℝ) - s.val : ℝ) : EReal) := by
  pointwise [distOf]
  rw [pos_coe _ t.isLt, pos_coe _ s.isLt, ← EReal.coe_sub]

/-- The second token is not after the first exactly where the distance is not negative. -/
theorem past_at (t s : Fin 4096) : pastOf (ix2 t s) = if s.val ≤ t.val then 1#1 else 0#1 := by
  have e := dist_at t s
  unfold pastOf
  generalize distOf = D at e ⊢
  pointwise
  rw [e]
  by_cases h : s.val ≤ t.val
  · have h' : (0 : EReal) ≤ (((t.val : ℝ) - s.val : ℝ) : EReal) := by
      rw [← EReal.coe_zero, EReal.coe_le_coe_iff]
      exact sub_nonneg.mpr (Nat.cast_le.mpr h)
    rw [if_pos h, decide_eq_true h']
    rfl
  · have h' : ¬ (0 : EReal) ≤ (((t.val : ℝ) - s.val : ℝ) : EReal) := by
      rw [← EReal.coe_zero, EReal.coe_le_coe_iff]
      exact fun k => h (Nat.cast_le.mp (sub_nonneg.mp k))
    rw [if_neg h, decide_eq_false h']
    rfl

/-- The decay between two tokens over reals. -/
theorem decay_at (g : S2x4.Idx → ℝ) (n : Fin 4) (t s : Fin 4096) :
    decayOf (co g) (ix3 n t s) = ((if s.val ≤ t.val then Real.exp (g (ix2 0 n) * ((t.val : ℝ) - s.val)) else 0 : ℝ) : EReal) := by
  have e := dist_at t s
  have f := past_at t s
  unfold decayOf
  generalize distOf = D at e ⊢
  generalize pastOf = P at f ⊢
  pointwise [co_apply]
  rw [e, f]
  by_cases h : s.val ≤ t.val
  · rw [if_pos h, if_pos h, ← EReal.coe_mul]
    rfl
  · rw [if_neg h, if_neg h]
    rfl

/-- The decayed scores at an entry. -/
theorem score_at (Q K : FVec Ideal S4x4x4096x64 .f32) (D : FVec Ideal S4x4096x4096 .f32) (b n : Fin 4) (t s : Fin 4096) :
    scoreOf Q K D (ix4 b n t s) = (∑ d : Fin 64, Q (ix4 b n t d) * K (ix4 b n s d)) * D (ix3 n t s) := by
  pointwise [scoreOf]

/-- The weighted values at an entry. -/
theorem sum_at (P : FVec Ideal S4x4x4096x4096 .f32) (W : FVec Ideal S4x4x4096x128 .f32) (r : Fin 16384) (l : Fin 512) :
    sumOf P W (ix2 r l) = ∑ s : Fin 4096, P (ix4 ⟨r.val / 4096, by omega⟩ ⟨l.val / 128, by omega⟩ ⟨r.val % 4096, by omega⟩ s)
      * W (ix4 ⟨r.val / 4096, by omega⟩ ⟨l.val / 128, by omega⟩ s ⟨l.val % 128, by omega⟩) := by
  pointwise [sumOf]

/-- The decayed scores over reals. -/
theorem score_real (g : S2x4.Idx → ℝ) (xq xk : S16384x256.Idx → ℝ) (cs sn : S4096x32.Idx → ℝ) (b n : Fin 4) (t s : Fin 4096) :
    scoreOf (rotOf (co xq) (co cs) (co sn)) (keyOf (co xk) (co cs) (co sn)) (decayOf (co g)) (ix4 b n t s)
      = (((∑ d : Fin 64, rotT cs sn xq (4096 * b.val + t.val) ⟨64 * n.val + d.val, by omega⟩ * keys cs sn xk b.val n s.val d)
          * (if s.val ≤ t.val then Real.exp (g (ix2 0 n) * ((t.val : ℝ) - s.val)) else 0) : ℝ) : EReal) := by
  rw [score_at, decay_at, EReal.coe_mul, coe_sum]
  congr 1
  refine Finset.sum_congr rfl fun d _ => ?_
  rw [rot_at, key_at, EReal.coe_mul]

/-- An entry of the reference over reals is the decayed sum over the tokens before it. -/
theorem entry (g : S2x4.Idx → ℝ) (xq xk : S16384x256.Idx → ℝ) (v : S16384x512.Idx → ℝ) (cs sn : S4096x32.Idx → ℝ) (r : Fin 16384) (l : Fin 512) :
    sumOf (scoreOf (rotOf (co xq) (co cs) (co sn)) (keyOf (co xk) (co cs) (co sn)) (decayOf (co g))) (valOf (co v)) (ix2 r l)
      = ((retAt g xq xk v cs sn r.val ⟨l.val / 128, by omega⟩ ⟨l.val % 128, by omega⟩ : ℝ) : EReal) := by
  rw [sum_at]
  unfold retAt outR
  rw [Finset.sum_range, coe_sum]
  refine Finset.sum_congr rfl fun s _ => ?_
  rw [score_real, val_at, ← EReal.coe_mul]
  congr 1
  have er : 4096 * (r.val / 4096) + r.val % 4096 = r.val := by omega
  simp only [er]
  split
  · rfl
  · rw [mul_zero, zero_mul]

/-- Over finite arguments the reference's result is the retention of the arguments. -/
theorem result_eq (c : Dev nD) (g : S2x4.Idx → ℝ) (xq xk : S16384x256.Idx → ℝ) (v : S16384x512.Idx → ℝ) (cs sn : S4096x32.Idx → ℝ)
    (h0 : m ((c.tc : Thread nD τ).loc main_arg0) = co g) (h1 : m ((c.tc : Thread nD τ).loc main_arg1) = co xq)
    (h2 : m ((c.tc : Thread nD τ).loc main_arg2) = co xk) (h3 : m ((c.tc : Thread nD τ).loc main_arg3) = co v)
    (h4 : m ((c.tc : Thread nD τ).loc main_arg4) = co cs) (h5 : m ((c.tc : Thread nD τ).loc main_arg5) = co sn) :
    Value.res_main_v67 m c = co (retOf g xq xk v cs sn) := by
  rw [res_stages, h0, h1, h2, h3, h4, h5]
  funext i
  rw [eq_ix2 (n0 := 16384) (n1 := 512) i]
  exact entry g xq xk v cs sn (i 0) (i 1)

end Cert.Reference5Ideal.Ret

end
-- ==== Proof.RetClaim.lean ====
/- The forward retention programs: their frames, and the equation of the kernel with its reference over finite arguments. -/
module

public import proofs.«01_k».proof.Defs
public import proofs.«01_k».proof.Proof.Gen.Kernel5
public import proofs.«01_k».proof.Proof.Gen.Kernel5.Frame
public import proofs.«01_k».proof.Proof.Gen.Reference5Ideal
public import proofs.«01_k».proof.Proof.Gen.Reference5Ideal.Run
public import proofs.«01_k».proof.Proof.RetPre
public import proofs.«01_k».proof.Proof.RetRef
public import Idealize.ShloMosaic.Lib.Claim

@[expose] public section

set_option maxRecDepth 16384

noncomputable section

open Idealize.ShloMosaic Idealize.ShloMosaic.TcCoe Idealize.SL.Sem

namespace Cert.Retention

/-- The reference runs, leaves its arguments alone and ends with every counter at zero. -/
theorem reference_frame : Cert.quiescent_Reference5Ideal := by
  intro m g _
  hlo_run
  · exact fun _ => by simp
  · funext i
    obtain ⟨_, s | s⟩ := i <;> exact Fin.elim0 s

/-- The kernel's array is the reference's, for equal and finite arguments. -/
theorem kernel_eq_reference : Cert.algebraic_Kernel5Ideal_Reference5Ideal_pre_all_finite := by
  pair_intro
  · run_from Cert.Kernel5Ideal.Gen.run_main m g
  · run_from Cert.Reference5Ideal.Value.run m' g'
    obtain ⟨p0, p1, p2, p3, p4, p5⟩ := hpre c
    obtain ⟨⟨g, h0⟩, ⟨xq, h1⟩, ⟨xk, h2⟩, ⟨v, h3⟩, ⟨cs, h4⟩, ⟨sn, h5⟩⟩ := args_real _ _ _ _ _ _ p0 p1 p2 p3 p4 p5
    obtain ⟨a0, a1, a2, a3, a4, a5⟩ := hagree c
    exact (Cert.Reference5Ideal.Ret.result_eq m' c g xq xk v cs sn (a0.trans h0) (a1.trans h1) (a2.trans h2) (a3.trans h3)
      (a4.trans h4) (a5.trans h5)).trans (Cert.Kernel5Ideal.Ret.ret_final m c g xq xk v cs sn h0 h1 h2 h3 h4 h5).symm

end Cert.Retention

end
-- ==== Proof.lean ====
/- The certificate assembled: frames, preservation and the value equations of the attention, projection, merge, pooling and forward retention kernels. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.NattenClaim
public import proofs.«01_k».proof.Proof.InprojClaim
public import proofs.«01_k».proof.Proof.MergeClaim
public import proofs.«01_k».proof.Proof.PoolClaim
public import proofs.«01_k».proof.Proof.RetClaim
public import Idealize.ShloMosaic.Adequacy
public import Idealize.ShloMosaic.Init

@[expose] public section

noncomputable section

namespace Cert.Proof

open Idealize.ShloMosaic Idealize.SL.Sem Cert.Kernel

/-- Every frame, every preservation, and the five kernels equal to their references. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Retention.facts,
    fun m ρ _ => Cert.Kernel.Gen.frame m ρ, fun m ρ _ => Cert.KernelIdeal.Gen.frame m ρ, Cert.Attention.reference_frame,
    fun m ρ _ => Cert.Kernel2.Gen.frame m ρ, fun m ρ _ => Cert.Kernel2Ideal.Gen.frame m ρ, Cert.Projection.reference_frame,
    fun m ρ _ => Cert.Kernel3.Gen.frame m ρ, fun m ρ _ => Cert.Kernel3Ideal.Gen.frame m ρ, Cert.MergeStep.reference_frame,
    fun m ρ _ => Cert.Kernel4.Gen.frame m ρ, fun m ρ _ => Cert.Kernel4Ideal.Gen.frame m ρ, Cert.Pooling.reference_frame,
    fun m ρ _ => Cert.Kernel5.Gen.frame m ρ, fun m ρ _ => Cert.Kernel5Ideal.Gen.frame m ρ,
    fun m ρ _ => Cert.Kernel5Ideal.Gen.frame m ρ, Cert.Retention.reference_frame,
    fun m ρ _ => Cert.Retention.reference_frame m ρ trivial,
    trivial, Cert.Attention.kernel_eq_reference, trivial, Cert.Projection.kernel_eq_reference, trivial,
    Cert.MergeStep.kernel_eq_reference, trivial, Cert.Pooling.kernel_eq_reference,
    trivial, Cert.Retention.kernel_eq_reference⟩

end Cert.Proof

end
